-- ==== Defs.lean ====
def Pre_Vis (m : (ℓ : Loc Cert.Vis.nD Cert.Vis.τ Cert.Vis.sig) → Buf (Elt Bits) ℓ) : Prop :=
  True

def Pre_VisIdeal (m : (ℓ : Loc Cert.VisIdeal.nD Cert.VisIdeal.τ Cert.VisIdeal.sig) → Buf (Elt Ideal) ℓ) : Prop :=
  True

def Pre_VisRefIdeal (m : (ℓ : Loc Cert.VisRefIdeal.nD Cert.VisRefIdeal.τ Cert.VisRefIdeal.sig) → Buf (Elt Ideal) ℓ) : Prop :=
  True

def Pre_AsmIdeal [hPre_text_tokens_in_table : Cert.Pre_text_tokens_in_table.Facts] (m : (ℓ : Loc Cert.AsmIdeal.nD Cert.AsmIdeal.τ Cert.AsmIdeal.sig) → Buf (Elt Ideal) ℓ) : Prop :=
  ∀ c : Dev Cert.AsmIdeal.nD,
    (Cert.Pre_text_tokens_in_table.fn (F := Ideal) (m ((c.tc : Thread Cert.AsmIdeal.nD Cert.AsmIdeal.τ).loc Cert.AsmIdeal.main_arg0)) (m ((c.tc : Thread Cert.AsmIdeal.nD Cert.AsmIdeal.τ).loc Cert.AsmIdeal.main_arg1)) (m ((c.tc : Thread Cert.AsmIdeal.nD Cert.AsmIdeal.τ).loc Cert.AsmIdeal.main_arg2)) (m ((c.tc : Thread Cert.AsmIdeal.nD Cert.AsmIdeal.τ).loc Cert.AsmIdeal.main_arg3)) (m ((c.tc : Thread Cert.AsmIdeal.nD Cert.AsmIdeal.τ).loc Cert.AsmIdeal.main_arg4)) (m ((c.tc : Thread Cert.AsmIdeal.nD Cert.AsmIdeal.τ).loc Cert.AsmIdeal.main_arg5))) = (fun _ => 1#1)

def Pre_Asm [hPre_text_tokens_in_table : Cert.Pre_text_tokens_in_table.Facts] (m : (ℓ : Loc Cert.Asm.nD Cert.Asm.τ Cert.Asm.sig) → Buf (Elt Bits) ℓ) : Prop :=
  ∀ c : Dev Cert.Asm.nD,
    (Cert.Pre_text_tokens_in_table.fn (F := Bits) (m ((c.tc : Thread Cert.Asm.nD Cert.Asm.τ).loc Cert.Asm.main_arg0)) (m ((c.tc : Thread Cert.Asm.nD Cert.Asm.τ).loc Cert.Asm.main_arg1)) (m ((c.tc : Thread Cert.Asm.nD Cert.Asm.τ).loc Cert.Asm.main_arg2)) (m ((c.tc : Thread Cert.Asm.nD Cert.Asm.τ).loc Cert.Asm.main_arg3)) (m ((c.tc : Thread Cert.Asm.nD Cert.Asm.τ).loc Cert.Asm.main_arg4)) (m ((c.tc : Thread Cert.Asm.nD Cert.Asm.τ).loc Cert.Asm.main_arg5))) = (fun _ => 1#1)

def quiescent_Vis [hVis : Cert.Vis.Facts] : Prop :=
  ∀ (m : (ℓ : Loc Cert.Vis.nD Cert.Vis.τ Cert.Vis.sig) → Buf (Elt Bits) ℓ) (g : Dev Cert.Vis.nD → PrngReg), Pre_Vis m →
    θ_run (Cert.Vis.defs (F := Bits)) (onTc (τ := Cert.Vis.τ) (Cert.Vis.main (F := Bits))) ⟨m, fun _ => 0, g⟩ (fun r => (∀ c : Dev Cert.Vis.nD,
      r.2.mem ((c.tc : Thread Cert.Vis.nD Cert.Vis.τ).loc Cert.Vis.main_arg0) = m ((c.tc : Thread Cert.Vis.nD Cert.Vis.τ).loc Cert.Vis.main_arg0)
      ∧ r.2.mem ((c.tc : Thread Cert.Vis.nD Cert.Vis.τ).loc Cert.Vis.main_arg1) = m ((c.tc : Thread Cert.Vis.nD Cert.Vis.τ).loc Cert.Vis.main_arg1)
      ∧ r.2.mem ((c.tc : Thread Cert.Vis.nD Cert.Vis.τ).loc Cert.Vis.main_arg2) = m ((c.tc : Thread Cert.Vis.nD Cert.Vis.τ).loc Cert.Vis.main_arg2)
      ∧ r.2.mem ((c.tc : Thread Cert.Vis.nD Cert.Vis.τ).loc Cert.Vis.main_arg3) = m ((c.tc : Thread Cert.Vis.nD Cert.Vis.τ).loc Cert.Vis.main_arg3)
      ∧ r.2.mem ((c.tc : Thread Cert.Vis.nD Cert.Vis.τ).loc Cert.Vis.main_arg4) = m ((c.tc : Thread Cert.Vis.nD Cert.Vis.τ).loc Cert.Vis.main_arg4)
      ∧ r.2.mem ((c.tc : Thread Cert.Vis.nD Cert.Vis.τ).loc Cert.Vis.main_arg5) = m ((c.tc : Thread Cert.Vis.nD Cert.Vis.τ).loc Cert.Vis.main_arg5)
      ∧ r.2.mem ((c.tc : Thread Cert.Vis.nD Cert.Vis.τ).loc Cert.Vis.main_arg6) = m ((c.tc : Thread Cert.Vis.nD Cert.Vis.τ).loc Cert.Vis.main_arg6)
      ∧ r.2.mem ((c.tc : Thread Cert.Vis.nD Cert.Vis.τ).loc Cert.Vis.main_arg7) = m ((c.tc : Thread Cert.Vis.nD Cert.Vis.τ).loc Cert.Vis.main_arg7)
      ∧ r.2.mem ((c.tc : Thread Cert.Vis.nD Cert.Vis.τ).loc Cert.Vis.main_arg8) = m ((c.tc : Thread Cert.Vis.nD Cert.Vis.τ).loc Cert.Vis.main_arg8)
      ∧ r.2.mem ((c.tc : Thread Cert.Vis.nD Cert.Vis.τ).loc Cert.Vis.main_arg9) = m ((c.tc : Thread Cert.Vis.nD Cert.Vis.τ).loc Cert.Vis.main_arg9)
      ∧ r.2.mem ((c.tc : Thread Cert.Vis.nD Cert.Vis.τ).loc Cert.Vis.main_arg10) = m ((c.tc : Thread Cert.Vis.nD Cert.Vis.τ).loc Cert.Vis.main_arg10))
      ∧ r.2.sem = fun _ => 0)

def quiescent_VisIdeal [hVisIdeal : Cert.VisIdeal.Facts] : Prop :=
  ∀ (m : (ℓ : Loc Cert.VisIdeal.nD Cert.VisIdeal.τ Cert.VisIdeal.sig) → Buf (Elt Ideal) ℓ) (g : Dev Cert.VisIdeal.nD → PrngReg), Pre_VisIdeal m →
    θ_run (Cert.VisIdeal.defs (F := Ideal)) (onTc (τ := Cert.VisIdeal.τ) (Cert.VisIdeal.main (F := Ideal))) ⟨m, fun _ => 0, g⟩ (fun r => (∀ c : Dev Cert.VisIdeal.nD,
      r.2.mem ((c.tc : Thread Cert.VisIdeal.nD Cert.VisIdeal.τ).loc Cert.VisIdeal.main_arg0) = m ((c.tc : Thread Cert.VisIdeal.nD Cert.VisIdeal.τ).loc Cert.VisIdeal.main_arg0)
      ∧ r.2.mem ((c.tc : Thread Cert.VisIdeal.nD Cert.VisIdeal.τ).loc Cert.VisIdeal.main_arg1) = m ((c.tc : Thread Cert.VisIdeal.nD Cert.VisIdeal.τ).loc Cert.VisIdeal.main_arg1)
      ∧ r.2.mem ((c.tc : Thread Cert.VisIdeal.nD Cert.VisIdeal.τ).loc Cert.VisIdeal.main_arg2) = m ((c.tc : Thread Cert.VisIdeal.nD Cert.VisIdeal.τ).loc Cert.VisIdeal.main_arg2)
      ∧ r.2.mem ((c.tc : Thread Cert.VisIdeal.nD Cert.VisIdeal.τ).loc Cert.VisIdeal.main_arg3) = m ((c.tc : Thread Cert.VisIdeal.nD Cert.VisIdeal.τ).loc Cert.VisIdeal.main_arg3)
      ∧ r.2.mem ((c.tc : Thread Cert.VisIdeal.nD Cert.VisIdeal.τ).loc Cert.VisIdeal.main_arg4) = m ((c.tc : Thread Cert.VisIdeal.nD Cert.VisIdeal.τ).loc Cert.VisIdeal.main_arg4)
      ∧ r.2.mem ((c.tc : Thread Cert.VisIdeal.nD Cert.VisIdeal.τ).loc Cert.VisIdeal.main_arg5) = m ((c.tc : Thread Cert.VisIdeal.nD Cert.VisIdeal.τ).loc Cert.VisIdeal.main_arg5)
      ∧ r.2.mem ((c.tc : Thread Cert.VisIdeal.nD Cert.VisIdeal.τ).loc Cert.VisIdeal.main_arg6) = m ((c.tc : Thread Cert.VisIdeal.nD Cert.VisIdeal.τ).loc Cert.VisIdeal.main_arg6)
      ∧ r.2.mem ((c.tc : Thread Cert.VisIdeal.nD Cert.VisIdeal.τ).loc Cert.VisIdeal.main_arg7) = m ((c.tc : Thread Cert.VisIdeal.nD Cert.VisIdeal.τ).loc Cert.VisIdeal.main_arg7)
      ∧ r.2.mem ((c.tc : Thread Cert.VisIdeal.nD Cert.VisIdeal.τ).loc Cert.VisIdeal.main_arg8) = m ((c.tc : Thread Cert.VisIdeal.nD Cert.VisIdeal.τ).loc Cert.VisIdeal.main_arg8)
      ∧ r.2.mem ((c.tc : Thread Cert.VisIdeal.nD Cert.VisIdeal.τ).loc Cert.VisIdeal.main_arg9) = m ((c.tc : Thread Cert.VisIdeal.nD Cert.VisIdeal.τ).loc Cert.VisIdeal.main_arg9)
      ∧ r.2.mem ((c.tc : Thread Cert.VisIdeal.nD Cert.VisIdeal.τ).loc Cert.VisIdeal.main_arg10) = m ((c.tc : Thread Cert.VisIdeal.nD Cert.VisIdeal.τ).loc Cert.VisIdeal.main_arg10))
      ∧ r.2.sem = fun _ => 0)

def quiescent_VisRefIdeal [hVisRefIdeal : Cert.VisRefIdeal.Facts] : Prop :=
  ∀ (m : (ℓ : Loc Cert.VisRefIdeal.nD Cert.VisRefIdeal.τ Cert.VisRefIdeal.sig) → Buf (Elt Ideal) ℓ) (g : Dev Cert.VisRefIdeal.nD → PrngReg), Pre_VisRefIdeal m →
    θ_run (Cert.VisRefIdeal.defs (F := Ideal)) (onTc (τ := Cert.VisRefIdeal.τ) (Cert.VisRefIdeal.main (F := Ideal))) ⟨m, fun _ => 0, g⟩ (fun r => (∀ c : Dev Cert.VisRefIdeal.nD,
      r.2.mem ((c.tc : Thread Cert.VisRefIdeal.nD Cert.VisRefIdeal.τ).loc Cert.VisRefIdeal.main_arg0) = m ((c.tc : Thread Cert.VisRefIdeal.nD Cert.VisRefIdeal.τ).loc Cert.VisRefIdeal.main_arg0)
      ∧ r.2.mem ((c.tc : Thread Cert.VisRefIdeal.nD Cert.VisRefIdeal.τ).loc Cert.VisRefIdeal.main_arg1) = m ((c.tc : Thread Cert.VisRefIdeal.nD Cert.VisRefIdeal.τ).loc Cert.VisRefIdeal.main_arg1)
      ∧ r.2.mem ((c.tc : Thread Cert.VisRefIdeal.nD Cert.VisRefIdeal.τ).loc Cert.VisRefIdeal.main_arg2) = m ((c.tc : Thread Cert.VisRefIdeal.nD Cert.VisRefIdeal.τ).loc Cert.VisRefIdeal.main_arg2)
      ∧ r.2.mem ((c.tc : Thread Cert.VisRefIdeal.nD Cert.VisRefIdeal.τ).loc Cert.VisRefIdeal.main_arg3) = m ((c.tc : Thread Cert.VisRefIdeal.nD Cert.VisRefIdeal.τ).loc Cert.VisRefIdeal.main_arg3)
      ∧ r.2.mem ((c.tc : Thread Cert.VisRefIdeal.nD Cert.VisRefIdeal.τ).loc Cert.VisRefIdeal.main_arg4) = m ((c.tc : Thread Cert.VisRefIdeal.nD Cert.VisRefIdeal.τ).loc Cert.VisRefIdeal.main_arg4)
      ∧ r.2.mem ((c.tc : Thread Cert.VisRefIdeal.nD Cert.VisRefIdeal.τ).loc Cert.VisRefIdeal.main_arg5) = m ((c.tc : Thread Cert.VisRefIdeal.nD Cert.VisRefIdeal.τ).loc Cert.VisRefIdeal.main_arg5)
      ∧ r.2.mem ((c.tc : Thread Cert.VisRefIdeal.nD Cert.VisRefIdeal.τ).loc Cert.VisRefIdeal.main_arg6) = m ((c.tc : Thread Cert.VisRefIdeal.nD Cert.VisRefIdeal.τ).loc Cert.VisRefIdeal.main_arg6)
      ∧ r.2.mem ((c.tc : Thread Cert.VisRefIdeal.nD Cert.VisRefIdeal.τ).loc Cert.VisRefIdeal.main_arg7) = m ((c.tc : Thread Cert.VisRefIdeal.nD Cert.VisRefIdeal.τ).loc Cert.VisRefIdeal.main_arg7)
      ∧ r.2.mem ((c.tc : Thread Cert.VisRefIdeal.nD Cert.VisRefIdeal.τ).loc Cert.VisRefIdeal.main_arg8) = m ((c.tc : Thread Cert.VisRefIdeal.nD Cert.VisRefIdeal.τ).loc Cert.VisRefIdeal.main_arg8)
      ∧ r.2.mem ((c.tc : Thread Cert.VisRefIdeal.nD Cert.VisRefIdeal.τ).loc Cert.VisRefIdeal.main_arg9) = m ((c.tc : Thread Cert.VisRefIdeal.nD Cert.VisRefIdeal.τ).loc Cert.VisRefIdeal.main_arg9)
      ∧ r.2.mem ((c.tc : Thread Cert.VisRefIdeal.nD Cert.VisRefIdeal.τ).loc Cert.VisRefIdeal.main_arg10) = m ((c.tc : Thread Cert.VisRefIdeal.nD Cert.VisRefIdeal.τ).loc Cert.VisRefIdeal.main_arg10))
      ∧ r.2.sem = fun _ => 0)

def quiescent_AsmIdeal [hAsmIdeal : Cert.AsmIdeal.Facts] [hPre_text_tokens_in_table : Cert.Pre_text_tokens_in_table.Facts] : Prop :=
  ∀ (m : (ℓ : Loc Cert.AsmIdeal.nD Cert.AsmIdeal.τ Cert.AsmIdeal.sig) → Buf (Elt Ideal) ℓ) (g : Dev Cert.AsmIdeal.nD → PrngReg), Pre_AsmIdeal m →
    θ_run (Cert.AsmIdeal.defs (F := Ideal)) (onTc (τ := Cert.AsmIdeal.τ) (Cert.AsmIdeal.main (F := Ideal))) ⟨m, fun _ => 0, g⟩ (fun r => (∀ c : Dev Cert.AsmIdeal.nD,
      r.2.mem ((c.tc : Thread Cert.AsmIdeal.nD Cert.AsmIdeal.τ).loc Cert.AsmIdeal.main_arg0) = m ((c.tc : Thread Cert.AsmIdeal.nD Cert.AsmIdeal.τ).loc Cert.AsmIdeal.main_arg0)
      ∧ r.2.mem ((c.tc : Thread Cert.AsmIdeal.nD Cert.AsmIdeal.τ).loc Cert.AsmIdeal.main_arg1) = m ((c.tc : Thread Cert.AsmIdeal.nD Cert.AsmIdeal.τ).loc Cert.AsmIdeal.main_arg1)
      ∧ r.2.mem ((c.tc : Thread Cert.AsmIdeal.nD Cert.AsmIdeal.τ).loc Cert.AsmIdeal.main_arg2) = m ((c.tc : Thread Cert.AsmIdeal.nD Cert.AsmIdeal.τ).loc Cert.AsmIdeal.main_arg2)
      ∧ r.2.mem ((c.tc : Thread Cert.AsmIdeal.nD Cert.AsmIdeal.τ).loc Cert.AsmIdeal.main_arg3) = m ((c.tc : Thread Cert.AsmIdeal.nD Cert.AsmIdeal.τ).loc Cert.AsmIdeal.main_arg3)
      ∧ r.2.mem ((c.tc : Thread Cert.AsmIdeal.nD Cert.AsmIdeal.τ).loc Cert.AsmIdeal.main_arg4) = m ((c.tc : Thread Cert.AsmIdeal.nD Cert.AsmIdeal.τ).loc Cert.AsmIdeal.main_arg4)
      ∧ r.2.mem ((c.tc : Thread Cert.AsmIdeal.nD Cert.AsmIdeal.τ).loc Cert.AsmIdeal.main_arg5) = m ((c.tc : Thread Cert.AsmIdeal.nD Cert.AsmIdeal.τ).loc Cert.AsmIdeal.main_arg5))
      ∧ r.2.sem = fun _ => 0)

def quiescent_Asm [hAsm : Cert.Asm.Facts] [hPre_text_tokens_in_table : Cert.Pre_text_tokens_in_table.Facts] : Prop :=
  ∀ (m : (ℓ : Loc Cert.Asm.nD Cert.Asm.τ Cert.Asm.sig) → Buf (Elt Bits) ℓ) (g : Dev Cert.Asm.nD → PrngReg), Pre_Asm m →
    θ_run (Cert.Asm.defs (F := Bits)) (onTc (τ := Cert.Asm.τ) (Cert.Asm.main (F := Bits))) ⟨m, fun _ => 0, g⟩ (fun r => (∀ c : Dev Cert.Asm.nD,
      r.2.mem ((c.tc : Thread Cert.Asm.nD Cert.Asm.τ).loc Cert.Asm.main_arg0) = m ((c.tc : Thread Cert.Asm.nD Cert.Asm.τ).loc Cert.Asm.main_arg0)
      ∧ r.2.mem ((c.tc : Thread Cert.Asm.nD Cert.Asm.τ).loc Cert.Asm.main_arg1) = m ((c.tc : Thread Cert.Asm.nD Cert.Asm.τ).loc Cert.Asm.main_arg1)
      ∧ r.2.mem ((c.tc : Thread Cert.Asm.nD Cert.Asm.τ).loc Cert.Asm.main_arg2) = m ((c.tc : Thread Cert.Asm.nD Cert.Asm.τ).loc Cert.Asm.main_arg2)
      ∧ r.2.mem ((c.tc : Thread Cert.Asm.nD Cert.Asm.τ).loc Cert.Asm.main_arg3) = m ((c.tc : Thread Cert.Asm.nD Cert.Asm.τ).loc Cert.Asm.main_arg3)
      ∧ r.2.mem ((c.tc : Thread Cert.Asm.nD Cert.Asm.τ).loc Cert.Asm.main_arg4) = m ((c.tc : Thread Cert.Asm.nD Cert.Asm.τ).loc Cert.Asm.main_arg4)
      ∧ r.2.mem ((c.tc : Thread Cert.Asm.nD Cert.Asm.τ).loc Cert.Asm.main_arg5) = m ((c.tc : Thread Cert.Asm.nD Cert.Asm.τ).loc Cert.Asm.main_arg5))
      ∧ r.2.sem = fun _ => 0)

def preserves_Vis_VisIdeal : Prop :=
  IdealRules.bf16_pair.Statement Cert.VisIdeal.S64x3200 Cert.VisIdeal.S32x3200
  ∧ IdealRules.named_const.Statement Cert.VisIdeal.κ "inv_k1" .f32 0x38A3D70A#32 ((1 / 12800 : ℝ) : EReal)

def algebraic_VisIdeal_VisRefIdeal [hVisIdeal : Cert.VisIdeal.Facts] [hVisRefIdeal : Cert.VisRefIdeal.Facts] : Prop :=
  ∀ (m : (ℓ : Loc Cert.VisIdeal.nD Cert.VisIdeal.τ Cert.VisIdeal.sig) → Buf (Elt Ideal) ℓ) (g : Dev Cert.VisIdeal.nD → PrngReg)
    (m' : (ℓ : Loc Cert.VisRefIdeal.nD Cert.VisRefIdeal.τ Cert.VisRefIdeal.sig) → Buf (Elt Ideal) ℓ) (g' : Dev Cert.VisRefIdeal.nD → PrngReg), Pre_VisIdeal m →
    (∀ c : Dev Cert.VisIdeal.nD,
      m' ((c.tc : Thread Cert.VisRefIdeal.nD Cert.VisRefIdeal.τ).loc Cert.VisRefIdeal.main_arg0) = m ((c.tc : Thread Cert.VisIdeal.nD Cert.VisIdeal.τ).loc Cert.VisIdeal.main_arg0)
      ∧ m' ((c.tc : Thread Cert.VisRefIdeal.nD Cert.VisRefIdeal.τ).loc Cert.VisRefIdeal.main_arg1) = m ((c.tc : Thread Cert.VisIdeal.nD Cert.VisIdeal.τ).loc Cert.VisIdeal.main_arg1)
      ∧ m' ((c.tc : Thread Cert.VisRefIdeal.nD Cert.VisRefIdeal.τ).loc Cert.VisRefIdeal.main_arg2) = m ((c.tc : Thread Cert.VisIdeal.nD Cert.VisIdeal.τ).loc Cert.VisIdeal.main_arg2)
      ∧ m' ((c.tc : Thread Cert.VisRefIdeal.nD Cert.VisRefIdeal.τ).loc Cert.VisRefIdeal.main_arg3) = m ((c.tc : Thread Cert.VisIdeal.nD Cert.VisIdeal.τ).loc Cert.VisIdeal.main_arg3)
      ∧ m' ((c.tc : Thread Cert.VisRefIdeal.nD Cert.VisRefIdeal.τ).loc Cert.VisRefIdeal.main_arg4) = m ((c.tc : Thread Cert.VisIdeal.nD Cert.VisIdeal.τ).loc Cert.VisIdeal.main_arg4)
      ∧ m' ((c.tc : Thread Cert.VisRefIdeal.nD Cert.VisRefIdeal.τ).loc Cert.VisRefIdeal.main_arg5) = m ((c.tc : Thread Cert.VisIdeal.nD Cert.VisIdeal.τ).loc Cert.VisIdeal.main_arg5)
      ∧ m' ((c.tc : Thread Cert.VisRefIdeal.nD Cert.VisRefIdeal.τ).loc Cert.VisRefIdeal.main_arg6) = m ((c.tc : Thread Cert.VisIdeal.nD Cert.VisIdeal.τ).loc Cert.VisIdeal.main_arg6)
      ∧ m' ((c.tc : Thread Cert.VisRefIdeal.nD Cert.VisRefIdeal.τ).loc Cert.VisRefIdeal.main_arg7) = m ((c.tc : Thread Cert.VisIdeal.nD Cert.VisIdeal.τ).loc Cert.VisIdeal.main_arg7)
      ∧ m' ((c.tc : Thread Cert.VisRefIdeal.nD Cert.VisRefIdeal.τ).loc Cert.VisRefIdeal.main_arg8) = m ((c.tc : Thread Cert.VisIdeal.nD Cert.VisIdeal.τ).loc Cert.VisIdeal.main_arg8)
      ∧ m' ((c.tc : Thread Cert.VisRefIdeal.nD Cert.VisRefIdeal.τ).loc Cert.VisRefIdeal.main_arg9) = m ((c.tc : Thread Cert.VisIdeal.nD Cert.VisIdeal.τ).loc Cert.VisIdeal.main_arg9)
      ∧ m' ((c.tc : Thread Cert.VisRefIdeal.nD Cert.VisRefIdeal.τ).loc Cert.VisRefIdeal.main_arg10) = m ((c.tc : Thread Cert.VisIdeal.nD Cert.VisIdeal.τ).loc Cert.VisIdeal.main_arg10)) →
    ∃ (v0 : (c : Dev Cert.VisIdeal.nD) → Buf (Elt Ideal) ((c.tc : Thread Cert.VisIdeal.nD Cert.VisIdeal.τ).loc Cert.VisIdeal.main_v9)),
      θ_run (Cert.VisIdeal.defs (F := Ideal)) (onTc (τ := Cert.VisIdeal.τ) (Cert.VisIdeal.main (F := Ideal))) ⟨m, fun _ => 0, g⟩ (fun r => ∀ c : Dev Cert.VisIdeal.nD,
          r.2.mem ((c.tc : Thread Cert.VisIdeal.nD Cert.VisIdeal.τ).loc Cert.VisIdeal.main_v9) = v0 c
          ∧ r.2.mem ((c.tc : Thread Cert.VisIdeal.nD Cert.VisIdeal.τ).loc Cert.VisIdeal.main_arg0) = m ((c.tc : Thread Cert.VisIdeal.nD Cert.VisIdeal.τ).loc Cert.VisIdeal.main_arg0)
          ∧ r.2.mem ((c.tc : Thread Cert.VisIdeal.nD Cert.VisIdeal.τ).loc Cert.VisIdeal.main_arg1) = m ((c.tc : Thread Cert.VisIdeal.nD Cert.VisIdeal.τ).loc Cert.VisIdeal.main_arg1)
          ∧ r.2.mem ((c.tc : Thread Cert.VisIdeal.nD Cert.VisIdeal.τ).loc Cert.VisIdeal.main_arg2) = m ((c.tc : Thread Cert.VisIdeal.nD Cert.VisIdeal.τ).loc Cert.VisIdeal.main_arg2)
          ∧ r.2.mem ((c.tc : Thread Cert.VisIdeal.nD Cert.VisIdeal.τ).loc Cert.VisIdeal.main_arg3) = m ((c.tc : Thread Cert.VisIdeal.nD Cert.VisIdeal.τ).loc Cert.VisIdeal.main_arg3)
          ∧ r.2.mem ((c.tc : Thread Cert.VisIdeal.nD Cert.VisIdeal.τ).loc Cert.VisIdeal.main_arg4) = m ((c.tc : Thread Cert.VisIdeal.nD Cert.VisIdeal.τ).loc Cert.VisIdeal.main_arg4)
          ∧ r.2.mem ((c.tc : Thread Cert.VisIdeal.nD Cert.VisIdeal.τ).loc Cert.VisIdeal.main_arg5) = m ((c.tc : Thread Cert.VisIdeal.nD Cert.VisIdeal.τ).loc Cert.VisIdeal.main_arg5)
          ∧ r.2.mem ((c.tc : Thread Cert.VisIdeal.nD Cert.VisIdeal.τ).loc Cert.VisIdeal.main_arg6) = m ((c.tc : Thread Cert.VisIdeal.nD Cert.VisIdeal.τ).loc Cert.VisIdeal.main_arg6)
          ∧ r.2.mem ((c.tc : Thread Cert.VisIdeal.nD Cert.VisIdeal.τ).loc Cert.VisIdeal.main_arg7) = m ((c.tc : Thread Cert.VisIdeal.nD Cert.VisIdeal.τ).loc Cert.VisIdeal.main_arg7)
          ∧ r.2.mem ((c.tc : Thread Cert.VisIdeal.nD Cert.VisIdeal.τ).loc Cert.VisIdeal.main_arg8) = m ((c.tc : Thread Cert.VisIdeal.nD Cert.VisIdeal.τ).loc Cert.VisIdeal.main_arg8)
          ∧ r.2.mem ((c.tc : Thread Cert.VisIdeal.nD Cert.VisIdeal.τ).loc Cert.VisIdeal.main_arg9) = m ((c.tc : Thread Cert.VisIdeal.nD Cert.VisIdeal.τ).loc Cert.VisIdeal.main_arg9)
          ∧ r.2.mem ((c.tc : Thread Cert.VisIdeal.nD Cert.VisIdeal.τ).loc Cert.VisIdeal.main_arg10) = m ((c.tc : Thread Cert.VisIdeal.nD Cert.VisIdeal.τ).loc Cert.VisIdeal.main_arg10))
      ∧ θ_run (Cert.VisRefIdeal.defs (F := Ideal)) (onTc (τ := Cert.VisRefIdeal.τ) (Cert.VisRefIdeal.main (F := Ideal))) ⟨m', fun _ => 0, g'⟩ (fun r => ∀ c : Dev Cert.VisRefIdeal.nD,
          r.2.mem ((c.tc : Thread Cert.VisRefIdeal.nD Cert.VisRefIdeal.τ).loc Cert.VisRefIdeal.main_v233) = v0 c
          ∧ r.2.mem ((c.tc : Thread Cert.VisRefIdeal.nD Cert.VisRefIdeal.τ).loc Cert.VisRefIdeal.main_arg0) = m' ((c.tc : Thread Cert.VisRefIdeal.nD Cert.VisRefIdeal.τ).loc Cert.VisRefIdeal.main_arg0)
          ∧ r.2.mem ((c.tc : Thread Cert.VisRefIdeal.nD Cert.VisRefIdeal.τ).loc Cert.VisRefIdeal.main_arg1) = m' ((c.tc : Thread Cert.VisRefIdeal.nD Cert.VisRefIdeal.τ).loc Cert.VisRefIdeal.main_arg1)
          ∧ r.2.mem ((c.tc : Thread Cert.VisRefIdeal.nD Cert.VisRefIdeal.τ).loc Cert.VisRefIdeal.main_arg2) = m' ((c.tc : Thread Cert.VisRefIdeal.nD Cert.VisRefIdeal.τ).loc Cert.VisRefIdeal.main_arg2)
          ∧ r.2.mem ((c.tc : Thread Cert.VisRefIdeal.nD Cert.VisRefIdeal.τ).loc Cert.VisRefIdeal.main_arg3) = m' ((c.tc : Thread Cert.VisRefIdeal.nD Cert.VisRefIdeal.τ).loc Cert.VisRefIdeal.main_arg3)
          ∧ r.2.mem ((c.tc : Thread Cert.VisRefIdeal.nD Cert.VisRefIdeal.τ).loc Cert.VisRefIdeal.main_arg4) = m' ((c.tc : Thread Cert.VisRefIdeal.nD Cert.VisRefIdeal.τ).loc Cert.VisRefIdeal.main_arg4)
          ∧ r.2.mem ((c.tc : Thread Cert.VisRefIdeal.nD Cert.VisRefIdeal.τ).loc Cert.VisRefIdeal.main_arg5) = m' ((c.tc : Thread Cert.VisRefIdeal.nD Cert.VisRefIdeal.τ).loc Cert.VisRefIdeal.main_arg5)
          ∧ r.2.mem ((c.tc : Thread Cert.VisRefIdeal.nD Cert.VisRefIdeal.τ).loc Cert.VisRefIdeal.main_arg6) = m' ((c.tc : Thread Cert.VisRefIdeal.nD Cert.VisRefIdeal.τ).loc Cert.VisRefIdeal.main_arg6)
          ∧ r.2.mem ((c.tc : Thread Cert.VisRefIdeal.nD Cert.VisRefIdeal.τ).loc Cert.VisRefIdeal.main_arg7) = m' ((c.tc : Thread Cert.VisRefIdeal.nD Cert.VisRefIdeal.τ).loc Cert.VisRefIdeal.main_arg7)
          ∧ r.2.mem ((c.tc : Thread Cert.VisRefIdeal.nD Cert.VisRefIdeal.τ).loc Cert.VisRefIdeal.main_arg8) = m' ((c.tc : Thread Cert.VisRefIdeal.nD Cert.VisRefIdeal.τ).loc Cert.VisRefIdeal.main_arg8)
          ∧ r.2.mem ((c.tc : Thread Cert.VisRefIdeal.nD Cert.VisRefIdeal.τ).loc Cert.VisRefIdeal.main_arg9) = m' ((c.tc : Thread Cert.VisRefIdeal.nD Cert.VisRefIdeal.τ).loc Cert.VisRefIdeal.main_arg9)
          ∧ r.2.mem ((c.tc : Thread Cert.VisRefIdeal.nD Cert.VisRefIdeal.τ).loc Cert.VisRefIdeal.main_arg10) = m' ((c.tc : Thread Cert.VisRefIdeal.nD Cert.VisRefIdeal.τ).loc Cert.VisRefIdeal.main_arg10))

def preserves_Asm_AsmIdeal : Prop :=
  IdealRules.named_const.Statement Cert.AsmIdeal.κ "inv_d" .f32 0x394CCCCD#32 ((1 / 5120 : ℝ) : EReal)

def Claim : Prop :=
  ∃ (hVis : Cert.Vis.Facts) (hVisIdeal : Cert.VisIdeal.Facts) (hVisRefIdeal : Cert.VisRefIdeal.Facts) (hAsmIdeal : Cert.AsmIdeal.Facts) (hAsm : Cert.Asm.Facts) (hPre_text_tokens_in_table : Cert.Pre_text_tokens_in_table.Facts),
    quiescent_Vis (hVis := hVis)
    ∧ quiescent_VisIdeal (hVisIdeal := hVisIdeal)
    ∧ quiescent_VisRefIdeal (hVisRefIdeal := hVisRefIdeal)
    ∧ quiescent_AsmIdeal (hAsmIdeal := hAsmIdeal) (hPre_text_tokens_in_table := hPre_text_tokens_in_table)
    ∧ quiescent_Asm (hAsm := hAsm) (hPre_text_tokens_in_table := hPre_text_tokens_in_table)
    ∧ preserves_Vis_VisIdeal
    ∧ algebraic_VisIdeal_VisRefIdeal (hVisIdeal := hVisIdeal) (hVisRefIdeal := hVisRefIdeal)
    ∧ preserves_Asm_AsmIdeal
-- ==== Pre_text_tokens_in_table.lean ====
abbrev S12288 : Shape := ⟨1, ![12288]⟩
abbrev S10752x5120 : Shape := ⟨2, ![10752, 5120]⟩
abbrev S37919x5120 : Shape := ⟨2, ![37919, 5120]⟩
abbrev S384x1x32 : Shape := ⟨3, ![384, 1, 32]⟩
abbrev S1x5120 : Shape := ⟨2, ![1, 5120]⟩
abbrev S384x32 : Shape := ⟨2, ![384, 32]⟩
abbrev S384x1 : Shape := ⟨2, ![384, 1]⟩
abbrev S_ : Shape := ⟨0, ![]⟩

class Facts : Prop where
  shapeCasts_S12288_S384x32 : S12288.ShapeCasts S384x32
  slices_S384x32_S384x1_0_0 : S384x32.Slices ![0, 0] S384x1
  slices_S384x32_S384x1_0_31 : S384x32.Slices ![0, 31] S384x1
  bcast_S_S384x1 : S_.BroadcastsInDim S384x1 (![] : Fin 0 → Fin S384x1.rank)
  bcast_S384x1_S384x32_0_1 : S384x1.BroadcastsInDim S384x32 (![0, 1] : Fin 2 → Fin S384x32.rank)
  bcast_S_S384x32 : S_.BroadcastsInDim S384x32 (![] : Fin 0 → Fin S384x32.rank)

variable [Facts]

def fn_where {F : FTy → Type} [FloatOps F] (arg0 : IVec S384x1 1) (arg1 : IVec S384x1 32) (arg2 : IVec S_ 32) : IVec S384x1 32 :=
  let v0 : IVec S_ 32 := id arg2
  let v1 : IVec S384x1 32 := broadcastInDim S384x1 ![] bcast_S_S384x1 v0
  let v2 : IVec S384x1 32 := select arg0 arg1 v1
  v2

def fn_part2 {F : FTy → Type} [FloatOps F] (main_v1 : IVec S384x32 32) (main_v32 : IVec S384x32 1) (main_v34 : IVec S384x32 1) : IVec S384x32 1 :=
  let main_c_12 : IVec S_ 32 := constantI S_ 32 37912#32
  let main_v35 : IVec S384x32 32 := broadcastInDim S384x32 ![] bcast_S_S384x32 main_c_12
  let main_v36 : IVec S384x32 1 := cmpi .slt main_v1 main_v35
  let main_v37 : IVec S384x32 1 := andi main_v34 main_v36
  let main_v38 : IVec S384x32 1 := ori main_v32 main_v37
  main_v38

def fn_part1 {F : FTy → Type} [FloatOps F] (main_v1 : IVec S384x32 32) (main_v3 : IVec S384x1 32) (main_v12 : IVec S384x1 32) (main_v14 : IVec S384x1 1) (main_v16 : IVec S384x1 1) : IVec S384x32 1 :=
  let main_v17 : IVec S384x1 1 := andi main_v14 main_v16
  let main_c_6 : IVec S_ 32 := constantI S_ 32 255#32
  let main_v18 : IVec S384x1 32 := broadcastInDim S384x1 ![] bcast_S_S384x1 main_c_6
  let main_v19 : IVec S384x1 32 := andi main_v3 main_v18
  let main_c_7 : IVec S_ 32 := constantI S_ 32 1#32
  let main_v20 : IVec S384x1 32 := broadcastInDim S384x1 ![] bcast_S_S384x1 main_c_7
  let main_v21 : IVec S384x1 32 := addi main_v19 main_v20
  let main_c_8 : IVec S_ 32 := constantI S_ 32 32#32
  let main_v22 : IVec S384x1 32 := broadcastInDim S384x1 ![] bcast_S_S384x1 main_c_8
  let main_v23 : IVec S384x1 32 := minsi main_v22 main_v21
  let main_c_9 : IVec S_ 32 := constantI S_ 32 0#32
  let main_v24 : IVec S384x1 32 := fn_where (F := F) main_v17 main_v23 main_c_9
  let main_v25 : IVec S384x32 32 := iotaInDim S384x32 32 1
  let main_v26 : IVec S384x32 32 := broadcastInDim S384x32 ![0, 1] bcast_S384x1_S384x32_0_1 main_v12
  let main_v27 : IVec S384x32 1 := cmpi .slt main_v25 main_v26
  let main_c_10 : IVec S_ 32 := constantI S_ 32 32#32
  let main_v28 : IVec S384x1 32 := broadcastInDim S384x1 ![] bcast_S_S384x1 main_c_10
  let main_v29 : IVec S384x1 32 := subi main_v28 main_v24
  let main_v30 : IVec S384x32 32 := broadcastInDim S384x32 ![0, 1] bcast_S384x1_S384x32_0_1 main_v29
  let main_v31 : IVec S384x32 1 := cmpi .sge main_v25 main_v30
  let main_v32 : IVec S384x32 1 := ori main_v27 main_v31
  let main_c_11 : IVec S_ 32 := constantI S_ 32 0#32
  let main_v33 : IVec S384x32 32 := broadcastInDim S384x32 ![] bcast_S_S384x32 main_c_11
  let main_v34 : IVec S384x32 1 := cmpi .sge main_v1 main_v33
  fn_part2 (F := F) main_v1 main_v32 main_v34

def fn {F : FTy → Type} [FloatOps F] (main_arg0 : IVec S12288 32) (main_arg1 : IVec S12288 32) (main_arg2 : FVec F S10752x5120 .f32) (main_arg3 : IVec S37919x5120 8) (main_arg4 : FVec F S384x1x32 .f32) (main_arg5 : FVec F S1x5120 .f32) : IVec S384x32 1 :=
  let main_v0 : IVec S384x32 32 := shapeCast S384x32 main_arg0 shapeCasts_S12288_S384x32
  let main_v1 : IVec S384x32 32 := shapeCast S384x32 main_arg1 shapeCasts_S12288_S384x32
  let main_v2 : IVec S384x1 32 := (extractStridedSlice S384x1 ![0, 0] · slices_S384x32_S384x1_0_0) main_v0
  let main_v3 : IVec S384x1 32 := (extractStridedSlice S384x1 ![0, 31] · slices_S384x32_S384x1_0_31) main_v0
  let main_c : IVec S_ 32 := constantI S_ 32 0#32
  let main_v4 : IVec S384x1 32 := broadcastInDim S384x1 ![] bcast_S_S384x1 main_c
  let main_v5 : IVec S384x1 1 := cmpi .sge main_v2 main_v4
  let main_c_0 : IVec S_ 32 := constantI S_ 32 255#32
  let main_v6 : IVec S384x1 32 := broadcastInDim S384x1 ![] bcast_S_S384x1 main_c_0
  let main_v7 : IVec S384x1 32 := andi main_v2 main_v6
  let main_c_1 : IVec S_ 32 := constantI S_ 32 256#32
  let main_v8 : IVec S384x1 32 := broadcastInDim S384x1 ![] bcast_S_S384x1 main_c_1
  let main_v9 : IVec S384x1 32 := subi main_v8 main_v7
  let main_c_2 : IVec S_ 32 := constantI S_ 32 32#32
  let main_v10 : IVec S384x1 32 := broadcastInDim S384x1 ![] bcast_S_S384x1 main_c_2
  let main_v11 : IVec S384x1 32 := minsi main_v10 main_v9
  let main_c_3 : IVec S_ 32 := constantI S_ 32 0#32
  let main_v12 : IVec S384x1 32 := fn_where (F := F) main_v5 main_v11 main_c_3
  let main_c_4 : IVec S_ 32 := constantI S_ 32 0#32
  let main_v13 : IVec S384x1 32 := broadcastInDim S384x1 ![] bcast_S_S384x1 main_c_4
  let main_v14 : IVec S384x1 1 := cmpi .sge main_v3 main_v13
  let main_c_5 : IVec S_ 32 := constantI S_ 32 32#32
  let main_v15 : IVec S384x1 32 := broadcastInDim S384x1 ![] bcast_S_S384x1 main_c_5
  let main_v16 : IVec S384x1 1 := cmpi .slt main_v12 main_v15
  fn_part1 (F := F) main_v1 main_v3 main_v12 main_v14 main_v16
-- ==== Vis.lean ====
abbrev S42x1025x3200 : Shape := ⟨3, ![42, 1025, 3200]⟩
abbrev S12800 : Shape := ⟨1, ![12800]⟩
abbrev S12800x640 : Shape := ⟨2, ![12800, 640]⟩
abbrev S100x5120 : Shape := ⟨2, ![100, 5120]⟩
abbrev S100x640 : Shape := ⟨2, ![100, 640]⟩
abbrev S5120 : Shape := ⟨1, ![5120]⟩
abbrev S5120x640 : Shape := ⟨2, ![5120, 640]⟩
abbrev S40x5120 : Shape := ⟨2, ![40, 5120]⟩
abbrev S40x640 : Shape := ⟨2, ![40, 640]⟩
abbrev S12800x5120 : Shape := ⟨2, ![12800, 5120]⟩
abbrev S2560x128 : Shape := ⟨2, ![2560, 128]⟩
abbrev S100x1024 : Shape := ⟨2, ![100, 1024]⟩
abbrev S100x128 : Shape := ⟨2, ![100, 128]⟩
abbrev S2560x1024 : Shape := ⟨2, ![2560, 1024]⟩
abbrev S1x128 : Shape := ⟨2, ![1, 128]⟩
abbrev S1x1024 : Shape := ⟨2, ![1, 1024]⟩
abbrev S8x128 : Shape := ⟨2, ![8, 128]⟩
abbrev S128x128 : Shape := ⟨2, ![128, 128]⟩
abbrev S8x128x1 : Shape := ⟨3, ![8, 128, 1]⟩
abbrev S128x128x1 : Shape := ⟨3, ![128, 128, 1]⟩
abbrev S5120x5120 : Shape := ⟨2, ![5120, 5120]⟩
abbrev S40x1024 : Shape := ⟨2, ![40, 1024]⟩
abbrev S40x128 : Shape := ⟨2, ![40, 128]⟩
abbrev S_ : Shape := ⟨0, ![]⟩
abbrev S42x1088x3200 : Shape := ⟨3, ![42, 1088, 3200]⟩
abbrev S1x12800 : Shape := ⟨2, ![1, 12800]⟩
abbrev S10752x12800 : Shape := ⟨2, ![10752, 12800]⟩
abbrev S1x64x3200 : Shape := ⟨3, ![1, 64, 3200]⟩
abbrev S1x16x3200 : Shape := ⟨3, ![1, 16, 3200]⟩
abbrev S16x12800 : Shape := ⟨2, ![16, 12800]⟩
abbrev S64x3200 : Shape := ⟨2, ![64, 3200]⟩
abbrev S32x3200 : Shape := ⟨2, ![32, 3200]⟩
abbrev S31x3200 : Shape := ⟨2, ![31, 3200]⟩
abbrev S1x1x3200 : Shape := ⟨3, ![1, 1, 3200]⟩
abbrev S1x3200 : Shape := ⟨2, ![1, 3200]⟩
abbrev S16x3200 : Shape := ⟨2, ![16, 3200]⟩
abbrev S16 : Shape := ⟨1, ![16]⟩
abbrev S16x1 : Shape := ⟨2, ![16, 1]⟩
abbrev S1x5120 : Shape := ⟨2, ![1, 5120]⟩
abbrev S10752x5120 : Shape := ⟨2, ![10752, 5120]⟩
abbrev S768x12800 : Shape := ⟨2, ![768, 12800]⟩
abbrev S12800x256 : Shape := ⟨2, ![12800, 256]⟩
abbrev S1x256 : Shape := ⟨2, ![1, 256]⟩
abbrev S768x256 : Shape := ⟨2, ![768, 256]⟩
abbrev S768x5120 : Shape := ⟨2, ![768, 5120]⟩
abbrev S5120x256 : Shape := ⟨2, ![5120, 256]⟩

abbrev nBuf : Space → Nat
  | .hbm => 23
  | .vmem => 40
  | .smem => 0
  | _ => 0

abbrev bufTy : (tb : Table) → Fin (tcTables nBuf tb) → BufTy
  | .hbm, ⟨0, _⟩ => ⟨S42x1025x3200, .bf16⟩
  | .hbm, ⟨1, _⟩ => ⟨S12800, .f32⟩
  | .hbm, ⟨2, _⟩ => ⟨S12800, .f32⟩
  | .hbm, ⟨3, _⟩ => ⟨S12800x640, .i32⟩
  | .hbm, ⟨4, _⟩ => ⟨S100x5120, .f32⟩
  | .hbm, ⟨5, _⟩ => ⟨S100x640, .i32⟩
  | .hbm, ⟨6, _⟩ => ⟨S5120, .f32⟩
  | .hbm, ⟨7, _⟩ => ⟨S5120x640, .i32⟩
  | .hbm, ⟨8, _⟩ => ⟨S40x5120, .f32⟩
  | .hbm, ⟨9, _⟩ => ⟨S40x640, .i32⟩
  | .hbm, ⟨10, _⟩ => ⟨S5120, .f32⟩
  | .hbm, ⟨11, _⟩ => ⟨S12800x5120, .bf16⟩
  | .hbm, ⟨12, _⟩ => ⟨S5120x5120, .bf16⟩
  | .hbm, ⟨13, _⟩ => ⟨S_, .i32⟩
  | .hbm, ⟨14, _⟩ => ⟨S_, .bf16⟩
  | .hbm, ⟨15, _⟩ => ⟨S42x1088x3200, .bf16⟩
  | .hbm, ⟨16, _⟩ => ⟨S1x12800, .f32⟩
  | .hbm, ⟨17, _⟩ => ⟨S1x12800, .f32⟩
  | .hbm, ⟨18, _⟩ => ⟨S10752x12800, .bf16⟩
  | .hbm, ⟨19, _⟩ => ⟨S1x5120, .f32⟩
  | .hbm, ⟨20, _⟩ => ⟨S10752x5120, .bf16⟩
  | .hbm, ⟨21, _⟩ => ⟨S1x5120, .f32⟩
  | .hbm, ⟨22, _⟩ => ⟨S10752x5120, .f32⟩
  | .local _ .vmem, ⟨0, _⟩ => ⟨S2560x128, .i32⟩
  | .local _ .vmem, ⟨1, _⟩ => ⟨S2560x128, .i32⟩
  | .local _ .vmem, ⟨2, _⟩ => ⟨S100x1024, .f32⟩
  | .local _ .vmem, ⟨3, _⟩ => ⟨S100x1024, .f32⟩
  | .local _ .vmem, ⟨4, _⟩ => ⟨S100x128, .i32⟩
  | .local _ .vmem, ⟨5, _⟩ => ⟨S100x128, .i32⟩
  | .local _ .vmem, ⟨6, _⟩ => ⟨S2560x1024, .bf16⟩
  | .local _ .vmem, ⟨7, _⟩ => ⟨S2560x1024, .bf16⟩
  | .local _ .vmem, ⟨8, _⟩ => ⟨S2560x128, .i32⟩
  | .local _ .vmem, ⟨9, _⟩ => ⟨S2560x128, .i32⟩
  | .local _ .vmem, ⟨10, _⟩ => ⟨S40x1024, .f32⟩
  | .local _ .vmem, ⟨11, _⟩ => ⟨S40x1024, .f32⟩
  | .local _ .vmem, ⟨12, _⟩ => ⟨S40x128, .i32⟩
  | .local _ .vmem, ⟨13, _⟩ => ⟨S40x128, .i32⟩
  | .local _ .vmem, ⟨14, _⟩ => ⟨S2560x1024, .bf16⟩
  | .local _ .vmem, ⟨15, _⟩ => ⟨S2560x1024, .bf16⟩
  | .local _ .vmem, ⟨16, _⟩ => ⟨S1x64x3200, .bf16⟩
  | .local _ .vmem, ⟨17, _⟩ => ⟨S1x64x3200, .bf16⟩
  | .local _ .vmem, ⟨18, _⟩ => ⟨S1x16x3200, .bf16⟩
  | .local _ .vmem, ⟨19, _⟩ => ⟨S1x16x3200, .bf16⟩
  | .local _ .vmem, ⟨20, _⟩ => ⟨S1x12800, .f32⟩
  | .local _ .vmem, ⟨21, _⟩ => ⟨S1x12800, .f32⟩
  | .local _ .vmem, ⟨22, _⟩ => ⟨S16x12800, .bf16⟩
  | .local _ .vmem, ⟨23, _⟩ => ⟨S16x12800, .bf16⟩
  | .local _ .vmem, ⟨24, _⟩ => ⟨S768x12800, .bf16⟩
  | .local _ .vmem, ⟨25, _⟩ => ⟨S768x12800, .bf16⟩
  | .local _ .vmem, ⟨26, _⟩ => ⟨S12800x256, .bf16⟩
  | .local _ .vmem, ⟨27, _⟩ => ⟨S12800x256, .bf16⟩
  | .local _ .vmem, ⟨28, _⟩ => ⟨S1x256, .f32⟩
  | .local _ .vmem, ⟨29, _⟩ => ⟨S1x256, .f32⟩
  | .local _ .vmem, ⟨30, _⟩ => ⟨S768x256, .bf16⟩
  | .local _ .vmem, ⟨31, _⟩ => ⟨S768x256, .bf16⟩
  | .local _ .vmem, ⟨32, _⟩ => ⟨S768x5120, .bf16⟩
  | .local _ .vmem, ⟨33, _⟩ => ⟨S768x5120, .bf16⟩
  | .local _ .vmem, ⟨34, _⟩ => ⟨S5120x256, .bf16⟩
  | .local _ .vmem, ⟨35, _⟩ => ⟨S5120x256, .bf16⟩
  | .local _ .vmem, ⟨36, _⟩ => ⟨S1x256, .f32⟩
  | .local _ .vmem, ⟨37, _⟩ => ⟨S1x256, .f32⟩
  | .local _ .vmem, ⟨38, _⟩ => ⟨S768x256, .f32⟩
  | .local _ .vmem, ⟨39, _⟩ => ⟨S768x256, .f32⟩
  | _, _ => ⟨S42x1025x3200, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_c : Ref sig .tc := ⟨.hbm, 13, rfl⟩
abbrev main_call0_v0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg1_1 : Ref sig .tc := ⟨.vmem, 27, rfl⟩
abbrev cc3_stg2_0 : Ref sig .tc := ⟨.vmem, 28, rfl⟩
abbrev cc3_stg2_1 : Ref sig .tc := ⟨.vmem, 29, rfl⟩
abbrev cc3_stg3_0 : Ref sig .tc := ⟨.vmem, 30, rfl⟩
abbrev cc3_stg3_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_stg3_0 : Ref sig .tc := ⟨.vmem, 38, rfl⟩
abbrev cc4_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc4_sem3_0 : DmaSem sig := 38
abbrev cc4_sem3_1 : DmaSem sig := 39

abbrev nD : Nat := 1
abbrev τ : Topo := Topo.v7x

variable {F : FTy → Type} [BitOps F]

abbrev grid0 : Pipeline.Grid := ⟨2, ![5, 5], ![false, false]⟩

@[reducible] def k0_t1_loop : Scf.Loop 32 :=
  let c0_i32 : BitVec 32 := 0#32
  let c20_i32_0 : BitVec 32 := 20#32
  let v1 : BitVec 32 := Scalar.addi c0_i32 c20_i32_0
  let c1_i32 : BitVec 32 := 1#32
  ⟨c0_i32, v1, c1_i32⟩
def k0_off1 (i : grid0.Coords) (k0_t1 : Fin k0_t1_loop.trips) : Fin 2 → Nat :=
  let arg1 : BitVec 32 := BitVec.ofNat 32 (i 1).val
  let c20_i32 : BitVec 32 := 20#32
  let v0 : BitVec 32 := Scalar.muli arg1 c20_i32
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let v4 : BitVec 32 := Scalar.addi v0 v3
  let v5 : Index := Scalar.indexCast v4
  let c0 : Index := 0#32
  ![v5.toNat, 0]
def k0_off2 (i : grid0.Coords) (k0_t1 : Fin k0_t1_loop.trips) : Fin 2 → Nat :=
  let arg1 : BitVec 32 := BitVec.ofNat 32 (i 1).val
  let c20_i32 : BitVec 32 := 20#32
  let v0 : BitVec 32 := Scalar.muli arg1 c20_i32
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let v7 : BitVec 32 := Scalar.addi v0 v3
  let v8 : Index := Scalar.indexCast v7
  let c0_4 : Index := 0#32
  ![v8.toNat, 0]
def k0_off3 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32 : BitVec 32 := 128#32
  let v13 : BitVec 32 := Scalar.muli v3 c128_i32
  let v14 : Index := Scalar.indexCast v13
  let c0_5 : Index := 0#32
  ![v14.toNat, 0]
def k0_off4 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_22 : BitVec 32 := 128#32
  let v82 : BitVec 32 := Scalar.muli v3 c128_i32_22
  let v83 : Index := Scalar.indexCast v82
  let c0_23 : Index := 0#32
  ![v83.toNat, 0]
def k0_off5 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_43 : BitVec 32 := 128#32
  let v151 : BitVec 32 := Scalar.muli v3 c128_i32_43
  let v152 : Index := Scalar.indexCast v151
  let c128 : Index := 128#32
  ![v152.toNat, 128]
def k0_off6 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_63 : BitVec 32 := 128#32
  let v220 : BitVec 32 := Scalar.muli v3 c128_i32_63
  let v221 : Index := Scalar.indexCast v220
  let c256 : Index := 256#32
  ![v221.toNat, 256]
def k0_off7 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_83 : BitVec 32 := 128#32
  let v289 : BitVec 32 := Scalar.muli v3 c128_i32_83
  let v290 : Index := Scalar.indexCast v289
  let c384 : Index := 384#32
  ![v290.toNat, 384]
def k0_off8 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_103 : BitVec 32 := 128#32
  let v358 : BitVec 32 := Scalar.muli v3 c128_i32_103
  let v359 : Index := Scalar.indexCast v358
  let c512 : Index := 512#32
  ![v359.toNat, 512]
def k0_off9 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_123 : BitVec 32 := 128#32
  let v427 : BitVec 32 := Scalar.muli v3 c128_i32_123
  let v428 : Index := Scalar.indexCast v427
  let c640 : Index := 640#32
  ![v428.toNat, 640]
def k0_off10 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_143 : BitVec 32 := 128#32
  let v496 : BitVec 32 := Scalar.muli v3 c128_i32_143
  let v497 : Index := Scalar.indexCast v496
  let c768 : Index := 768#32
  ![v497.toNat, 768]
def k0_off11 (k0_t1 : Fin k0_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k0_t1
  let c1_i32_2 : BitVec 32 := 1#32
  let v2 : BitVec 32 := Scalar.muli arg6 c1_i32_2
  let v3 : BitVec 32 := Scalar.addi c0_i32_3 v2
  let c128_i32_163 : BitVec 32 := 128#32
  let v565 : BitVec 32 := Scalar.muli v3 c128_i32_163
  let v566 : Index := Scalar.indexCast v565
  let c896 : Index := 896#32
  ![v566.toNat, 896]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2560x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S100x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S100x128 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2560x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![5, 2], ![false, false]⟩

@[reducible] def k1_t1_loop : Scf.Loop 32 :=
  let c0_i32 : BitVec 32 := 0#32
  let c20_i32_0 : BitVec 32 := 20#32
  let v1 : BitVec 32 := Scalar.addi c0_i32 c20_i32_0
  let c1_i32 : BitVec 32 := 1#32
  ⟨c0_i32, v1, c1_i32⟩
def k1_off1 (i : grid1.Coords) (k1_t1 : Fin k1_t1_loop.trips) : Fin 2 → Nat :=
  let arg1 : BitVec 32 := BitVec.ofNat 32 (i 1).val
  let c20_i32 : BitVec 32 := 20#32
  let v0 : BitVec 32 := Scalar.muli arg1 c20_i32
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let v4 : BitVec 32 := Scalar.addi v0 v3
  let v5 : Index := Scalar.indexCast v4
  let c0 : Index := 0#32
  ![v5.toNat, 0]
def k1_off2 (i : grid1.Coords) (k1_t1 : Fin k1_t1_loop.trips) : Fin 2 → Nat :=
  let arg1 : BitVec 32 := BitVec.ofNat 32 (i 1).val
  let c20_i32 : BitVec 32 := 20#32
  let v0 : BitVec 32 := Scalar.muli arg1 c20_i32
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let v7 : BitVec 32 := Scalar.addi v0 v3
  let v8 : Index := Scalar.indexCast v7
  let c0_4 : Index := 0#32
  ![v8.toNat, 0]
def k1_off3 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32 : BitVec 32 := 128#32
  let v13 : BitVec 32 := Scalar.muli v3 c128_i32
  let v14 : Index := Scalar.indexCast v13
  let c0_5 : Index := 0#32
  ![v14.toNat, 0]
def k1_off4 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_22 : BitVec 32 := 128#32
  let v82 : BitVec 32 := Scalar.muli v3 c128_i32_22
  let v83 : Index := Scalar.indexCast v82
  let c0_23 : Index := 0#32
  ![v83.toNat, 0]
def k1_off5 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_43 : BitVec 32 := 128#32
  let v151 : BitVec 32 := Scalar.muli v3 c128_i32_43
  let v152 : Index := Scalar.indexCast v151
  let c128 : Index := 128#32
  ![v152.toNat, 128]
def k1_off6 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_63 : BitVec 32 := 128#32
  let v220 : BitVec 32 := Scalar.muli v3 c128_i32_63
  let v221 : Index := Scalar.indexCast v220
  let c256 : Index := 256#32
  ![v221.toNat, 256]
def k1_off7 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_83 : BitVec 32 := 128#32
  let v289 : BitVec 32 := Scalar.muli v3 c128_i32_83
  let v290 : Index := Scalar.indexCast v289
  let c384 : Index := 384#32
  ![v290.toNat, 384]
def k1_off8 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_103 : BitVec 32 := 128#32
  let v358 : BitVec 32 := Scalar.muli v3 c128_i32_103
  let v359 : Index := Scalar.indexCast v358
  let c512 : Index := 512#32
  ![v359.toNat, 512]
def k1_off9 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_123 : BitVec 32 := 128#32
  let v427 : BitVec 32 := Scalar.muli v3 c128_i32_123
  let v428 : Index := Scalar.indexCast v427
  let c640 : Index := 640#32
  ![v428.toNat, 640]
def k1_off10 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_143 : BitVec 32 := 128#32
  let v496 : BitVec 32 := Scalar.muli v3 c128_i32_143
  let v497 : Index := Scalar.indexCast v496
  let c768 : Index := 768#32
  ![v497.toNat, 768]
def k1_off11 (k1_t1 : Fin k1_t1_loop.trips) : Fin 2 → Nat :=
  let c0_i32_3 : BitVec 32 := 0#32
  let c0_i32 : BitVec 32 := 0#32
  let c1_i32 : BitVec 32 := 1#32
  let arg6 : BitVec 32 := Scf.iv c0_i32 c1_i32 k1_t1
  let c1_i32_2 : BitVec 32 := 1#32
  let v2 : BitVec 32 := Scalar.muli arg6 c1_i32_2
  let v3 : BitVec 32 := Scalar.addi c0_i32_3 v2
  let c128_i32_163 : BitVec 32 := 128#32
  let v565 : BitVec 32 := Scalar.muli v3 c128_i32_163
  let v566 : Index := Scalar.indexCast v565
  let c896 : Index := 896#32
  ![v566.toNat, 896]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2560x128 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S40x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S40x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S2560x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![42, 16], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c4_i32 : BitVec 32 := 4#32
  let v1 : BitVec 32 := Scalar.muli c4_i32 v0
  let c0_i32 : BitVec 32 := 0#32
  let c0_i32_0 : BitVec 32 := 0#32
  ![arg0.toNat, v1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage2_0 : Fin 2 → Memref sig .tc .vmem S1x64x3200 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1x16x3200 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1x12800 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x12800 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S16x12800 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![14, 20], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S768x12800 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S12800x256 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S768x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![14, 20], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S768x5120 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S5120x256 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![false, true]

abbrev stage4_3 : Fin 2 → Memref sig .tc .vmem S768x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]
-- ==== VisIdeal.lean ====
variable {F : FTy → Type} [FloatOps F] [Named F]
def κ : String → Option EReal := fun
  | "inv_k1" => some ((1 / 12800 : ℝ) : EReal)
  | _ => none
-- ==== VisRefIdeal.lean ====
abbrev S42x1025x3200 : Shape := ⟨3, ![42, 1025, 3200]⟩
abbrev S12800 : Shape := ⟨1, ![12800]⟩
abbrev S12800x640 : Shape := ⟨2, ![12800, 640]⟩
abbrev S100x5120 : Shape := ⟨2, ![100, 5120]⟩
abbrev S100x640 : Shape := ⟨2, ![100, 640]⟩
abbrev S5120 : Shape := ⟨1, ![5120]⟩
abbrev S5120x640 : Shape := ⟨2, ![5120, 640]⟩
abbrev S40x5120 : Shape := ⟨2, ![40, 5120]⟩
abbrev S40x640 : Shape := ⟨2, ![40, 640]⟩
abbrev S42x1024x3200 : Shape := ⟨3, ![42, 1024, 3200]⟩
abbrev S42x16x2x16x2x3200 : Shape := ⟨6, ![42, 16, 2, 16, 2, 3200]⟩
abbrev S42x16x16x2x2x3200 : Shape := ⟨6, ![42, 16, 16, 2, 2, 3200]⟩
abbrev S10752x12800 : Shape := ⟨2, ![10752, 12800]⟩
abbrev S_ : Shape := ⟨0, ![]⟩
abbrev S10752 : Shape := ⟨1, ![10752]⟩
abbrev S10752x1 : Shape := ⟨2, ![10752, 1]⟩
abbrev S1x12800 : Shape := ⟨2, ![1, 12800]⟩
abbrev S12800x640x1 : Shape := ⟨3, ![12800, 640, 1]⟩
abbrev S12800x640x8 : Shape := ⟨3, ![12800, 640, 8]⟩
abbrev S12800x5120 : Shape := ⟨2, ![12800, 5120]⟩
abbrev S100x128x5120 : Shape := ⟨3, ![100, 128, 5120]⟩
abbrev S100x640x1 : Shape := ⟨3, ![100, 640, 1]⟩
abbrev S100x640x8 : Shape := ⟨3, ![100, 640, 8]⟩
abbrev S100x1x5120 : Shape := ⟨3, ![100, 1, 5120]⟩
abbrev S10752x5120 : Shape := ⟨2, ![10752, 5120]⟩
abbrev S1x5120 : Shape := ⟨2, ![1, 5120]⟩
abbrev S5120x640x1 : Shape := ⟨3, ![5120, 640, 1]⟩
abbrev S5120x640x8 : Shape := ⟨3, ![5120, 640, 8]⟩
abbrev S5120x5120 : Shape := ⟨2, ![5120, 5120]⟩
abbrev S40x128x5120 : Shape := ⟨3, ![40, 128, 5120]⟩
abbrev S40x640x1 : Shape := ⟨3, ![40, 640, 1]⟩
abbrev S40x640x8 : Shape := ⟨3, ![40, 640, 8]⟩
abbrev S40x1x5120 : Shape := ⟨3, ![40, 1, 5120]⟩

abbrev nBuf : Space → Nat
  | .hbm => 316
  | .vmem => 0
  | .smem => 0
  | _ => 0

abbrev hbmTy0_0 (i : Nat) : BufTy := match i % 128 with
  | 0 => ⟨S42x1025x3200, .bf16⟩
  | 1 => ⟨S12800, .f32⟩
  | 2 => ⟨S12800, .f32⟩
  | 3 => ⟨S12800x640, .i32⟩
  | 4 => ⟨S100x5120, .f32⟩
  | 5 => ⟨S100x640, .i32⟩
  | 6 => ⟨S5120, .f32⟩
  | 7 => ⟨S5120x640, .i32⟩
  | 8 => ⟨S40x5120, .f32⟩
  | 9 => ⟨S40x640, .i32⟩
  | 10 => ⟨S5120, .f32⟩
  | 11 => ⟨S42x1024x3200, .bf16⟩
  | 12 => ⟨S42x16x2x16x2x3200, .bf16⟩
  | 13 => ⟨S42x16x16x2x2x3200, .bf16⟩
  | 14 => ⟨S10752x12800, .bf16⟩
  | 15 => ⟨S10752x12800, .f32⟩
  | 16 => ⟨S_, .f32⟩
  | 17 => ⟨S10752, .f32⟩
  | 18 => ⟨S10752x1, .f32⟩
  | 19 => ⟨S_, .f32⟩
  | 20 => ⟨S10752x1, .f32⟩
  | 21 => ⟨S10752x1, .f32⟩
  | 22 => ⟨S10752x12800, .f32⟩
  | 23 => ⟨S10752x12800, .f32⟩
  | 24 => ⟨S10752x12800, .f32⟩
  | 25 => ⟨S_, .f32⟩
  | 26 => ⟨S10752, .f32⟩
  | 27 => ⟨S10752x1, .f32⟩
  | 28 => ⟨S_, .f32⟩
  | 29 => ⟨S10752x1, .f32⟩
  | 30 => ⟨S10752x1, .f32⟩
  | 31 => ⟨S_, .f32⟩
  | 32 => ⟨S10752x1, .f32⟩
  | 33 => ⟨S10752x1, .f32⟩
  | 34 => ⟨S10752x1, .f32⟩
  | 35 => ⟨S10752x12800, .f32⟩
  | 36 => ⟨S10752x12800, .f32⟩
  | 37 => ⟨S1x12800, .f32⟩
  | 38 => ⟨S10752x12800, .f32⟩
  | 39 => ⟨S10752x12800, .f32⟩
  | 40 => ⟨S1x12800, .f32⟩
  | 41 => ⟨S10752x12800, .f32⟩
  | 42 => ⟨S10752x12800, .f32⟩
  | 43 => ⟨S10752x12800, .bf16⟩
  | 44 => ⟨S_, .i32⟩
  | 45 => ⟨S12800x640, .i32⟩
  | 46 => ⟨S12800x640, .i32⟩
  | 47 => ⟨S_, .i32⟩
  | 48 => ⟨S12800x640, .i32⟩
  | 49 => ⟨S12800x640, .i32⟩
  | 50 => ⟨S_, .i32⟩
  | 51 => ⟨S12800x640, .i32⟩
  | 52 => ⟨S12800x640, .i32⟩
  | 53 => ⟨S_, .i32⟩
  | 54 => ⟨S12800x640, .i32⟩
  | 55 => ⟨S12800x640, .i32⟩
  | 56 => ⟨S_, .i32⟩
  | 57 => ⟨S12800x640, .i32⟩
  | 58 => ⟨S12800x640, .i32⟩
  | 59 => ⟨S_, .i32⟩
  | 60 => ⟨S12800x640, .i32⟩
  | 61 => ⟨S12800x640, .i32⟩
  | 62 => ⟨S_, .i32⟩
  | 63 => ⟨S12800x640, .i32⟩
  | 64 => ⟨S12800x640, .i32⟩
  | 65 => ⟨S_, .i32⟩
  | 66 => ⟨S12800x640, .i32⟩
  | 67 => ⟨S12800x640, .i32⟩
  | 68 => ⟨S_, .i32⟩
  | 69 => ⟨S12800x640, .i32⟩
  | 70 => ⟨S12800x640, .i32⟩
  | 71 => ⟨S_, .i32⟩
  | 72 => ⟨S12800x640, .i32⟩
  | 73 => ⟨S12800x640, .i32⟩
  | 74 => ⟨S_, .i32⟩
  | 75 => ⟨S12800x640, .i32⟩
  | 76 => ⟨S12800x640, .i32⟩
  | 77 => ⟨S_, .i32⟩
  | 78 => ⟨S12800x640, .i32⟩
  | 79 => ⟨S12800x640, .i32⟩
  | 80 => ⟨S_, .i32⟩
  | 81 => ⟨S12800x640, .i32⟩
  | 82 => ⟨S12800x640, .i32⟩
  | 83 => ⟨S_, .i32⟩
  | 84 => ⟨S12800x640, .i32⟩
  | 85 => ⟨S12800x640, .i32⟩
  | 86 => ⟨S_, .i32⟩
  | 87 => ⟨S12800x640, .i32⟩
  | 88 => ⟨S12800x640, .i32⟩
  | 89 => ⟨S_, .i32⟩
  | 90 => ⟨S12800x640, .i32⟩
  | 91 => ⟨S12800x640, .i32⟩
  | 92 => ⟨S12800x640x1, .i32⟩
  | 93 => ⟨S12800x640x1, .i32⟩
  | 94 => ⟨S12800x640x1, .i32⟩
  | 95 => ⟨S12800x640x1, .i32⟩
  | 96 => ⟨S12800x640x1, .i32⟩
  | 97 => ⟨S12800x640x1, .i32⟩
  | 98 => ⟨S12800x640x1, .i32⟩
  | 99 => ⟨S12800x640x1, .i32⟩
  | 100 => ⟨S12800x640x8, .i32⟩
  | 101 => ⟨S12800x5120, .i32⟩
  | 102 => ⟨S12800x5120, .bf16⟩
  | 103 => ⟨S100x128x5120, .bf16⟩
  | 104 => ⟨S_, .i32⟩
  | 105 => ⟨S100x640, .i32⟩
  | 106 => ⟨S100x640, .i32⟩
  | 107 => ⟨S_, .i32⟩
  | 108 => ⟨S100x640, .i32⟩
  | 109 => ⟨S100x640, .i32⟩
  | 110 => ⟨S_, .i32⟩
  | 111 => ⟨S100x640, .i32⟩
  | 112 => ⟨S100x640, .i32⟩
  | 113 => ⟨S_, .i32⟩
  | 114 => ⟨S100x640, .i32⟩
  | 115 => ⟨S100x640, .i32⟩
  | 116 => ⟨S_, .i32⟩
  | 117 => ⟨S100x640, .i32⟩
  | 118 => ⟨S100x640, .i32⟩
  | 119 => ⟨S_, .i32⟩
  | 120 => ⟨S100x640, .i32⟩
  | 121 => ⟨S100x640, .i32⟩
  | 122 => ⟨S_, .i32⟩
  | 123 => ⟨S100x640, .i32⟩
  | 124 => ⟨S100x640, .i32⟩
  | 125 => ⟨S_, .i32⟩
  | 126 => ⟨S100x640, .i32⟩
  | 127 => ⟨S100x640, .i32⟩
  | _ => ⟨S42x1025x3200, .bf16⟩

abbrev hbmTy0_1 (i : Nat) : BufTy := match i % 128 with
  | 0 => ⟨S_, .i32⟩
  | 1 => ⟨S100x640, .i32⟩
  | 2 => ⟨S100x640, .i32⟩
  | 3 => ⟨S_, .i32⟩
  | 4 => ⟨S100x640, .i32⟩
  | 5 => ⟨S100x640, .i32⟩
  | 6 => ⟨S_, .i32⟩
  | 7 => ⟨S100x640, .i32⟩
  | 8 => ⟨S100x640, .i32⟩
  | 9 => ⟨S_, .i32⟩
  | 10 => ⟨S100x640, .i32⟩
  | 11 => ⟨S100x640, .i32⟩
  | 12 => ⟨S_, .i32⟩
  | 13 => ⟨S100x640, .i32⟩
  | 14 => ⟨S100x640, .i32⟩
  | 15 => ⟨S_, .i32⟩
  | 16 => ⟨S100x640, .i32⟩
  | 17 => ⟨S100x640, .i32⟩
  | 18 => ⟨S_, .i32⟩
  | 19 => ⟨S100x640, .i32⟩
  | 20 => ⟨S100x640, .i32⟩
  | 21 => ⟨S_, .i32⟩
  | 22 => ⟨S100x640, .i32⟩
  | 23 => ⟨S100x640, .i32⟩
  | 24 => ⟨S100x640x1, .i32⟩
  | 25 => ⟨S100x640x1, .i32⟩
  | 26 => ⟨S100x640x1, .i32⟩
  | 27 => ⟨S100x640x1, .i32⟩
  | 28 => ⟨S100x640x1, .i32⟩
  | 29 => ⟨S100x640x1, .i32⟩
  | 30 => ⟨S100x640x1, .i32⟩
  | 31 => ⟨S100x640x1, .i32⟩
  | 32 => ⟨S100x640x8, .i32⟩
  | 33 => ⟨S100x5120, .i32⟩
  | 34 => ⟨S100x5120, .bf16⟩
  | 35 => ⟨S100x5120, .bf16⟩
  | 36 => ⟨S100x1x5120, .bf16⟩
  | 37 => ⟨S100x128x5120, .bf16⟩
  | 38 => ⟨S100x128x5120, .bf16⟩
  | 39 => ⟨S100x1x5120, .bf16⟩
  | 40 => ⟨S100x128x5120, .bf16⟩
  | 41 => ⟨S100x128x5120, .bf16⟩
  | 42 => ⟨S12800x5120, .bf16⟩
  | 43 => ⟨S10752x5120, .f32⟩
  | 44 => ⟨S1x5120, .f32⟩
  | 45 => ⟨S10752x5120, .f32⟩
  | 46 => ⟨S10752x5120, .f32⟩
  | 47 => ⟨S_, .f32⟩
  | 48 => ⟨S10752x5120, .f32⟩
  | 49 => ⟨S10752x5120, .f32⟩
  | 50 => ⟨S10752x5120, .f32⟩
  | 51 => ⟨S_, .f32⟩
  | 52 => ⟨S10752x5120, .f32⟩
  | 53 => ⟨S10752x5120, .f32⟩
  | 54 => ⟨S10752x5120, .f32⟩
  | 55 => ⟨S10752x5120, .f32⟩
  | 56 => ⟨S10752x5120, .bf16⟩
  | 57 => ⟨S_, .i32⟩
  | 58 => ⟨S5120x640, .i32⟩
  | 59 => ⟨S5120x640, .i32⟩
  | 60 => ⟨S_, .i32⟩
  | 61 => ⟨S5120x640, .i32⟩
  | 62 => ⟨S5120x640, .i32⟩
  | 63 => ⟨S_, .i32⟩
  | 64 => ⟨S5120x640, .i32⟩
  | 65 => ⟨S5120x640, .i32⟩
  | 66 => ⟨S_, .i32⟩
  | 67 => ⟨S5120x640, .i32⟩
  | 68 => ⟨S5120x640, .i32⟩
  | 69 => ⟨S_, .i32⟩
  | 70 => ⟨S5120x640, .i32⟩
  | 71 => ⟨S5120x640, .i32⟩
  | 72 => ⟨S_, .i32⟩
  | 73 => ⟨S5120x640, .i32⟩
  | 74 => ⟨S5120x640, .i32⟩
  | 75 => ⟨S_, .i32⟩
  | 76 => ⟨S5120x640, .i32⟩
  | 77 => ⟨S5120x640, .i32⟩
  | 78 => ⟨S_, .i32⟩
  | 79 => ⟨S5120x640, .i32⟩
  | 80 => ⟨S5120x640, .i32⟩
  | 81 => ⟨S_, .i32⟩
  | 82 => ⟨S5120x640, .i32⟩
  | 83 => ⟨S5120x640, .i32⟩
  | 84 => ⟨S_, .i32⟩
  | 85 => ⟨S5120x640, .i32⟩
  | 86 => ⟨S5120x640, .i32⟩
  | 87 => ⟨S_, .i32⟩
  | 88 => ⟨S5120x640, .i32⟩
  | 89 => ⟨S5120x640, .i32⟩
  | 90 => ⟨S_, .i32⟩
  | 91 => ⟨S5120x640, .i32⟩
  | 92 => ⟨S5120x640, .i32⟩
  | 93 => ⟨S_, .i32⟩
  | 94 => ⟨S5120x640, .i32⟩
  | 95 => ⟨S5120x640, .i32⟩
  | 96 => ⟨S_, .i32⟩
  | 97 => ⟨S5120x640, .i32⟩
  | 98 => ⟨S5120x640, .i32⟩
  | 99 => ⟨S_, .i32⟩
  | 100 => ⟨S5120x640, .i32⟩
  | 101 => ⟨S5120x640, .i32⟩
  | 102 => ⟨S_, .i32⟩
  | 103 => ⟨S5120x640, .i32⟩
  | 104 => ⟨S5120x640, .i32⟩
  | 105 => ⟨S5120x640x1, .i32⟩
  | 106 => ⟨S5120x640x1, .i32⟩
  | 107 => ⟨S5120x640x1, .i32⟩
  | 108 => ⟨S5120x640x1, .i32⟩
  | 109 => ⟨S5120x640x1, .i32⟩
  | 110 => ⟨S5120x640x1, .i32⟩
  | 111 => ⟨S5120x640x1, .i32⟩
  | 112 => ⟨S5120x640x1, .i32⟩
  | 113 => ⟨S5120x640x8, .i32⟩
  | 114 => ⟨S5120x5120, .i32⟩
  | 115 => ⟨S5120x5120, .bf16⟩
  | 116 => ⟨S40x128x5120, .bf16⟩
  | 117 => ⟨S_, .i32⟩
  | 118 => ⟨S40x640, .i32⟩
  | 119 => ⟨S40x640, .i32⟩
  | 120 => ⟨S_, .i32⟩
  | 121 => ⟨S40x640, .i32⟩
  | 122 => ⟨S40x640, .i32⟩
  | 123 => ⟨S_, .i32⟩
  | 124 => ⟨S40x640, .i32⟩
  | 125 => ⟨S40x640, .i32⟩
  | 126 => ⟨S_, .i32⟩
  | 127 => ⟨S40x640, .i32⟩
  | _ => ⟨S42x1025x3200, .bf16⟩

abbrev hbmTy0_2 (i : Nat) : BufTy := match i % 128 with
  | 0 => ⟨S40x640, .i32⟩
  | 1 => ⟨S_, .i32⟩
  | 2 => ⟨S40x640, .i32⟩
  | 3 => ⟨S40x640, .i32⟩
  | 4 => ⟨S_, .i32⟩
  | 5 => ⟨S40x640, .i32⟩
  | 6 => ⟨S40x640, .i32⟩
  | 7 => ⟨S_, .i32⟩
  | 8 => ⟨S40x640, .i32⟩
  | 9 => ⟨S40x640, .i32⟩
  | 10 => ⟨S_, .i32⟩
  | 11 => ⟨S40x640, .i32⟩
  | 12 => ⟨S40x640, .i32⟩
  | 13 => ⟨S_, .i32⟩
  | 14 => ⟨S40x640, .i32⟩
  | 15 => ⟨S40x640, .i32⟩
  | 16 => ⟨S_, .i32⟩
  | 17 => ⟨S40x640, .i32⟩
  | 18 => ⟨S40x640, .i32⟩
  | 19 => ⟨S_, .i32⟩
  | 20 => ⟨S40x640, .i32⟩
  | 21 => ⟨S40x640, .i32⟩
  | 22 => ⟨S_, .i32⟩
  | 23 => ⟨S40x640, .i32⟩
  | 24 => ⟨S40x640, .i32⟩
  | 25 => ⟨S_, .i32⟩
  | 26 => ⟨S40x640, .i32⟩
  | 27 => ⟨S40x640, .i32⟩
  | 28 => ⟨S_, .i32⟩
  | 29 => ⟨S40x640, .i32⟩
  | 30 => ⟨S40x640, .i32⟩
  | 31 => ⟨S_, .i32⟩
  | 32 => ⟨S40x640, .i32⟩
  | 33 => ⟨S40x640, .i32⟩
  | 34 => ⟨S_, .i32⟩
  | 35 => ⟨S40x640, .i32⟩
  | 36 => ⟨S40x640, .i32⟩
  | 37 => ⟨S40x640x1, .i32⟩
  | 38 => ⟨S40x640x1, .i32⟩
  | 39 => ⟨S40x640x1, .i32⟩
  | 40 => ⟨S40x640x1, .i32⟩
  | 41 => ⟨S40x640x1, .i32⟩
  | 42 => ⟨S40x640x1, .i32⟩
  | 43 => ⟨S40x640x1, .i32⟩
  | 44 => ⟨S40x640x1, .i32⟩
  | 45 => ⟨S40x640x8, .i32⟩
  | 46 => ⟨S40x5120, .i32⟩
  | 47 => ⟨S40x5120, .bf16⟩
  | 48 => ⟨S40x5120, .bf16⟩
  | 49 => ⟨S40x1x5120, .bf16⟩
  | 50 => ⟨S40x128x5120, .bf16⟩
  | 51 => ⟨S40x128x5120, .bf16⟩
  | 52 => ⟨S40x1x5120, .bf16⟩
  | 53 => ⟨S40x128x5120, .bf16⟩
  | 54 => ⟨S40x128x5120, .bf16⟩
  | 55 => ⟨S5120x5120, .bf16⟩
  | 56 => ⟨S10752x5120, .f32⟩
  | 57 => ⟨S1x5120, .f32⟩
  | 58 => ⟨S10752x5120, .f32⟩
  | 59 => ⟨S10752x5120, .f32⟩
  | _ => ⟨S42x1025x3200, .bf16⟩

abbrev hbmTy (i : Nat) : BufTy := match i / 128 with
  | 0 => hbmTy0_0 i
  | 1 => hbmTy0_1 i
  | 2 => hbmTy0_2 i
  | _ => ⟨S42x1025x3200, .bf16⟩

abbrev bufTy : (tb : Table) → Fin (tcTables nBuf tb) → BufTy
  | .hbm, ⟨i, _⟩ => hbmTy i
  | _, _ => ⟨S42x1025x3200, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c : Ref sig .tc := ⟨.hbm, 44, rfl⟩
abbrev main_v28 : Ref sig .tc := ⟨.hbm, 45, rfl⟩
abbrev main_v29 : Ref sig .tc := ⟨.hbm, 46, rfl⟩
abbrev main_c_4 : Ref sig .tc := ⟨.hbm, 47, rfl⟩
abbrev main_v30 : Ref sig .tc := ⟨.hbm, 48, rfl⟩
abbrev main_v31 : Ref sig .tc := ⟨.hbm, 49, rfl⟩
abbrev main_c_5 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_c_8 : Ref sig .tc := ⟨.hbm, 59, rfl⟩
abbrev main_v38 : Ref sig .tc := ⟨.hbm, 60, rfl⟩
abbrev main_v39 : Ref sig .tc := ⟨.hbm, 61, rfl⟩
abbrev main_c_9 : Ref sig .tc := ⟨.hbm, 62, rfl⟩
abbrev main_v40 : Ref sig .tc := ⟨.hbm, 63, rfl⟩
abbrev main_v41 : Ref sig .tc := ⟨.hbm, 64, rfl⟩
abbrev main_c_10 : Ref sig .tc := ⟨.hbm, 65, rfl⟩
abbrev main_v42 : Ref sig .tc := ⟨.hbm, 66, rfl⟩
abbrev main_v43 : Ref sig .tc := ⟨.hbm, 67, rfl⟩
abbrev main_c_11 : Ref sig .tc := ⟨.hbm, 68, rfl⟩
abbrev main_v44 : Ref sig .tc := ⟨.hbm, 69, rfl⟩
abbrev main_v45 : Ref sig .tc := ⟨.hbm, 70, rfl⟩
abbrev main_c_12 : Ref sig .tc := ⟨.hbm, 71, rfl⟩
abbrev main_v46 : Ref sig .tc := ⟨.hbm, 72, rfl⟩
abbrev main_v47 : Ref sig .tc := ⟨.hbm, 73, rfl⟩
abbrev main_c_13 : Ref sig .tc := ⟨.hbm, 74, rfl⟩
abbrev main_v48 : Ref sig .tc := ⟨.hbm, 75, rfl⟩
abbrev main_v49 : Ref sig .tc := ⟨.hbm, 76, rfl⟩
abbrev main_c_14 : Ref sig .tc := ⟨.hbm, 77, rfl⟩
abbrev main_v50 : Ref sig .tc := ⟨.hbm, 78, rfl⟩
abbrev main_v51 : Ref sig .tc := ⟨.hbm, 79, rfl⟩
abbrev main_c_15 : Ref sig .tc := ⟨.hbm, 80, rfl⟩
abbrev main_v52 : Ref sig .tc := ⟨.hbm, 81, rfl⟩
abbrev main_v53 : Ref sig .tc := ⟨.hbm, 82, rfl⟩
abbrev main_c_16 : Ref sig .tc := ⟨.hbm, 83, rfl⟩
abbrev main_v54 : Ref sig .tc := ⟨.hbm, 84, rfl⟩
abbrev main_v55 : Ref sig .tc := ⟨.hbm, 85, rfl⟩
abbrev main_c_17 : Ref sig .tc := ⟨.hbm, 86, rfl⟩
abbrev main_v56 : Ref sig .tc := ⟨.hbm, 87, rfl⟩
abbrev main_v57 : Ref sig .tc := ⟨.hbm, 88, rfl⟩
abbrev main_c_18 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_19 : Ref sig .tc := ⟨.hbm, 104, rfl⟩
abbrev main_v72 : Ref sig .tc := ⟨.hbm, 105, rfl⟩
abbrev main_v73 : Ref sig .tc := ⟨.hbm, 106, rfl⟩
abbrev main_c_20 : Ref sig .tc := ⟨.hbm, 107, rfl⟩
abbrev main_v74 : Ref sig .tc := ⟨.hbm, 108, rfl⟩
abbrev main_v75 : Ref sig .tc := ⟨.hbm, 109, rfl⟩
abbrev main_c_21 : Ref sig .tc := ⟨.hbm, 110, rfl⟩
abbrev main_v76 : Ref sig .tc := ⟨.hbm, 111, rfl⟩
abbrev main_v77 : Ref sig .tc := ⟨.hbm, 112, rfl⟩
abbrev main_c_22 : Ref sig .tc := ⟨.hbm, 113, rfl⟩
abbrev main_v78 : Ref sig .tc := ⟨.hbm, 114, rfl⟩
abbrev main_v79 : Ref sig .tc := ⟨.hbm, 115, rfl⟩
abbrev main_c_23 : Ref sig .tc := ⟨.hbm, 116, rfl⟩
abbrev main_v80 : Ref sig .tc := ⟨.hbm, 117, rfl⟩
abbrev main_v81 : Ref sig .tc := ⟨.hbm, 118, rfl⟩
abbrev main_c_24 : Ref sig .tc := ⟨.hbm, 119, rfl⟩
abbrev main_v82 : Ref sig .tc := ⟨.hbm, 120, rfl⟩
abbrev main_v83 : Ref sig .tc := ⟨.hbm, 121, rfl⟩
abbrev main_c_25 : Ref sig .tc := ⟨.hbm, 122, rfl⟩
abbrev main_v84 : Ref sig .tc := ⟨.hbm, 123, rfl⟩
abbrev main_v85 : Ref sig .tc := ⟨.hbm, 124, rfl⟩
abbrev main_c_26 : Ref sig .tc := ⟨.hbm, 125, rfl⟩
abbrev main_v86 : Ref sig .tc := ⟨.hbm, 126, rfl⟩
abbrev main_v87 : Ref sig .tc := ⟨.hbm, 127, rfl⟩
abbrev main_c_27 : Ref sig .tc := ⟨.hbm, 128, rfl⟩
abbrev main_v88 : Ref sig .tc := ⟨.hbm, 129, rfl⟩
abbrev main_v89 : Ref sig .tc := ⟨.hbm, 130, rfl⟩
abbrev main_c_28 : Ref sig .tc := ⟨.hbm, 131, rfl⟩
abbrev main_v90 : Ref sig .tc := ⟨.hbm, 132, rfl⟩
abbrev main_v91 : Ref sig .tc := ⟨.hbm, 133, rfl⟩
abbrev main_c_29 : Ref sig .tc := ⟨.hbm, 134, rfl⟩
abbrev main_v92 : Ref sig .tc := ⟨.hbm, 135, rfl⟩
abbrev main_v93 : Ref sig .tc := ⟨.hbm, 136, rfl⟩
abbrev main_c_30 : Ref sig .tc := ⟨.hbm, 137, rfl⟩
abbrev main_v94 : Ref sig .tc := ⟨.hbm, 138, rfl⟩
abbrev main_v95 : Ref sig .tc := ⟨.hbm, 139, rfl⟩
abbrev main_c_31 : Ref sig .tc := ⟨.hbm, 140, rfl⟩
abbrev main_v96 : Ref sig .tc := ⟨.hbm, 141, rfl⟩
abbrev main_v97 : Ref sig .tc := ⟨.hbm, 142, rfl⟩
abbrev main_c_32 : Ref sig .tc := ⟨.hbm, 143, rfl⟩
abbrev main_v98 : Ref sig .tc := ⟨.hbm, 144, rfl⟩
abbrev main_v99 : Ref sig .tc := ⟨.hbm, 145, rfl⟩
abbrev main_c_33 : Ref sig .tc := ⟨.hbm, 146, rfl⟩
abbrev main_v100 : Ref sig .tc := ⟨.hbm, 147, rfl⟩
abbrev main_v101 : Ref sig .tc := ⟨.hbm, 148, rfl⟩
abbrev main_c_34 : Ref sig .tc := ⟨.hbm, 149, rfl⟩
abbrev main_v102 : Ref sig .tc := ⟨.hbm, 150, rfl⟩
abbrev main_v103 : Ref sig .tc := ⟨.hbm, 151, rfl⟩
abbrev main_v104 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_cst_35 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_36 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_c_37 : Ref sig .tc := ⟨.hbm, 185, rfl⟩
abbrev main_v135 : Ref sig .tc := ⟨.hbm, 186, rfl⟩
abbrev main_v136 : Ref sig .tc := ⟨.hbm, 187, rfl⟩
abbrev main_c_38 : Ref sig .tc := ⟨.hbm, 188, rfl⟩
abbrev main_v137 : Ref sig .tc := ⟨.hbm, 189, rfl⟩
abbrev main_v138 : Ref sig .tc := ⟨.hbm, 190, rfl⟩
abbrev main_c_39 : Ref sig .tc := ⟨.hbm, 191, rfl⟩
abbrev main_v139 : Ref sig .tc := ⟨.hbm, 192, rfl⟩
abbrev main_v140 : Ref sig .tc := ⟨.hbm, 193, rfl⟩
abbrev main_c_40 : Ref sig .tc := ⟨.hbm, 194, rfl⟩
abbrev main_v141 : Ref sig .tc := ⟨.hbm, 195, rfl⟩
abbrev main_v142 : Ref sig .tc := ⟨.hbm, 196, rfl⟩
abbrev main_c_41 : Ref sig .tc := ⟨.hbm, 197, rfl⟩
abbrev main_v143 : Ref sig .tc := ⟨.hbm, 198, rfl⟩
abbrev main_v144 : Ref sig .tc := ⟨.hbm, 199, rfl⟩
abbrev main_c_42 : Ref sig .tc := ⟨.hbm, 200, rfl⟩
abbrev main_v145 : Ref sig .tc := ⟨.hbm, 201, rfl⟩
abbrev main_v146 : Ref sig .tc := ⟨.hbm, 202, rfl⟩
abbrev main_c_43 : Ref sig .tc := ⟨.hbm, 203, rfl⟩
abbrev main_v147 : Ref sig .tc := ⟨.hbm, 204, rfl⟩
abbrev main_v148 : Ref sig .tc := ⟨.hbm, 205, rfl⟩
abbrev main_c_44 : Ref sig .tc := ⟨.hbm, 206, rfl⟩
abbrev main_v149 : Ref sig .tc := ⟨.hbm, 207, rfl⟩
abbrev main_v150 : Ref sig .tc := ⟨.hbm, 208, rfl⟩
abbrev main_c_45 : Ref sig .tc := ⟨.hbm, 209, rfl⟩
abbrev main_v151 : Ref sig .tc := ⟨.hbm, 210, rfl⟩
abbrev main_v152 : Ref sig .tc := ⟨.hbm, 211, rfl⟩
abbrev main_c_46 : Ref sig .tc := ⟨.hbm, 212, rfl⟩
abbrev main_v153 : Ref sig .tc := ⟨.hbm, 213, rfl⟩
abbrev main_v154 : Ref sig .tc := ⟨.hbm, 214, rfl⟩
abbrev main_c_47 : Ref sig .tc := ⟨.hbm, 215, rfl⟩
abbrev main_v155 : Ref sig .tc := ⟨.hbm, 216, rfl⟩
abbrev main_v156 : Ref sig .tc := ⟨.hbm, 217, rfl⟩
abbrev main_c_48 : Ref sig .tc := ⟨.hbm, 218, rfl⟩
abbrev main_v157 : Ref sig .tc := ⟨.hbm, 219, rfl⟩
abbrev main_v158 : Ref sig .tc := ⟨.hbm, 220, rfl⟩
abbrev main_c_49 : Ref sig .tc := ⟨.hbm, 221, rfl⟩
abbrev main_v159 : Ref sig .tc := ⟨.hbm, 222, rfl⟩
abbrev main_v160 : Ref sig .tc := ⟨.hbm, 223, rfl⟩
abbrev main_c_50 : Ref sig .tc := ⟨.hbm, 224, rfl⟩
abbrev main_v161 : Ref sig .tc := ⟨.hbm, 225, rfl⟩
abbrev main_v162 : Ref sig .tc := ⟨.hbm, 226, rfl⟩
abbrev main_c_51 : Ref sig .tc := ⟨.hbm, 227, rfl⟩
abbrev main_v163 : Ref sig .tc := ⟨.hbm, 228, rfl⟩
abbrev main_v164 : Ref sig .tc := ⟨.hbm, 229, rfl⟩
abbrev main_c_52 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_c_53 : Ref sig .tc := ⟨.hbm, 245, rfl⟩
abbrev main_v179 : Ref sig .tc := ⟨.hbm, 246, rfl⟩
abbrev main_v180 : Ref sig .tc := ⟨.hbm, 247, rfl⟩
abbrev main_c_54 : Ref sig .tc := ⟨.hbm, 248, rfl⟩
abbrev main_v181 : Ref sig .tc := ⟨.hbm, 249, rfl⟩
abbrev main_v182 : Ref sig .tc := ⟨.hbm, 250, rfl⟩
abbrev main_c_55 : Ref sig .tc := ⟨.hbm, 251, rfl⟩
abbrev main_v183 : Ref sig .tc := ⟨.hbm, 252, rfl⟩
abbrev main_v184 : Ref sig .tc := ⟨.hbm, 253, rfl⟩
abbrev main_c_56 : Ref sig .tc := ⟨.hbm, 254, rfl⟩
abbrev main_v185 : Ref sig .tc := ⟨.hbm, 255, rfl⟩
abbrev main_v186 : Ref sig .tc := ⟨.hbm, 256, rfl⟩
abbrev main_c_57 : Ref sig .tc := ⟨.hbm, 257, rfl⟩
abbrev main_v187 : Ref sig .tc := ⟨.hbm, 258, rfl⟩
abbrev main_v188 : Ref sig .tc := ⟨.hbm, 259, rfl⟩
abbrev main_c_58 : Ref sig .tc := ⟨.hbm, 260, rfl⟩
abbrev main_v189 : Ref sig .tc := ⟨.hbm, 261, rfl⟩
abbrev main_v190 : Ref sig .tc := ⟨.hbm, 262, rfl⟩
abbrev main_c_59 : Ref sig .tc := ⟨.hbm, 263, rfl⟩
abbrev main_v191 : Ref sig .tc := ⟨.hbm, 264, rfl⟩
abbrev main_v192 : Ref sig .tc := ⟨.hbm, 265, rfl⟩
abbrev main_c_60 : Ref sig .tc := ⟨.hbm, 266, rfl⟩
abbrev main_v193 : Ref sig .tc := ⟨.hbm, 267, rfl⟩
abbrev main_v194 : Ref sig .tc := ⟨.hbm, 268, rfl⟩
abbrev main_c_61 : Ref sig .tc := ⟨.hbm, 269, rfl⟩
abbrev main_v195 : Ref sig .tc := ⟨.hbm, 270, rfl⟩
abbrev main_v196 : Ref sig .tc := ⟨.hbm, 271, rfl⟩
abbrev main_c_62 : Ref sig .tc := ⟨.hbm, 272, rfl⟩
abbrev main_v197 : Ref sig .tc := ⟨.hbm, 273, rfl⟩
abbrev main_v198 : Ref sig .tc := ⟨.hbm, 274, rfl⟩
abbrev main_c_63 : Ref sig .tc := ⟨.hbm, 275, rfl⟩
abbrev main_v199 : Ref sig .tc := ⟨.hbm, 276, rfl⟩
abbrev main_v200 : Ref sig .tc := ⟨.hbm, 277, rfl⟩
abbrev main_c_64 : Ref sig .tc := ⟨.hbm, 278, rfl⟩
abbrev main_v201 : Ref sig .tc := ⟨.hbm, 279, rfl⟩
abbrev main_v202 : Ref sig .tc := ⟨.hbm, 280, rfl⟩
abbrev main_c_65 : Ref sig .tc := ⟨.hbm, 281, rfl⟩
abbrev main_v203 : Ref sig .tc := ⟨.hbm, 282, rfl⟩
abbrev main_v204 : Ref sig .tc := ⟨.hbm, 283, rfl⟩
abbrev main_c_66 : Ref sig .tc := ⟨.hbm, 284, rfl⟩
abbrev main_v205 : Ref sig .tc := ⟨.hbm, 285, rfl⟩
abbrev main_v206 : Ref sig .tc := ⟨.hbm, 286, rfl⟩
abbrev main_c_67 : Ref sig .tc := ⟨.hbm, 287, rfl⟩
abbrev main_v207 : Ref sig .tc := ⟨.hbm, 288, rfl⟩
abbrev main_v208 : Ref sig .tc := ⟨.hbm, 289, rfl⟩
abbrev main_c_68 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩

abbrev nD : Nat := 1
abbrev τ : Topo := Topo.v7x

variable {F : FTy → Type} [FloatOps F]
-- ==== AsmIdeal.lean ====
variable {F : FTy → Type} [FloatOps F] [Named F]
def κ : String → Option EReal := fun
  | "inv_d" => some ((1 / 5120 : ℝ) : EReal)
  | _ => none
-- ==== Asm.lean ====
abbrev S12288 : Shape := ⟨1, ![12288]⟩
abbrev S10752x5120 : Shape := ⟨2, ![10752, 5120]⟩
abbrev S37919x5120 : Shape := ⟨2, ![37919, 5120]⟩
abbrev S384x1x32 : Shape := ⟨3, ![384, 1, 32]⟩
abbrev S1x5120 : Shape := ⟨2, ![1, 5120]⟩
abbrev S12288x5120 : Shape := ⟨2, ![12288, 5120]⟩
abbrev S96x128 : Shape := ⟨2, ![96, 128]⟩
abbrev S1x1x32 : Shape := ⟨3, ![1, 1, 32]⟩
abbrev S32x5120 : Shape := ⟨2, ![32, 5120]⟩
abbrev S2x40x5120 : Shape := ⟨3, ![2, 40, 5120]⟩
abbrev S2x32x8x5120 : Shape := ⟨4, ![2, 32, 8, 5120]⟩
abbrev S2 : Shape := ⟨1, ![2]⟩
abbrev S1 : Shape := ⟨1, ![1]⟩
abbrev S_ : Shape := ⟨0, ![]⟩
abbrev S1x40x5120 : Shape := ⟨3, ![1, 40, 5120]⟩
abbrev S40x5120 : Shape := ⟨2, ![40, 5120]⟩
abbrev S1x1x8x5120 : Shape := ⟨4, ![1, 1, 8, 5120]⟩
abbrev S8x5120 : Shape := ⟨2, ![8, 5120]⟩
abbrev S32x1 : Shape := ⟨2, ![32, 1]⟩
abbrev S1x32x5120 : Shape := ⟨3, ![1, 32, 5120]⟩
abbrev S2x5120 : Shape := ⟨2, ![2, 5120]⟩
abbrev S1x1x5120 : Shape := ⟨3, ![1, 1, 5120]⟩
abbrev S32x32 : Shape := ⟨2, ![32, 32]⟩
abbrev S1x32 : Shape := ⟨2, ![1, 32]⟩
abbrev S32 : Shape := ⟨1, ![32]⟩
abbrev S32x128 : Shape := ⟨2, ![32, 128]⟩
abbrev S128 : Shape := ⟨1, ![128]⟩
abbrev S1x128 : Shape := ⟨2, ![1, 128]⟩

abbrev nBuf : Space → Nat
  | .hbm => 7
  | .vmem => 11
  | .smem => 2
  | _ => 0

abbrev bufTy : (tb : Table) → Fin (tcTables nBuf tb) → BufTy
  | .hbm, ⟨0, _⟩ => ⟨S10752x5120, .f32⟩
  | .hbm, ⟨1, _⟩ => ⟨S37919x5120, .i8⟩
  | .hbm, ⟨2, _⟩ => ⟨S384x1x32, .f32⟩
  | .hbm, ⟨3, _⟩ => ⟨S1x5120, .f32⟩
  | .hbm, ⟨4, _⟩ => ⟨S12288x5120, .fp8e4m3⟩
  | .hbm, ⟨5, _⟩ => ⟨S12288x5120, .bf16⟩
  | .hbm, ⟨6, _⟩ => ⟨S96x128, .f32⟩
  | .local _ .vmem, ⟨0, _⟩ => ⟨S1x1x32, .f32⟩
  | .local _ .vmem, ⟨1, _⟩ => ⟨S1x1x32, .f32⟩
  | .local _ .vmem, ⟨2, _⟩ => ⟨S1x5120, .f32⟩
  | .local _ .vmem, ⟨3, _⟩ => ⟨S32x5120, .fp8e4m3⟩
  | .local _ .vmem, ⟨4, _⟩ => ⟨S32x5120, .fp8e4m3⟩
  | .local _ .vmem, ⟨5, _⟩ => ⟨S32x5120, .bf16⟩
  | .local _ .vmem, ⟨6, _⟩ => ⟨S32x5120, .bf16⟩
  | .local _ .vmem, ⟨7, _⟩ => ⟨S96x128, .f32⟩
  | .local _ .vmem, ⟨8, _⟩ => ⟨S2x40x5120, .f32⟩
  | .local _ .vmem, ⟨9, _⟩ => ⟨S2x40x5120, .f32⟩
  | .local _ .vmem, ⟨10, _⟩ => ⟨S2x32x8x5120, .i8⟩
  | .local _ .smem, ⟨0, _⟩ => ⟨S12288, .i32⟩
  | .local _ .smem, ⟨1, _⟩ => ⟨S12288, .i32⟩
  | _, _ => ⟨S10752x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![384], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_off1 (i : grid0.Coords) : Fin 1 → Nat :=
  let arg0 : BitVec 32 := BitVec.ofNat 32 (i 0).val
  let c32_i32_91 : BitVec 32 := 32#32
  let v191 : BitVec 32 := Scalar.muli arg0 c32_i32_91
  let v192 : Index := Scalar.indexCast v191
  ![v192.toNat]
def k0_off2 (i : grid0.Coords) : Fin 1 → Nat :=
  let arg0 : BitVec 32 := BitVec.ofNat 32 (i 0).val
  let c32_i32_92 : BitVec 32 := 32#32
  let v194 : BitVec 32 := Scalar.muli arg0 c32_i32_92
  let c32_i32_93 : BitVec 32 := 32#32
  let v195 : BitVec 32 := Scalar.addi v194 c32_i32_93
  let c1_i32_94 : BitVec 32 := 1#32
  let v196 : BitVec 32 := Scalar.subi v195 c1_i32_94
  let v197 : Index := Scalar.indexCast v196
  ![v197.toNat]
def k0_mult1 (v193 : BitVec 32) : BitVec 32 :=
  let c10712_i32_110 : BitVec 32 := 10712#32
  let c0_i32_109 : BitVec 32 := 0#32
  let c0_i32_106 : BitVec 32 := 0#32
  let v211 : BitVec 32 := Scalar.maxsi v193 c0_i32_106
  let c_m8_i32_108 : BitVec 32 := 4294967288#32
  let v213 : BitVec 32 := Scalar.andi v211 c_m8_i32_108
  let v214 : BitVec 32 := Scalar.maxsi c0_i32_109 v213
  let v215 : BitVec 32 := Scalar.minsi c10712_i32_110 v214
  v215

def k0_mult2 (v198 : BitVec 32) : BitVec 32 :=
  let c10712_i32_113 : BitVec 32 := 10712#32
  let c0_i32_112 : BitVec 32 := 0#32
  let c31_i32_107 : BitVec 32 := 31#32
  let v212 : BitVec 32 := Scalar.subi v198 c31_i32_107
  let c_m8_i32_111 : BitVec 32 := 4294967288#32
  let v217 : BitVec 32 := Scalar.andi v212 c_m8_i32_111
  let v218 : BitVec 32 := Scalar.maxsi c0_i32_112 v217
  let v219 : BitVec 32 := Scalar.minsi c10712_i32_113 v218
  v219

def k0_off3 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off4 (i : grid0.Coords) : Fin 3 → Nat :=
  let arg0 : BitVec 32 := BitVec.ofNat 32 (i 0).val
  let c1_i32 : BitVec 32 := 1#32
  let v0 : BitVec 32 := Scalar.andi arg0 c1_i32
  let c0_i32_127 : BitVec 32 := 0#32
  let c0_i32_128 : BitVec 32 := 0#32
  ![v0.toNat, 0, 0]
def k0_off5 (v193 : BitVec 32) : Fin 2 → Nat :=
  let c10712_i32_110 : BitVec 32 := 10712#32
  let c0_i32_109 : BitVec 32 := 0#32
  let c0_i32_106 : BitVec 32 := 0#32
  let v211 : BitVec 32 := Scalar.maxsi v193 c0_i32_106
  let c_m8_i32_108 : BitVec 32 := 4294967288#32
  let v213 : BitVec 32 := Scalar.andi v211 c_m8_i32_108
  let v214 : BitVec 32 := Scalar.maxsi c0_i32_109 v213
  let v215 : BitVec 32 := Scalar.minsi c10712_i32_110 v214
  let v216 : BitVec 32 := v215
  let c0_i32_129 : BitVec 32 := 0#32
  ![v216.toNat, 0]
def k0_cond2 (v193 : BitVec 32) : BitVec 1 :=
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c0_i32_114 : BitVec 32 := 0#32
  let v221 : BitVec 1 := Scalar.cmpi .sgt v203 c0_i32_114
  let v222 : BitVec 32 := Scalar.extui v221
  let c0_i32_115 : BitVec 32 := 0#32
  let v223 : BitVec 1 := Scalar.cmpi .ne v222 c0_i32_115
  v223

def k0_chk1 (i : grid0.Coords) (v193 : BitVec 32) : Prop :=
  (∀ (k0_h1 : k0_cond1 i = 1#1), 8 ∣ (k0_mult1 v193).toNat) ∧
  (∀ (k0_h1 : k0_cond1 i = 1#1), ∀ (k0_h2 : k0_cond2 v193 = 1#1), ∀ a, (k0_off5 v193) a + S40x5120.size a ≤ S10752x5120.size a)
theorem k0_mult1_dvd : ∀ (i : grid0.Coords) (v193 : BitVec 32) (k0_hw1 : k0_chk1 i v193), ∀ (k0_h1 : k0_cond1 i = 1#1), 8 ∣ (k0_mult1 v193).toNat := fun i v193 k0_hw1 k0_h1 => k0_hw1.1 k0_h1
theorem k0_off5_inb : ∀ (i : grid0.Coords) (v193 : BitVec 32) (k0_hw1 : k0_chk1 i v193), ∀ (k0_h1 : k0_cond1 i = 1#1), ∀ (k0_h2 : k0_cond2 v193 = 1#1), ∀ a, (k0_off5 v193) a + S40x5120.size a ≤ S10752x5120.size a := fun i v193 k0_hw1 k0_h1 k0_h2 => k0_hw1.2 k0_h1 k0_h2

def k0_off6 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off7 (i : grid0.Coords) : Fin 3 → Nat :=
  let arg0 : BitVec 32 := BitVec.ofNat 32 (i 0).val
  let c1_i32 : BitVec 32 := 1#32
  let v0 : BitVec 32 := Scalar.andi arg0 c1_i32
  let c0_i32_127 : BitVec 32 := 0#32
  let c0_i32_128 : BitVec 32 := 0#32
  ![v0.toNat, 0, 0]
def k0_off8 (v198 : BitVec 32) : Fin 2 → Nat :=
  let c10712_i32_113 : BitVec 32 := 10712#32
  let c0_i32_112 : BitVec 32 := 0#32
  let c31_i32_107 : BitVec 32 := 31#32
  let v212 : BitVec 32 := Scalar.subi v198 c31_i32_107
  let c_m8_i32_111 : BitVec 32 := 4294967288#32
  let v217 : BitVec 32 := Scalar.andi v212 c_m8_i32_111
  let v218 : BitVec 32 := Scalar.maxsi c0_i32_112 v217
  let v219 : BitVec 32 := Scalar.minsi c10712_i32_113 v218
  let v220 : BitVec 32 := v219
  let c0_i32_129 : BitVec 32 := 0#32
  ![v220.toNat, 0]
def k0_cond3 (v193 : BitVec 32) (v198 : BitVec 32) : BitVec 1 :=
  let c0_i32_100 : BitVec 32 := 0#32
  let v204 : BitVec 1 := Scalar.cmpi .sge v198 c0_i32_100
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c32_i32_101 : BitVec 32 := 32#32
  let v205 : BitVec 1 := Scalar.cmpi .slt v203 c32_i32_101
  let v206 : BitVec 1 := Scalar.andi v204 v205
  let c32_i32_104 : BitVec 32 := 32#32
  let c255_i32_102 : BitVec 32 := 255#32
  let v207 : BitVec 32 := Scalar.andi v198 c255_i32_102
  let c1_i32_103 : BitVec 32 := 1#32
  let v208 : BitVec 32 := Scalar.addi v207 c1_i32_103
  let v209 : BitVec 32 := Scalar.minsi c32_i32_104 v208
  let c0_i32_105 : BitVec 32 := 0#32
  let v210 : BitVec 32 := Scalar.select v206 v209 c0_i32_105
  let c0_i32_116 : BitVec 32 := 0#32
  let v224 : BitVec 1 := Scalar.cmpi .sgt v210 c0_i32_116
  let v225 : BitVec 32 := Scalar.extui v224
  let c0_i32_117 : BitVec 32 := 0#32
  let v226 : BitVec 1 := Scalar.cmpi .ne v225 c0_i32_117
  v226

@[reducible] def k0_t1_loop (v193 : BitVec 32) (v198 : BitVec 32) : Scf.Loop 32 :=
  let c0_i32_123 : BitVec 32 := 0#32
  let c32_i32_118 : BitVec 32 := 32#32
  let c0_i32_100 : BitVec 32 := 0#32
  let v204 : BitVec 1 := Scalar.cmpi .sge v198 c0_i32_100
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c32_i32_101 : BitVec 32 := 32#32
  let v205 : BitVec 1 := Scalar.cmpi .slt v203 c32_i32_101
  let v206 : BitVec 1 := Scalar.andi v204 v205
  let c32_i32_104 : BitVec 32 := 32#32
  let c255_i32_102 : BitVec 32 := 255#32
  let v207 : BitVec 32 := Scalar.andi v198 c255_i32_102
  let c1_i32_103 : BitVec 32 := 1#32
  let v208 : BitVec 32 := Scalar.addi v207 c1_i32_103
  let v209 : BitVec 32 := Scalar.minsi c32_i32_104 v208
  let c0_i32_105 : BitVec 32 := 0#32
  let v210 : BitVec 32 := Scalar.select v206 v209 c0_i32_105
  let v227 : BitVec 32 := Scalar.subi c32_i32_118 v210
  let v228 : BitVec 32 := Scalar.subi v227 v203
  let c1_i32_119 : BitVec 32 := 1#32
  let c1_i32_120 : BitVec 32 := 1#32
  let v229 : BitVec 32 := Scalar.subi c1_i32_119 c1_i32_120
  let v230 : BitVec 32 := Scalar.addi v228 v229
  let c1_i32_121 : BitVec 32 := 1#32
  let v231 : BitVec 32 := Scalar.divsi v230 c1_i32_121
  let v232 : BitVec 32 := Scalar.subi v231 c0_i32_123
  let c1_i32_124 : BitVec 32 := 1#32
  let v234 : BitVec 32 := Scalar.divsi v232 c1_i32_124
  let v235 : BitVec 32 := Scalar.muli v234 c1_i32_124
  let v236 : BitVec 32 := Scalar.addi c0_i32_123 v235
  let c1_i32_125 : BitVec 32 := 1#32
  ⟨c0_i32_123, v236, c1_i32_125⟩
def k0_off9 (i : grid0.Coords) (v193 : BitVec 32) (v198 : BitVec 32) (k0_t1 : Fin (k0_t1_loop v193 v198).trips) : Fin 1 → Nat :=
  let arg0 : BitVec 32 := BitVec.ofNat 32 (i 0).val
  let c32_i32_127 : BitVec 32 := 32#32
  let v239 : BitVec 32 := Scalar.muli arg0 c32_i32_127
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c0_i32_123 : BitVec 32 := 0#32
  let c1_i32_125 : BitVec 32 := 1#32
  let arg16 : BitVec 32 := Scf.iv c0_i32_123 c1_i32_125 k0_t1
  let c1_i32_122 : BitVec 32 := 1#32
  let v237 : BitVec 32 := Scalar.muli arg16 c1_i32_122
  let v238 : BitVec 32 := Scalar.addi v203 v237
  let v240 : BitVec 32 := Scalar.addi v239 v238
  let v241 : Index := Scalar.indexCast v240
  ![v241.toNat]
def k0_mult3 (v242 : BitVec 32) : BitVec 32 :=
  let c_m8_i32_128 : BitVec 32 := 4294967288#32
  let v243 : BitVec 32 := Scalar.andi v242 c_m8_i32_128
  v243

def k0_off10 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off11 (i : grid0.Coords) (v193 : BitVec 32) (v198 : BitVec 32) (k0_t1 : Fin (k0_t1_loop v193 v198).trips) : Fin 4 → Nat :=
  let arg0 : BitVec 32 := BitVec.ofNat 32 (i 0).val
  let c1_i32 : BitVec 32 := 1#32
  let v0 : BitVec 32 := Scalar.andi arg0 c1_i32
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c0_i32_123 : BitVec 32 := 0#32
  let c1_i32_125 : BitVec 32 := 1#32
  let arg16 : BitVec 32 := Scf.iv c0_i32_123 c1_i32_125 k0_t1
  let c1_i32_122 : BitVec 32 := 1#32
  let v237 : BitVec 32 := Scalar.muli arg16 c1_i32_122
  let v238 : BitVec 32 := Scalar.addi v203 v237
  let c0_i32_129 : BitVec 32 := 0#32
  let c0_i32_130 : BitVec 32 := 0#32
  ![v0.toNat, v238.toNat, 0, 0]
def k0_off12 (v242 : BitVec 32) : Fin 2 → Nat :=
  let c_m8_i32_128 : BitVec 32 := 4294967288#32
  let v243 : BitVec 32 := Scalar.andi v242 c_m8_i32_128
  let v244 : BitVec 32 := v243
  let c0_i32_131 : BitVec 32 := 0#32
  ![v244.toNat, 0]

def k0_chk3 (i : grid0.Coords) (v242 : BitVec 32) : Prop :=
  (∀ (k0_h1 : k0_cond1 i = 1#1), 8 ∣ (k0_mult3 v242).toNat) ∧
  (∀ (k0_h1 : k0_cond1 i = 1#1), ∀ a, (k0_off12 v242) a + S8x5120.size a ≤ S37919x5120.size a) ∧
  (∀ (k0_h1 : k0_cond1 i = 1#1), ∀ (hinb : ∀ a, (k0_off12 v242) a + S8x5120.size a ≤ S37919x5120.size a), (Rect.unit (s := S37919x5120) (k0_off12 v242) S8x5120.size hinb).WholeWords (EltTy.packing .i8))
theorem k0_mult3_dvd : ∀ (i : grid0.Coords) (v242 : BitVec 32) (k0_hw3 : k0_chk3 i v242), ∀ (k0_h1 : k0_cond1 i = 1#1), 8 ∣ (k0_mult3 v242).toNat := fun i v242 k0_hw3 k0_h1 => k0_hw3.1 k0_h1
theorem k0_off12_inb : ∀ (i : grid0.Coords) (v242 : BitVec 32) (k0_hw3 : k0_chk3 i v242), ∀ (k0_h1 : k0_cond1 i = 1#1), ∀ a, (k0_off12 v242) a + S8x5120.size a ≤ S37919x5120.size a := fun i v242 k0_hw3 k0_h1 => k0_hw3.2.1 k0_h1
theorem k0_off12_wordsi8 : ∀ (i : grid0.Coords) (v242 : BitVec 32) (k0_hw3 : k0_chk3 i v242), ∀ (k0_h1 : k0_cond1 i = 1#1), (Rect.unit (s := S37919x5120) (k0_off12 v242) S8x5120.size (k0_off12_inb i v242 k0_hw3 k0_h1)).WholeWords (EltTy.packing .i8) := fun i v242 k0_hw3 k0_h1 => k0_hw3.2.2 k0_h1 (k0_off12_inb i v242 k0_hw3 k0_h1)

@[reducible] def k0_t2_loop (v193 : BitVec 32) (v198 : BitVec 32) : Scf.Loop 32 :=
  let c0_i32_123 : BitVec 32 := 0#32
  let c32_i32_118 : BitVec 32 := 32#32
  let c0_i32_100 : BitVec 32 := 0#32
  let v204 : BitVec 1 := Scalar.cmpi .sge v198 c0_i32_100
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c32_i32_101 : BitVec 32 := 32#32
  let v205 : BitVec 1 := Scalar.cmpi .slt v203 c32_i32_101
  let v206 : BitVec 1 := Scalar.andi v204 v205
  let c32_i32_104 : BitVec 32 := 32#32
  let c255_i32_102 : BitVec 32 := 255#32
  let v207 : BitVec 32 := Scalar.andi v198 c255_i32_102
  let c1_i32_103 : BitVec 32 := 1#32
  let v208 : BitVec 32 := Scalar.addi v207 c1_i32_103
  let v209 : BitVec 32 := Scalar.minsi c32_i32_104 v208
  let c0_i32_105 : BitVec 32 := 0#32
  let v210 : BitVec 32 := Scalar.select v206 v209 c0_i32_105
  let v227 : BitVec 32 := Scalar.subi c32_i32_118 v210
  let v228 : BitVec 32 := Scalar.subi v227 v203
  let c1_i32_119 : BitVec 32 := 1#32
  let c1_i32_120 : BitVec 32 := 1#32
  let v229 : BitVec 32 := Scalar.subi c1_i32_119 c1_i32_120
  let v230 : BitVec 32 := Scalar.addi v228 v229
  let c1_i32_121 : BitVec 32 := 1#32
  let v231 : BitVec 32 := Scalar.divsi v230 c1_i32_121
  let v232 : BitVec 32 := Scalar.subi v231 c0_i32_123
  let c1_i32_124 : BitVec 32 := 1#32
  let v234 : BitVec 32 := Scalar.divsi v232 c1_i32_124
  let v235 : BitVec 32 := Scalar.muli v234 c1_i32_124
  let v236 : BitVec 32 := Scalar.addi c0_i32_123 v235
  let v233 : BitVec 32 := Scalar.addi c0_i32_123 v232
  let c1_i32_126 : BitVec 32 := 1#32
  ⟨v236, v233, c1_i32_126⟩
def k0_off13 (i : grid0.Coords) (v193 : BitVec 32) (v198 : BitVec 32) (k0_t2 : Fin (k0_t2_loop v193 v198).trips) : Fin 1 → Nat :=
  let arg0 : BitVec 32 := BitVec.ofNat 32 (i 0).val
  let c32_i32_127 : BitVec 32 := 32#32
  let v239 : BitVec 32 := Scalar.muli arg0 c32_i32_127
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c0_i32_123 : BitVec 32 := 0#32
  let c32_i32_118 : BitVec 32 := 32#32
  let c0_i32_100 : BitVec 32 := 0#32
  let v204 : BitVec 1 := Scalar.cmpi .sge v198 c0_i32_100
  let c32_i32_101 : BitVec 32 := 32#32
  let v205 : BitVec 1 := Scalar.cmpi .slt v203 c32_i32_101
  let v206 : BitVec 1 := Scalar.andi v204 v205
  let c32_i32_104 : BitVec 32 := 32#32
  let c255_i32_102 : BitVec 32 := 255#32
  let v207 : BitVec 32 := Scalar.andi v198 c255_i32_102
  let c1_i32_103 : BitVec 32 := 1#32
  let v208 : BitVec 32 := Scalar.addi v207 c1_i32_103
  let v209 : BitVec 32 := Scalar.minsi c32_i32_104 v208
  let c0_i32_105 : BitVec 32 := 0#32
  let v210 : BitVec 32 := Scalar.select v206 v209 c0_i32_105
  let v227 : BitVec 32 := Scalar.subi c32_i32_118 v210
  let v228 : BitVec 32 := Scalar.subi v227 v203
  let c1_i32_119 : BitVec 32 := 1#32
  let c1_i32_120 : BitVec 32 := 1#32
  let v229 : BitVec 32 := Scalar.subi c1_i32_119 c1_i32_120
  let v230 : BitVec 32 := Scalar.addi v228 v229
  let c1_i32_121 : BitVec 32 := 1#32
  let v231 : BitVec 32 := Scalar.divsi v230 c1_i32_121
  let v232 : BitVec 32 := Scalar.subi v231 c0_i32_123
  let c1_i32_124 : BitVec 32 := 1#32
  let v234 : BitVec 32 := Scalar.divsi v232 c1_i32_124
  let v235 : BitVec 32 := Scalar.muli v234 c1_i32_124
  let v236 : BitVec 32 := Scalar.addi c0_i32_123 v235
  let c1_i32_126 : BitVec 32 := 1#32
  let arg16 : BitVec 32 := Scf.iv v236 c1_i32_126 k0_t2
  let c1_i32_122 : BitVec 32 := 1#32
  let v237 : BitVec 32 := Scalar.muli arg16 c1_i32_122
  let v238 : BitVec 32 := Scalar.addi v203 v237
  let v240 : BitVec 32 := Scalar.addi v239 v238
  let v241 : Index := Scalar.indexCast v240
  ![v241.toNat]
def k0_mult4 (v242 : BitVec 32) : BitVec 32 :=
  let c_m8_i32_128 : BitVec 32 := 4294967288#32
  let v243 : BitVec 32 := Scalar.andi v242 c_m8_i32_128
  v243

def k0_off14 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off15 (i : grid0.Coords) (v193 : BitVec 32) (v198 : BitVec 32) (k0_t2 : Fin (k0_t2_loop v193 v198).trips) : Fin 4 → Nat :=
  let arg0 : BitVec 32 := BitVec.ofNat 32 (i 0).val
  let c1_i32 : BitVec 32 := 1#32
  let v0 : BitVec 32 := Scalar.andi arg0 c1_i32
  let c0_i32_95 : BitVec 32 := 0#32
  let v199 : BitVec 1 := Scalar.cmpi .sge v193 c0_i32_95
  let c32_i32_98 : BitVec 32 := 32#32
  let c256_i32_97 : BitVec 32 := 256#32
  let c255_i32_96 : BitVec 32 := 255#32
  let v200 : BitVec 32 := Scalar.andi v193 c255_i32_96
  let v201 : BitVec 32 := Scalar.subi c256_i32_97 v200
  let v202 : BitVec 32 := Scalar.minsi c32_i32_98 v201
  let c0_i32_99 : BitVec 32 := 0#32
  let v203 : BitVec 32 := Scalar.select v199 v202 c0_i32_99
  let c0_i32_123 : BitVec 32 := 0#32
  let c32_i32_118 : BitVec 32 := 32#32
  let c0_i32_100 : BitVec 32 := 0#32
  let v204 : BitVec 1 := Scalar.cmpi .sge v198 c0_i32_100
  let c32_i32_101 : BitVec 32 := 32#32
  let v205 : BitVec 1 := Scalar.cmpi .slt v203 c32_i32_101
  let v206 : BitVec 1 := Scalar.andi v204 v205
  let c32_i32_104 : BitVec 32 := 32#32
  let c255_i32_102 : BitVec 32 := 255#32
  let v207 : BitVec 32 := Scalar.andi v198 c255_i32_102
  let c1_i32_103 : BitVec 32 := 1#32
  let v208 : BitVec 32 := Scalar.addi v207 c1_i32_103
  let v209 : BitVec 32 := Scalar.minsi c32_i32_104 v208
  let c0_i32_105 : BitVec 32 := 0#32
  let v210 : BitVec 32 := Scalar.select v206 v209 c0_i32_105
  let v227 : BitVec 32 := Scalar.subi c32_i32_118 v210
  let v228 : BitVec 32 := Scalar.subi v227 v203
  let c1_i32_119 : BitVec 32 := 1#32
  let c1_i32_120 : BitVec 32 := 1#32
  let v229 : BitVec 32 := Scalar.subi c1_i32_119 c1_i32_120
  let v230 : BitVec 32 := Scalar.addi v228 v229
  let c1_i32_121 : BitVec 32 := 1#32
  let v231 : BitVec 32 := Scalar.divsi v230 c1_i32_121
  let v232 : BitVec 32 := Scalar.subi v231 c0_i32_123
  let c1_i32_124 : BitVec 32 := 1#32
  let v234 : BitVec 32 := Scalar.divsi v232 c1_i32_124
  let v235 : BitVec 32 := Scalar.muli v234 c1_i32_124
  let v236 : BitVec 32 := Scalar.addi c0_i32_123 v235
  let c1_i32_126 : BitVec 32 := 1#32
  let arg16 : BitVec 32 := Scf.iv v236 c1_i32_126 k0_t2
  let c1_i32_122 : BitVec 32 := 1#32
  let v237 : BitVec 32 := Scalar.muli arg16 c1_i32_122
  let v238 : BitVec 32 := Scalar.addi v203 v237
  let c0_i32_129 : BitVec 32 := 0#32
  let c0_i32_130 : BitVec 32 := 0#32
  ![v0.toNat, v238.toNat, 0, 0]
def k0_off16 (v242 : BitVec 32) : Fin 2 → Nat :=
  let c_m8_i32_128 : BitVec 32 := 4294967288#32
  let v243 : BitVec 32 := Scalar.andi v242 c_m8_i32_128
  let v244 : BitVec 32 := v243
  let c0_i32_131 : BitVec 32 := 0#32
  ![v244.toNat, 0]

def k0_chk4 (i : grid0.Coords) (v242 : BitVec 32) : Prop :=
  (∀ (k0_h1 : k0_cond1 i = 1#1), 8 ∣ (k0_mult4 v242).toNat) ∧
  (∀ (k0_h1 : k0_cond1 i = 1#1), ∀ a, (k0_off16 v242) a + S8x5120.size a ≤ S37919x5120.size a) ∧
  (∀ (k0_h1 : k0_cond1 i = 1#1), ∀ (hinb : ∀ a, (k0_off16 v242) a + S8x5120.size a ≤ S37919x5120.size a), (Rect.unit (s := S37919x5120) (k0_off16 v242) S8x5120.size hinb).WholeWords (EltTy.packing .i8))
theorem k0_mult4_dvd : ∀ (i : grid0.Coords) (v242 : BitVec 32) (k0_hw4 : k0_chk4 i v242), ∀ (k0_h1 : k0_cond1 i = 1#1), 8 ∣ (k0_mult4 v242).toNat := fun i v242 k0_hw4 k0_h1 => k0_hw4.1 k0_h1
theorem k0_off16_inb : ∀ (i : grid0.Coords) (v242 : BitVec 32) (k0_hw4 : k0_chk4 i v242), ∀ (k0_h1 : k0_cond1 i = 1#1), ∀ a, (k0_off16 v242) a + S8x5120.size a ≤ S37919x5120.size a := fun i v242 k0_hw4 k0_h1 => k0_hw4.2.1 k0_h1
theorem k0_off16_wordsi8 : ∀ (i : grid0.Coords) (v242 : BitVec 32) (k0_hw4 : k0_chk4 i v242), ∀ (k0_h1 : k0_cond1 i = 1#1), (Rect.unit (s := S37919x5120) (k0_off16 v242) S8x5120.size (k0_off16_inb i v242 k0_hw4 k0_h1)).WholeWords (EltTy.packing .i8) := fun i v242 k0_hw4 k0_h1 => k0_hw4.2.2 k0_h1 (k0_off16_inb i v242 k0_hw4 k0_h1)

def k0_chk2 (i : grid0.Coords) (v193 : BitVec 32) (v198 : BitVec 32) : Prop :=
  (∀ (k0_h1 : k0_cond1 i = 1#1), 8 ∣ (k0_mult2 v198).toNat) ∧
  (∀ (k0_h1 : k0_cond1 i = 1#1), ∀ (k0_h3 : k0_cond3 v193 v198 = 1#1), ∀ a, (k0_off8 v198) a + S40x5120.size a ≤ S10752x5120.size a) ∧
  (∀ (k0_h1 : k0_cond1 i = 1#1), (k0_t1_loop v193 v198).OK) ∧
  (∀ k0_t1 : Fin (k0_t1_loop v193 v198).trips, ∀ (k0_h1 : k0_cond1 i = 1#1), ∀ a, (k0_off9 i v193 v198 k0_t1) a + S1.size a ≤ S12288.size a) ∧
  (∀ k0_t1 : Fin (k0_t1_loop v193 v198).trips, ∀ (k0_h1 : k0_cond1 i = 1#1), ∀ a, (k0_off11 i v193 v198 k0_t1) a + S1x1x8x5120.size a ≤ S2x32x8x5120.size a) ∧
  (∀ k0_t1 : Fin (k0_t1_loop v193 v198).trips, ∀ (k0_h1 : k0_cond1 i = 1#1), ∀ (hinb : ∀ a, (k0_off11 i v193 v198 k0_t1) a + S1x1x8x5120.size a ≤ S2x32x8x5120.size a), (Rect.unit (s := S2x32x8x5120) (k0_off11 i v193 v198 k0_t1) S1x1x8x5120.size hinb).WholeWords (EltTy.packing .i8)) ∧
  (∀ (k0_h1 : k0_cond1 i = 1#1), (k0_t2_loop v193 v198).OK) ∧
  (∀ k0_t2 : Fin (k0_t2_loop v193 v198).trips, ∀ (k0_h1 : k0_cond1 i = 1#1), ∀ a, (k0_off13 i v193 v198 k0_t2) a + S1.size a ≤ S12288.size a) ∧
  (∀ k0_t2 : Fin (k0_t2_loop v193 v198).trips, ∀ (k0_h1 : k0_cond1 i = 1#1), ∀ a, (k0_off15 i v193 v198 k0_t2) a + S1x1x8x5120.size a ≤ S2x32x8x5120.size a) ∧
  (∀ k0_t2 : Fin (k0_t2_loop v193 v198).trips, ∀ (k0_h1 : k0_cond1 i = 1#1), ∀ (hinb : ∀ a, (k0_off15 i v193 v198 k0_t2) a + S1x1x8x5120.size a ≤ S2x32x8x5120.size a), (Rect.unit (s := S2x32x8x5120) (k0_off15 i v193 v198 k0_t2) S1x1x8x5120.size hinb).WholeWords (EltTy.packing .i8))
theorem k0_mult2_dvd : ∀ (i : grid0.Coords) (v193 : BitVec 32) (v198 : BitVec 32) (k0_hw2 : k0_chk2 i v193 v198), ∀ (k0_h1 : k0_cond1 i = 1#1), 8 ∣ (k0_mult2 v198).toNat := fun i v193 v198 k0_hw2 k0_h1 => k0_hw2.1 k0_h1
theorem k0_off8_inb : ∀ (i : grid0.Coords) (v193 : BitVec 32) (v198 : BitVec 32) (k0_hw2 : k0_chk2 i v193 v198), ∀ (k0_h1 : k0_cond1 i = 1#1), ∀ (k0_h3 : k0_cond3 v193 v198 = 1#1), ∀ a, (k0_off8 v198) a + S40x5120.size a ≤ S10752x5120.size a := fun i v193 v198 k0_hw2 k0_h1 k0_h3 => k0_hw2.2.1 k0_h1 k0_h3
theorem k0_t1_ok : ∀ (i : grid0.Coords) (v193 : BitVec 32) (v198 : BitVec 32) (k0_hw2 : k0_chk2 i v193 v198), ∀ (k0_h1 : k0_cond1 i = 1#1), (k0_t1_loop v193 v198).OK := fun i v193 v198 k0_hw2 k0_h1 => k0_hw2.2.2.1 k0_h1
theorem k0_off9_inb : ∀ (i : grid0.Coords) (v193 : BitVec 32) (v198 : BitVec 32) (k0_hw2 : k0_chk2 i v193 v198) (k0_t1 : Fin (k0_t1_loop v193 v198).trips), ∀ (k0_h1 : k0_cond1 i = 1#1), ∀ a, (k0_off9 i v193 v198 k0_t1) a + S1.size a ≤ S12288.size a := fun i v193 v198 k0_hw2 k0_t1 k0_h1 => k0_hw2.2.2.2.1 k0_t1 k0_h1
theorem k0_off11_inb : ∀ (i : grid0.Coords) (v193 : BitVec 32) (v198 : BitVec 32) (k0_hw2 : k0_chk2 i v193 v198) (k0_t1 : Fin (k0_t1_loop v193 v198).trips), ∀ (k0_h1 : k0_cond1 i = 1#1), ∀ a, (k0_off11 i v193 v198 k0_t1) a + S1x1x8x5120.size a ≤ S2x32x8x5120.size a := fun i v193 v198 k0_hw2 k0_t1 k0_h1 => k0_hw2.2.2.2.2.1 k0_t1 k0_h1
theorem k0_off11_wordsi8 : ∀ (i : grid0.Coords) (v193 : BitVec 32) (v198 : BitVec 32) (k0_hw2 : k0_chk2 i v193 v198) (k0_t1 : Fin (k0_t1_loop v193 v198).trips), ∀ (k0_h1 : k0_cond1 i = 1#1), (Rect.unit (s := S2x32x8x5120) (k0_off11 i v193 v198 k0_t1) S1x1x8x5120.size (k0_off11_inb i v193 v198 k0_hw2 k0_t1 k0_h1)).WholeWords (EltTy.packing .i8) := fun i v193 v198 k0_hw2 k0_t1 k0_h1 => k0_hw2.2.2.2.2.2.1 k0_t1 k0_h1 (k0_off11_inb i v193 v198 k0_hw2 k0_t1 k0_h1)
theorem k0_t2_ok : ∀ (i : grid0.Coords) (v193 : BitVec 32) (v198 : BitVec 32) (k0_hw2 : k0_chk2 i v193 v198), ∀ (k0_h1 : k0_cond1 i = 1#1), (k0_t2_loop v193 v198).OK := fun i v193 v198 k0_hw2 k0_h1 => k0_hw2.2.2.2.2.2.2.1 k0_h1
theorem k0_off13_inb : ∀ (i : grid0.Coords) (v193 : BitVec 32) (v198 : BitVec 32) (k0_hw2 : k0_chk2 i v193 v198) (k0_t2 : Fin (k0_t2_loop v193 v198).trips), ∀ (k0_h1 : k0_cond1 i = 1#1), ∀ a, (k0_off13 i v193 v198 k0_t2) a + S1.size a ≤ S12288.size a := fun i v193 v198 k0_hw2 k0_t2 k0_h1 => k0_hw2.2.2.2.2.2.2.2.1 k0_t2 k0_h1
theorem k0_off15_inb : ∀ (i : grid0.Coords) (v193 : BitVec 32) (v198 : BitVec 32) (k0_hw2 : k0_chk2 i v193 v198) (k0_t2 : Fin (k0_t2_loop v193 v198).trips), ∀ (k0_h1 : k0_cond1 i = 1#1), ∀ a, (k0_off15 i v193 v198 k0_t2) a + S1x1x8x5120.size a ≤ S2x32x8x5120.size a := fun i v193 v198 k0_hw2 k0_t2 k0_h1 => k0_hw2.2.2.2.2.2.2.2.2.1 k0_t2 k0_h1
theorem k0_off15_wordsi8 : ∀ (i : grid0.Coords) (v193 : BitVec 32) (v198 : BitVec 32) (k0_hw2 : k0_chk2 i v193 v198) (k0_t2 : Fin (k0_t2_loop v193 v198).trips), ∀ (k0_h1 : k0_cond1 i = 1#1), (Rect.unit (s := S2x32x8x5120) (k0_off15 i v193 v198 k0_t2) S1x1x8x5120.size (k0_off15_inb i v193 v198 k0_hw2 k0_t2 k0_h1)).WholeWords (EltTy.packing .i8) := fun i v193 v198 k0_hw2 k0_t2 k0_h1 => k0_hw2.2.2.2.2.2.2.2.2.2 k0_t2 k0_h1 (k0_off15_inb i v193 v198 k0_hw2 k0_t2 k0_h1)

def k0_cond4 (i : grid0.Coords) : BitVec 1 :=
  let arg0 : BitVec 32 := BitVec.ofNat 32 (i 0).val
  let c1_i32_1 : BitVec 32 := 1#32
  let v4 : BitVec 32 := Scalar.addi arg0 c1_i32_1
  let c384_i32 : BitVec 32 := 384#32
  let v5 : BitVec 1 := Scalar.cmpi .slt v4 c384_i32
  let v6 : BitVec 32 := Scalar.extui v5
  let c0_i32_2 : BitVec 32 := 0#32
  let v7 : BitVec 1 := Scalar.cmpi .ne v6 c0_i32_2
  v7

def k0_off17 (i : grid0.Coords) : Fin 1 → Nat :=
  let arg0 : BitVec 32 := BitVec.ofNat 32 (i 0).val
  let c1_i32_91 : BitVec 32 := 1#32
  let v191 : BitVec 32 := Scalar.addi arg0 c1_i32_91
  let c32_i32_93 : BitVec 32 := 32#32
  let v193 : BitVec 32 := Scalar.muli v191 c32_i32_93
  let v194 : Index := Scalar.indexCast v193
  ![v194.toNat]
def k0_off18 (i : grid0.Coords) : Fin 1 → Nat :=
  let arg0 : BitVec 32 := BitVec.ofNat 32 (i 0).val
  let c1_i32_91 : BitVec 32 := 1#32
  let v191 : BitVec 32 := Scalar.addi arg0 c1_i32_91
  let c32_i32_94 : BitVec 32 := 32#32
  let v196 : BitVec 32 := Scalar.muli v191 c32_i32_94
  let c32_i32_95 : BitVec 32 := 32#32
  let v197 : BitVec 32 := Scalar.addi v196 c32_i32_95
  let c1_i32_96 : BitVec 32 := 1#32
  let v198 : BitVec 32 := Scalar.subi v197 c1_i32_96
  let v199 : Index := Scalar.indexCast v198
  ![v199.toNat]
def k0_mult5 (v195 : BitVec 32) : BitVec 32 :=
  let c10712_i32_112 : BitVec 32 := 10712#32
  let c0_i32_111 : BitVec 32 := 0#32
  let c0_i32_108 : BitVec 32 := 0#32
  let v213 : BitVec 32 := Scalar.maxsi v195 c0_i32_108
  let c_m8_i32_110 : BitVec 32 := 4294967288#32
  let v215 : BitVec 32 := Scalar.andi v213 c_m8_i32_110
  let v216 : BitVec 32 := Scalar.maxsi c0_i32_111 v215
  let v217 : BitVec 32 := Scalar.minsi c10712_i32_112 v216
  v217

def k0_mult6 (v200 : BitVec 32) : BitVec 32 :=
  let c10712_i32_115 : BitVec 32 := 10712#32
  let c0_i32_114 : BitVec 32 := 0#32
  let c31_i32_109 : BitVec 32 := 31#32
  let v214 : BitVec 32 := Scalar.subi v200 c31_i32_109
  let c_m8_i32_113 : BitVec 32 := 4294967288#32
  let v219 : BitVec 32 := Scalar.andi v214 c_m8_i32_113
  let v220 : BitVec 32 := Scalar.maxsi c0_i32_114 v219
  let v221 : BitVec 32 := Scalar.minsi c10712_i32_115 v220
  v221

def k0_off19 (i : grid0.Coords) : Fin 1 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  ![v192.toNat]
def k0_off20 (i : grid0.Coords) : Fin 3 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  let c0_i32_129 : BitVec 32 := 0#32
  let c0_i32_130 : BitVec 32 := 0#32
  ![v192.toNat, 0, 0]
def k0_off21 (v195 : BitVec 32) : Fin 2 → Nat :=
  let c10712_i32_112 : BitVec 32 := 10712#32
  let c0_i32_111 : BitVec 32 := 0#32
  let c0_i32_108 : BitVec 32 := 0#32
  let v213 : BitVec 32 := Scalar.maxsi v195 c0_i32_108
  let c_m8_i32_110 : BitVec 32 := 4294967288#32
  let v215 : BitVec 32 := Scalar.andi v213 c_m8_i32_110
  let v216 : BitVec 32 := Scalar.maxsi c0_i32_111 v215
  let v217 : BitVec 32 := Scalar.minsi c10712_i32_112 v216
  let v218 : BitVec 32 := v217
  let c0_i32_131 : BitVec 32 := 0#32
  ![v218.toNat, 0]
def k0_cond5 (v195 : BitVec 32) : BitVec 1 :=
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c0_i32_116 : BitVec 32 := 0#32
  let v223 : BitVec 1 := Scalar.cmpi .sgt v205 c0_i32_116
  let v224 : BitVec 32 := Scalar.extui v223
  let c0_i32_117 : BitVec 32 := 0#32
  let v225 : BitVec 1 := Scalar.cmpi .ne v224 c0_i32_117
  v225

def k0_chk5 (i : grid0.Coords) (v195 : BitVec 32) : Prop :=
  (∀ (k0_h4 : k0_cond4 i = 1#1), 8 ∣ (k0_mult5 v195).toNat) ∧
  (∀ (k0_h4 : k0_cond4 i = 1#1), ∀ (k0_h5 : k0_cond5 v195 = 1#1), ∀ a, (k0_off21 v195) a + S40x5120.size a ≤ S10752x5120.size a)
theorem k0_mult5_dvd : ∀ (i : grid0.Coords) (v195 : BitVec 32) (k0_hw5 : k0_chk5 i v195), ∀ (k0_h4 : k0_cond4 i = 1#1), 8 ∣ (k0_mult5 v195).toNat := fun i v195 k0_hw5 k0_h4 => k0_hw5.1 k0_h4
theorem k0_off21_inb : ∀ (i : grid0.Coords) (v195 : BitVec 32) (k0_hw5 : k0_chk5 i v195), ∀ (k0_h4 : k0_cond4 i = 1#1), ∀ (k0_h5 : k0_cond5 v195 = 1#1), ∀ a, (k0_off21 v195) a + S40x5120.size a ≤ S10752x5120.size a := fun i v195 k0_hw5 k0_h4 k0_h5 => k0_hw5.2 k0_h4 k0_h5

def k0_off22 (i : grid0.Coords) : Fin 1 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  ![v192.toNat]
def k0_off23 (i : grid0.Coords) : Fin 3 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  let c0_i32_129 : BitVec 32 := 0#32
  let c0_i32_130 : BitVec 32 := 0#32
  ![v192.toNat, 0, 0]
def k0_off24 (v200 : BitVec 32) : Fin 2 → Nat :=
  let c10712_i32_115 : BitVec 32 := 10712#32
  let c0_i32_114 : BitVec 32 := 0#32
  let c31_i32_109 : BitVec 32 := 31#32
  let v214 : BitVec 32 := Scalar.subi v200 c31_i32_109
  let c_m8_i32_113 : BitVec 32 := 4294967288#32
  let v219 : BitVec 32 := Scalar.andi v214 c_m8_i32_113
  let v220 : BitVec 32 := Scalar.maxsi c0_i32_114 v219
  let v221 : BitVec 32 := Scalar.minsi c10712_i32_115 v220
  let v222 : BitVec 32 := v221
  let c0_i32_131 : BitVec 32 := 0#32
  ![v222.toNat, 0]
def k0_cond6 (v195 : BitVec 32) (v200 : BitVec 32) : BitVec 1 :=
  let c0_i32_102 : BitVec 32 := 0#32
  let v206 : BitVec 1 := Scalar.cmpi .sge v200 c0_i32_102
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c32_i32_103 : BitVec 32 := 32#32
  let v207 : BitVec 1 := Scalar.cmpi .slt v205 c32_i32_103
  let v208 : BitVec 1 := Scalar.andi v206 v207
  let c32_i32_106 : BitVec 32 := 32#32
  let c255_i32_104 : BitVec 32 := 255#32
  let v209 : BitVec 32 := Scalar.andi v200 c255_i32_104
  let c1_i32_105 : BitVec 32 := 1#32
  let v210 : BitVec 32 := Scalar.addi v209 c1_i32_105
  let v211 : BitVec 32 := Scalar.minsi c32_i32_106 v210
  let c0_i32_107 : BitVec 32 := 0#32
  let v212 : BitVec 32 := Scalar.select v208 v211 c0_i32_107
  let c0_i32_118 : BitVec 32 := 0#32
  let v226 : BitVec 1 := Scalar.cmpi .sgt v212 c0_i32_118
  let v227 : BitVec 32 := Scalar.extui v226
  let c0_i32_119 : BitVec 32 := 0#32
  let v228 : BitVec 1 := Scalar.cmpi .ne v227 c0_i32_119
  v228

@[reducible] def k0_t3_loop (v195 : BitVec 32) (v200 : BitVec 32) : Scf.Loop 32 :=
  let c0_i32_125 : BitVec 32 := 0#32
  let c32_i32_120 : BitVec 32 := 32#32
  let c0_i32_102 : BitVec 32 := 0#32
  let v206 : BitVec 1 := Scalar.cmpi .sge v200 c0_i32_102
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c32_i32_103 : BitVec 32 := 32#32
  let v207 : BitVec 1 := Scalar.cmpi .slt v205 c32_i32_103
  let v208 : BitVec 1 := Scalar.andi v206 v207
  let c32_i32_106 : BitVec 32 := 32#32
  let c255_i32_104 : BitVec 32 := 255#32
  let v209 : BitVec 32 := Scalar.andi v200 c255_i32_104
  let c1_i32_105 : BitVec 32 := 1#32
  let v210 : BitVec 32 := Scalar.addi v209 c1_i32_105
  let v211 : BitVec 32 := Scalar.minsi c32_i32_106 v210
  let c0_i32_107 : BitVec 32 := 0#32
  let v212 : BitVec 32 := Scalar.select v208 v211 c0_i32_107
  let v229 : BitVec 32 := Scalar.subi c32_i32_120 v212
  let v230 : BitVec 32 := Scalar.subi v229 v205
  let c1_i32_121 : BitVec 32 := 1#32
  let c1_i32_122 : BitVec 32 := 1#32
  let v231 : BitVec 32 := Scalar.subi c1_i32_121 c1_i32_122
  let v232 : BitVec 32 := Scalar.addi v230 v231
  let c1_i32_123 : BitVec 32 := 1#32
  let v233 : BitVec 32 := Scalar.divsi v232 c1_i32_123
  let v234 : BitVec 32 := Scalar.subi v233 c0_i32_125
  let c1_i32_126 : BitVec 32 := 1#32
  let v236 : BitVec 32 := Scalar.divsi v234 c1_i32_126
  let v237 : BitVec 32 := Scalar.muli v236 c1_i32_126
  let v238 : BitVec 32 := Scalar.addi c0_i32_125 v237
  let c1_i32_127 : BitVec 32 := 1#32
  ⟨c0_i32_125, v238, c1_i32_127⟩
def k0_off25 (i : grid0.Coords) (v195 : BitVec 32) (v200 : BitVec 32) (k0_t3 : Fin (k0_t3_loop v195 v200).trips) : Fin 1 → Nat :=
  let arg0 : BitVec 32 := BitVec.ofNat 32 (i 0).val
  let c1_i32_91 : BitVec 32 := 1#32
  let v191 : BitVec 32 := Scalar.addi arg0 c1_i32_91
  let c32_i32_129 : BitVec 32 := 32#32
  let v241 : BitVec 32 := Scalar.muli v191 c32_i32_129
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c0_i32_125 : BitVec 32 := 0#32
  let c1_i32_127 : BitVec 32 := 1#32
  let arg16 : BitVec 32 := Scf.iv c0_i32_125 c1_i32_127 k0_t3
  let c1_i32_124 : BitVec 32 := 1#32
  let v239 : BitVec 32 := Scalar.muli arg16 c1_i32_124
  let v240 : BitVec 32 := Scalar.addi v205 v239
  let v242 : BitVec 32 := Scalar.addi v241 v240
  let v243 : Index := Scalar.indexCast v242
  ![v243.toNat]
def k0_mult7 (v244 : BitVec 32) : BitVec 32 :=
  let c_m8_i32_130 : BitVec 32 := 4294967288#32
  let v245 : BitVec 32 := Scalar.andi v244 c_m8_i32_130
  v245

def k0_off26 (i : grid0.Coords) : Fin 1 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  ![v192.toNat]
def k0_off27 (i : grid0.Coords) (v195 : BitVec 32) (v200 : BitVec 32) (k0_t3 : Fin (k0_t3_loop v195 v200).trips) : Fin 4 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c0_i32_125 : BitVec 32 := 0#32
  let c1_i32_127 : BitVec 32 := 1#32
  let arg16 : BitVec 32 := Scf.iv c0_i32_125 c1_i32_127 k0_t3
  let c1_i32_124 : BitVec 32 := 1#32
  let v239 : BitVec 32 := Scalar.muli arg16 c1_i32_124
  let v240 : BitVec 32 := Scalar.addi v205 v239
  let c0_i32_131 : BitVec 32 := 0#32
  let c0_i32_132 : BitVec 32 := 0#32
  ![v192.toNat, v240.toNat, 0, 0]
def k0_off28 (v244 : BitVec 32) : Fin 2 → Nat :=
  let c_m8_i32_130 : BitVec 32 := 4294967288#32
  let v245 : BitVec 32 := Scalar.andi v244 c_m8_i32_130
  let v246 : BitVec 32 := v245
  let c0_i32_133 : BitVec 32 := 0#32
  ![v246.toNat, 0]

def k0_chk7 (i : grid0.Coords) (v244 : BitVec 32) : Prop :=
  (∀ (k0_h4 : k0_cond4 i = 1#1), 8 ∣ (k0_mult7 v244).toNat) ∧
  (∀ (k0_h4 : k0_cond4 i = 1#1), ∀ a, (k0_off28 v244) a + S8x5120.size a ≤ S37919x5120.size a) ∧
  (∀ (k0_h4 : k0_cond4 i = 1#1), ∀ (hinb : ∀ a, (k0_off28 v244) a + S8x5120.size a ≤ S37919x5120.size a), (Rect.unit (s := S37919x5120) (k0_off28 v244) S8x5120.size hinb).WholeWords (EltTy.packing .i8))
theorem k0_mult7_dvd : ∀ (i : grid0.Coords) (v244 : BitVec 32) (k0_hw7 : k0_chk7 i v244), ∀ (k0_h4 : k0_cond4 i = 1#1), 8 ∣ (k0_mult7 v244).toNat := fun i v244 k0_hw7 k0_h4 => k0_hw7.1 k0_h4
theorem k0_off28_inb : ∀ (i : grid0.Coords) (v244 : BitVec 32) (k0_hw7 : k0_chk7 i v244), ∀ (k0_h4 : k0_cond4 i = 1#1), ∀ a, (k0_off28 v244) a + S8x5120.size a ≤ S37919x5120.size a := fun i v244 k0_hw7 k0_h4 => k0_hw7.2.1 k0_h4
theorem k0_off28_wordsi8 : ∀ (i : grid0.Coords) (v244 : BitVec 32) (k0_hw7 : k0_chk7 i v244), ∀ (k0_h4 : k0_cond4 i = 1#1), (Rect.unit (s := S37919x5120) (k0_off28 v244) S8x5120.size (k0_off28_inb i v244 k0_hw7 k0_h4)).WholeWords (EltTy.packing .i8) := fun i v244 k0_hw7 k0_h4 => k0_hw7.2.2 k0_h4 (k0_off28_inb i v244 k0_hw7 k0_h4)

@[reducible] def k0_t4_loop (v195 : BitVec 32) (v200 : BitVec 32) : Scf.Loop 32 :=
  let c0_i32_125 : BitVec 32 := 0#32
  let c32_i32_120 : BitVec 32 := 32#32
  let c0_i32_102 : BitVec 32 := 0#32
  let v206 : BitVec 1 := Scalar.cmpi .sge v200 c0_i32_102
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c32_i32_103 : BitVec 32 := 32#32
  let v207 : BitVec 1 := Scalar.cmpi .slt v205 c32_i32_103
  let v208 : BitVec 1 := Scalar.andi v206 v207
  let c32_i32_106 : BitVec 32 := 32#32
  let c255_i32_104 : BitVec 32 := 255#32
  let v209 : BitVec 32 := Scalar.andi v200 c255_i32_104
  let c1_i32_105 : BitVec 32 := 1#32
  let v210 : BitVec 32 := Scalar.addi v209 c1_i32_105
  let v211 : BitVec 32 := Scalar.minsi c32_i32_106 v210
  let c0_i32_107 : BitVec 32 := 0#32
  let v212 : BitVec 32 := Scalar.select v208 v211 c0_i32_107
  let v229 : BitVec 32 := Scalar.subi c32_i32_120 v212
  let v230 : BitVec 32 := Scalar.subi v229 v205
  let c1_i32_121 : BitVec 32 := 1#32
  let c1_i32_122 : BitVec 32 := 1#32
  let v231 : BitVec 32 := Scalar.subi c1_i32_121 c1_i32_122
  let v232 : BitVec 32 := Scalar.addi v230 v231
  let c1_i32_123 : BitVec 32 := 1#32
  let v233 : BitVec 32 := Scalar.divsi v232 c1_i32_123
  let v234 : BitVec 32 := Scalar.subi v233 c0_i32_125
  let c1_i32_126 : BitVec 32 := 1#32
  let v236 : BitVec 32 := Scalar.divsi v234 c1_i32_126
  let v237 : BitVec 32 := Scalar.muli v236 c1_i32_126
  let v238 : BitVec 32 := Scalar.addi c0_i32_125 v237
  let v235 : BitVec 32 := Scalar.addi c0_i32_125 v234
  let c1_i32_128 : BitVec 32 := 1#32
  ⟨v238, v235, c1_i32_128⟩
def k0_off29 (i : grid0.Coords) (v195 : BitVec 32) (v200 : BitVec 32) (k0_t4 : Fin (k0_t4_loop v195 v200).trips) : Fin 1 → Nat :=
  let arg0 : BitVec 32 := BitVec.ofNat 32 (i 0).val
  let c1_i32_91 : BitVec 32 := 1#32
  let v191 : BitVec 32 := Scalar.addi arg0 c1_i32_91
  let c32_i32_129 : BitVec 32 := 32#32
  let v241 : BitVec 32 := Scalar.muli v191 c32_i32_129
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c0_i32_125 : BitVec 32 := 0#32
  let c32_i32_120 : BitVec 32 := 32#32
  let c0_i32_102 : BitVec 32 := 0#32
  let v206 : BitVec 1 := Scalar.cmpi .sge v200 c0_i32_102
  let c32_i32_103 : BitVec 32 := 32#32
  let v207 : BitVec 1 := Scalar.cmpi .slt v205 c32_i32_103
  let v208 : BitVec 1 := Scalar.andi v206 v207
  let c32_i32_106 : BitVec 32 := 32#32
  let c255_i32_104 : BitVec 32 := 255#32
  let v209 : BitVec 32 := Scalar.andi v200 c255_i32_104
  let c1_i32_105 : BitVec 32 := 1#32
  let v210 : BitVec 32 := Scalar.addi v209 c1_i32_105
  let v211 : BitVec 32 := Scalar.minsi c32_i32_106 v210
  let c0_i32_107 : BitVec 32 := 0#32
  let v212 : BitVec 32 := Scalar.select v208 v211 c0_i32_107
  let v229 : BitVec 32 := Scalar.subi c32_i32_120 v212
  let v230 : BitVec 32 := Scalar.subi v229 v205
  let c1_i32_121 : BitVec 32 := 1#32
  let c1_i32_122 : BitVec 32 := 1#32
  let v231 : BitVec 32 := Scalar.subi c1_i32_121 c1_i32_122
  let v232 : BitVec 32 := Scalar.addi v230 v231
  let c1_i32_123 : BitVec 32 := 1#32
  let v233 : BitVec 32 := Scalar.divsi v232 c1_i32_123
  let v234 : BitVec 32 := Scalar.subi v233 c0_i32_125
  let c1_i32_126 : BitVec 32 := 1#32
  let v236 : BitVec 32 := Scalar.divsi v234 c1_i32_126
  let v237 : BitVec 32 := Scalar.muli v236 c1_i32_126
  let v238 : BitVec 32 := Scalar.addi c0_i32_125 v237
  let c1_i32_128 : BitVec 32 := 1#32
  let arg16 : BitVec 32 := Scf.iv v238 c1_i32_128 k0_t4
  let c1_i32_124 : BitVec 32 := 1#32
  let v239 : BitVec 32 := Scalar.muli arg16 c1_i32_124
  let v240 : BitVec 32 := Scalar.addi v205 v239
  let v242 : BitVec 32 := Scalar.addi v241 v240
  let v243 : Index := Scalar.indexCast v242
  ![v243.toNat]
def k0_mult8 (v244 : BitVec 32) : BitVec 32 :=
  let c_m8_i32_130 : BitVec 32 := 4294967288#32
  let v245 : BitVec 32 := Scalar.andi v244 c_m8_i32_130
  v245

def k0_off30 (i : grid0.Coords) : Fin 1 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  ![v192.toNat]
def k0_off31 (i : grid0.Coords) (v195 : BitVec 32) (v200 : BitVec 32) (k0_t4 : Fin (k0_t4_loop v195 v200).trips) : Fin 4 → Nat :=
  let c1_i32_92 : BitVec 32 := 1#32
  let arg0 : BitVec 32 := BitVec.ofNat 32 (i 0).val
  let c1_i32 : BitVec 32 := 1#32
  let v0 : BitVec 32 := Scalar.andi arg0 c1_i32
  let v192 : BitVec 32 := Scalar.subi c1_i32_92 v0
  let c0_i32_97 : BitVec 32 := 0#32
  let v201 : BitVec 1 := Scalar.cmpi .sge v195 c0_i32_97
  let c32_i32_100 : BitVec 32 := 32#32
  let c256_i32_99 : BitVec 32 := 256#32
  let c255_i32_98 : BitVec 32 := 255#32
  let v202 : BitVec 32 := Scalar.andi v195 c255_i32_98
  let v203 : BitVec 32 := Scalar.subi c256_i32_99 v202
  let v204 : BitVec 32 := Scalar.minsi c32_i32_100 v203
  let c0_i32_101 : BitVec 32 := 0#32
  let v205 : BitVec 32 := Scalar.select v201 v204 c0_i32_101
  let c0_i32_125 : BitVec 32 := 0#32
  let c32_i32_120 : BitVec 32 := 32#32
  let c0_i32_102 : BitVec 32 := 0#32
  let v206 : BitVec 1 := Scalar.cmpi .sge v200 c0_i32_102
  let c32_i32_103 : BitVec 32 := 32#32
  let v207 : BitVec 1 := Scalar.cmpi .slt v205 c32_i32_103
  let v208 : BitVec 1 := Scalar.andi v206 v207
  let c32_i32_106 : BitVec 32 := 32#32
  let c255_i32_104 : BitVec 32 := 255#32
  let v209 : BitVec 32 := Scalar.andi v200 c255_i32_104
  let c1_i32_105 : BitVec 32 := 1#32
  let v210 : BitVec 32 := Scalar.addi v209 c1_i32_105
  let v211 : BitVec 32 := Scalar.minsi c32_i32_106 v210
  let c0_i32_107 : BitVec 32 := 0#32
  let v212 : BitVec 32 := Scalar.select v208 v211 c0_i32_107
  let v229 : BitVec 32 := Scalar.subi c32_i32_120 v212
  let v230 : BitVec 32 := Scalar.subi v229 v205
  let c1_i32_121 : BitVec 32 := 1#32
  let c1_i32_122 : BitVec 32 := 1#32
  let v231 : BitVec 32 := Scalar.subi c1_i32_121 c1_i32_122
  let v232 : BitVec 32 := Scalar.addi v230 v231
  let c1_i32_123 : BitVec 32 := 1#32
  let v233 : BitVec 32 := Scalar.divsi v232 c1_i32_123
  let v234 : BitVec 32 := Scalar.subi v233 c0_i32_125
  let c1_i32_126 : BitVec 32 := 1#32
  let v236 : BitVec 32 := Scalar.divsi v234 c1_i32_126
  let v237 : BitVec 32 := Scalar.muli v236 c1_i32_126
  let v238 : BitVec 32 := Scalar.addi c0_i32_125 v237
  let c1_i32_128 : BitVec 32 := 1#32
  let arg16 : BitVec 32 := Scf.iv v238 c1_i32_128 k0_t4
  let c1_i32_124 : BitVec 32 := 1#32
  let v239 : BitVec 32 := Scalar.muli arg16 c1_i32_124
  let v240 : BitVec 32 := Scalar.addi v205 v239
  let c0_i32_131 : BitVec 32 := 0#32
  let c0_i32_132 : BitVec 32 := 0#32
  ![v192.toNat, v240.toNat, 0, 0]
def k0_off32 (v244 : BitVec 32) : Fin 2 → Nat :=
  let c_m8_i32_130 : BitVec 32 := 4294967288#32
  let v245 : BitVec 32 := Scalar.andi v244 c_m8_i32_130
  let v246 : BitVec 32 := v245
  let c0_i32_133 : BitVec 32 := 0#32
  ![v246.toNat, 0]

def k0_chk8 (i : grid0.Coords) (v244 : BitVec 32) : Prop :=
  (∀ (k0_h4 : k0_cond4 i = 1#1), 8 ∣ (k0_mult8 v244).toNat) ∧
  (∀ (k0_h4 : k0_cond4 i = 1#1), ∀ a, (k0_off32 v244) a + S8x5120.size a ≤ S37919x5120.size a) ∧
  (∀ (k0_h4 : k0_cond4 i = 1#1), ∀ (hinb : ∀ a, (k0_off32 v244) a + S8x5120.size a ≤ S37919x5120.size a), (Rect.unit (s := S37919x5120) (k0_off32 v244) S8x5120.size hinb).WholeWords (EltTy.packing .i8))
theorem k0_mult8_dvd : ∀ (i : grid0.Coords) (v244 : BitVec 32) (k0_hw8 : k0_chk8 i v244), ∀ (k0_h4 : k0_cond4 i = 1#1), 8 ∣ (k0_mult8 v244).toNat := fun i v244 k0_hw8 k0_h4 => k0_hw8.1 k0_h4
theorem k0_off32_inb : ∀ (i : grid0.Coords) (v244 : BitVec 32) (k0_hw8 : k0_chk8 i v244), ∀ (k0_h4 : k0_cond4 i = 1#1), ∀ a, (k0_off32 v244) a + S8x5120.size a ≤ S37919x5120.size a := fun i v244 k0_hw8 k0_h4 => k0_hw8.2.1 k0_h4
theorem k0_off32_wordsi8 : ∀ (i : grid0.Coords) (v244 : BitVec 32) (k0_hw8 : k0_chk8 i v244), ∀ (k0_h4 : k0_cond4 i = 1#1), (Rect.unit (s := S37919x5120) (k0_off32 v244) S8x5120.size (k0_off32_inb i v244 k0_hw8 k0_h4)).WholeWords (EltTy.packing .i8) := fun i v244 k0_hw8 k0_h4 => k0_hw8.2.2 k0_h4 (k0_off32_inb i v244 k0_hw8 k0_h4)

def k0_chk6 (i : grid0.Coords) (v195 : BitVec 32) (v200 : BitVec 32) : Prop :=
  (∀ (k0_h4 : k0_cond4 i = 1#1), 8 ∣ (k0_mult6 v200).toNat) ∧
  (∀ (k0_h4 : k0_cond4 i = 1#1), ∀ (k0_h6 : k0_cond6 v195 v200 = 1#1), ∀ a, (k0_off24 v200) a + S40x5120.size a ≤ S10752x5120.size a) ∧
  (∀ (k0_h4 : k0_cond4 i = 1#1), (k0_t3_loop v195 v200).OK) ∧
  (∀ k0_t3 : Fin (k0_t3_loop v195 v200).trips, ∀ (k0_h4 : k0_cond4 i = 1#1), ∀ a, (k0_off25 i v195 v200 k0_t3) a + S1.size a ≤ S12288.size a) ∧
  (∀ k0_t3 : Fin (k0_t3_loop v195 v200).trips, ∀ (k0_h4 : k0_cond4 i = 1#1), ∀ a, (k0_off27 i v195 v200 k0_t3) a + S1x1x8x5120.size a ≤ S2x32x8x5120.size a) ∧
  (∀ k0_t3 : Fin (k0_t3_loop v195 v200).trips, ∀ (k0_h4 : k0_cond4 i = 1#1), ∀ (hinb : ∀ a, (k0_off27 i v195 v200 k0_t3) a + S1x1x8x5120.size a ≤ S2x32x8x5120.size a), (Rect.unit (s := S2x32x8x5120) (k0_off27 i v195 v200 k0_t3) S1x1x8x5120.size hinb).WholeWords (EltTy.packing .i8)) ∧
  (∀ (k0_h4 : k0_cond4 i = 1#1), (k0_t4_loop v195 v200).OK) ∧
  (∀ k0_t4 : Fin (k0_t4_loop v195 v200).trips, ∀ (k0_h4 : k0_cond4 i = 1#1), ∀ a, (k0_off29 i v195 v200 k0_t4) a + S1.size a ≤ S12288.size a) ∧
  (∀ k0_t4 : Fin (k0_t4_loop v195 v200).trips, ∀ (k0_h4 : k0_cond4 i = 1#1), ∀ a, (k0_off31 i v195 v200 k0_t4) a + S1x1x8x5120.size a ≤ S2x32x8x5120.size a) ∧
  (∀ k0_t4 : Fin (k0_t4_loop v195 v200).trips, ∀ (k0_h4 : k0_cond4 i = 1#1), ∀ (hinb : ∀ a, (k0_off31 i v195 v200 k0_t4) a + S1x1x8x5120.size a ≤ S2x32x8x5120.size a), (Rect.unit (s := S2x32x8x5120) (k0_off31 i v195 v200 k0_t4) S1x1x8x5120.size hinb).WholeWords (EltTy.packing .i8))
theorem k0_mult6_dvd : ∀ (i : grid0.Coords) (v195 : BitVec 32) (v200 : BitVec 32) (k0_hw6 : k0_chk6 i v195 v200), ∀ (k0_h4 : k0_cond4 i = 1#1), 8 ∣ (k0_mult6 v200).toNat := fun i v195 v200 k0_hw6 k0_h4 => k0_hw6.1 k0_h4
theorem k0_off24_inb : ∀ (i : grid0.Coords) (v195 : BitVec 32) (v200 : BitVec 32) (k0_hw6 : k0_chk6 i v195 v200), ∀ (k0_h4 : k0_cond4 i = 1#1), ∀ (k0_h6 : k0_cond6 v195 v200 = 1#1), ∀ a, (k0_off24 v200) a + S40x5120.size a ≤ S10752x5120.size a := fun i v195 v200 k0_hw6 k0_h4 k0_h6 => k0_hw6.2.1 k0_h4 k0_h6
theorem k0_t3_ok : ∀ (i : grid0.Coords) (v195 : BitVec 32) (v200 : BitVec 32) (k0_hw6 : k0_chk6 i v195 v200), ∀ (k0_h4 : k0_cond4 i = 1#1), (k0_t3_loop v195 v200).OK := fun i v195 v200 k0_hw6 k0_h4 => k0_hw6.2.2.1 k0_h4
theorem k0_off25_inb : ∀ (i : grid0.Coords) (v195 : BitVec 32) (v200 : BitVec 32) (k0_hw6 : k0_chk6 i v195 v200) (k0_t3 : Fin (k0_t3_loop v195 v200).trips), ∀ (k0_h4 : k0_cond4 i = 1#1), ∀ a, (k0_off25 i v195 v200 k0_t3) a + S1.size a ≤ S12288.size a := fun i v195 v200 k0_hw6 k0_t3 k0_h4 => k0_hw6.2.2.2.1 k0_t3 k0_h4
theorem k0_off27_inb : ∀ (i : grid0.Coords) (v195 : BitVec 32) (v200 : BitVec 32) (k0_hw6 : k0_chk6 i v195 v200) (k0_t3 : Fin (k0_t3_loop v195 v200).trips), ∀ (k0_h4 : k0_cond4 i = 1#1), ∀ a, (k0_off27 i v195 v200 k0_t3) a + S1x1x8x5120.size a ≤ S2x32x8x5120.size a := fun i v195 v200 k0_hw6 k0_t3 k0_h4 => k0_hw6.2.2.2.2.1 k0_t3 k0_h4
theorem k0_off27_wordsi8 : ∀ (i : grid0.Coords) (v195 : BitVec 32) (v200 : BitVec 32) (k0_hw6 : k0_chk6 i v195 v200) (k0_t3 : Fin (k0_t3_loop v195 v200).trips), ∀ (k0_h4 : k0_cond4 i = 1#1), (Rect.unit (s := S2x32x8x5120) (k0_off27 i v195 v200 k0_t3) S1x1x8x5120.size (k0_off27_inb i v195 v200 k0_hw6 k0_t3 k0_h4)).WholeWords (EltTy.packing .i8) := fun i v195 v200 k0_hw6 k0_t3 k0_h4 => k0_hw6.2.2.2.2.2.1 k0_t3 k0_h4 (k0_off27_inb i v195 v200 k0_hw6 k0_t3 k0_h4)
theorem k0_t4_ok : ∀ (i : grid0.Coords) (v195 : BitVec 32) (v200 : BitVec 32) (k0_hw6 : k0_chk6 i v195 v200), ∀ (k0_h4 : k0_cond4 i = 1#1), (k0_t4_loop v195 v200).OK := fun i v195 v200 k0_hw6 k0_h4 => k0_hw6.2.2.2.2.2.2.1 k0_h4
theorem k0_off29_inb : ∀ (i : grid0.Coords) (v195 : BitVec 32) (v200 : BitVec 32) (k0_hw6 : k0_chk6 i v195 v200) (k0_t4 : Fin (k0_t4_loop v195 v200).trips), ∀ (k0_h4 : k0_cond4 i = 1#1), ∀ a, (k0_off29 i v195 v200 k0_t4) a + S1.size a ≤ S12288.size a := fun i v195 v200 k0_hw6 k0_t4 k0_h4 => k0_hw6.2.2.2.2.2.2.2.1 k0_t4 k0_h4
theorem k0_off31_inb : ∀ (i : grid0.Coords) (v195 : BitVec 32) (v200 : BitVec 32) (k0_hw6 : k0_chk6 i v195 v200) (k0_t4 : Fin (k0_t4_loop v195 v200).trips), ∀ (k0_h4 : k0_cond4 i = 1#1), ∀ a, (k0_off31 i v195 v200 k0_t4) a + S1x1x8x5120.size a ≤ S2x32x8x5120.size a := fun i v195 v200 k0_hw6 k0_t4 k0_h4 => k0_hw6.2.2.2.2.2.2.2.2.1 k0_t4 k0_h4
theorem k0_off31_wordsi8 : ∀ (i : grid0.Coords) (v195 : BitVec 32) (v200 : BitVec 32) (k0_hw6 : k0_chk6 i v195 v200) (k0_t4 : Fin (k0_t4_loop v195 v200).trips), ∀ (k0_h4 : k0_cond4 i = 1#1), (Rect.unit (s := S2x32x8x5120) (k0_off31 i v195 v200 k0_t4) S1x1x8x5120.size (k0_off31_inb i v195 v200 k0_hw6 k0_t4 k0_h4)).WholeWords (EltTy.packing .i8) := fun i v195 v200 k0_hw6 k0_t4 k0_h4 => k0_hw6.2.2.2.2.2.2.2.2.2 k0_t4 k0_h4 (k0_off31_inb i v195 v200 k0_hw6 k0_t4 k0_h4)

def k0_off33 (i : grid0.Coords) : Fin 1 → Nat :=
  let arg0 : BitVec 32 := BitVec.ofNat 32 (i 0).val
  let c32_i32 : BitVec 32 := 32#32
  let v8 : BitVec 32 := Scalar.muli arg0 c32_i32
  let v9 : Index := Scalar.indexCast v8
  ![v9.toNat]
def k0_off34 (i : grid0.Coords) : Fin 1 → Nat :=
  let arg0 : BitVec 32 := BitVec.ofNat 32 (i 0).val
  let c32_i32_3 : BitVec 32 := 32#32
  let v11 : BitVec 32 := Scalar.muli arg0 c32_i32_3
  let c32_i32_4 : BitVec 32 := 32#32
  let v12 : BitVec 32 := Scalar.addi v11 c32_i32_4
  let c1_i32_5 : BitVec 32 := 1#32
  let v13 : BitVec 32 := Scalar.subi v12 c1_i32_5
  let v14 : Index := Scalar.indexCast v13
  ![v14.toNat]
def k0_mult9 (v10 : BitVec 32) : BitVec 32 :=
  let c10712_i32 : BitVec 32 := 10712#32
  let c0_i32_16 : BitVec 32 := 0#32
  let c0_i32_15 : BitVec 32 := 0#32
  let v28 : BitVec 32 := Scalar.maxsi v10 c0_i32_15
  let c_m8_i32 : BitVec 32 := 4294967288#32
  let v30 : BitVec 32 := Scalar.andi v28 c_m8_i32
  let v31 : BitVec 32 := Scalar.maxsi c0_i32_16 v30
  let v32 : BitVec 32 := Scalar.minsi c10712_i32 v31
  v32

def k0_mult10 (v15 : BitVec 32) : BitVec 32 :=
  let c10712_i32_19 : BitVec 32 := 10712#32
  let c0_i32_18 : BitVec 32 := 0#32
  let c31_i32 : BitVec 32 := 31#32
  let v29 : BitVec 32 := Scalar.subi v15 c31_i32
  let c_m8_i32_17 : BitVec 32 := 4294967288#32
  let v34 : BitVec 32 := Scalar.andi v29 c_m8_i32_17
  let v35 : BitVec 32 := Scalar.maxsi c0_i32_18 v34
  let v36 : BitVec 32 := Scalar.minsi c10712_i32_19 v35
  v36

def k0_off35 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off36 (i : grid0.Coords) : Fin 3 → Nat :=
  let arg0 : BitVec 32 := BitVec.ofNat 32 (i 0).val
  let c1_i32 : BitVec 32 := 1#32
  let v0 : BitVec 32 := Scalar.andi arg0 c1_i32
  let c0_i32_91 : BitVec 32 := 0#32
  let c0_i32_92 : BitVec 32 := 0#32
  ![v0.toNat, 0, 0]
def k0_off37 (v10 : BitVec 32) : Fin 2 → Nat :=
  let c10712_i32 : BitVec 32 := 10712#32
  let c0_i32_16 : BitVec 32 := 0#32
  let c0_i32_15 : BitVec 32 := 0#32
  let v28 : BitVec 32 := Scalar.maxsi v10 c0_i32_15
  let c_m8_i32 : BitVec 32 := 4294967288#32
  let v30 : BitVec 32 := Scalar.andi v28 c_m8_i32
  let v31 : BitVec 32 := Scalar.maxsi c0_i32_16 v30
  let v32 : BitVec 32 := Scalar.minsi c10712_i32 v31
  let v33 : BitVec 32 := v32
  let c0_i32_93 : BitVec 32 := 0#32
  ![v33.toNat, 0]
def k0_cond7 (v10 : BitVec 32) : BitVec 1 :=
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_20 : BitVec 32 := 0#32
  let v38 : BitVec 1 := Scalar.cmpi .sgt v20 c0_i32_20
  let v39 : BitVec 32 := Scalar.extui v38
  let c0_i32_21 : BitVec 32 := 0#32
  let v40 : BitVec 1 := Scalar.cmpi .ne v39 c0_i32_21
  v40

def k0_chk9 (v10 : BitVec 32) : Prop :=
  (8 ∣ (k0_mult9 v10).toNat) ∧
  (∀ (k0_h7 : k0_cond7 v10 = 1#1), ∀ a, (k0_off37 v10) a + S40x5120.size a ≤ S10752x5120.size a)
theorem k0_mult9_dvd : ∀ (v10 : BitVec 32) (k0_hw9 : k0_chk9 v10), 8 ∣ (k0_mult9 v10).toNat := fun v10 k0_hw9 => k0_hw9.1
theorem k0_off37_inb : ∀ (v10 : BitVec 32) (k0_hw9 : k0_chk9 v10), ∀ (k0_h7 : k0_cond7 v10 = 1#1), ∀ a, (k0_off37 v10) a + S40x5120.size a ≤ S10752x5120.size a := fun v10 k0_hw9 k0_h7 => k0_hw9.2 k0_h7

def k0_off38 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off39 (i : grid0.Coords) : Fin 3 → Nat :=
  let arg0 : BitVec 32 := BitVec.ofNat 32 (i 0).val
  let c1_i32 : BitVec 32 := 1#32
  let v0 : BitVec 32 := Scalar.andi arg0 c1_i32
  let c0_i32_91 : BitVec 32 := 0#32
  let c0_i32_92 : BitVec 32 := 0#32
  ![v0.toNat, 0, 0]
def k0_off40 (v15 : BitVec 32) : Fin 2 → Nat :=
  let c10712_i32_19 : BitVec 32 := 10712#32
  let c0_i32_18 : BitVec 32 := 0#32
  let c31_i32 : BitVec 32 := 31#32
  let v29 : BitVec 32 := Scalar.subi v15 c31_i32
  let c_m8_i32_17 : BitVec 32 := 4294967288#32
  let v34 : BitVec 32 := Scalar.andi v29 c_m8_i32_17
  let v35 : BitVec 32 := Scalar.maxsi c0_i32_18 v34
  let v36 : BitVec 32 := Scalar.minsi c10712_i32_19 v35
  let v37 : BitVec 32 := v36
  let c0_i32_93 : BitVec 32 := 0#32
  ![v37.toNat, 0]
def k0_cond8 (v10 : BitVec 32) (v15 : BitVec 32) : BitVec 1 :=
  let c0_i32_9 : BitVec 32 := 0#32
  let v21 : BitVec 1 := Scalar.cmpi .sge v15 c0_i32_9
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let c0_i32_22 : BitVec 32 := 0#32
  let v41 : BitVec 1 := Scalar.cmpi .sgt v27 c0_i32_22
  let v42 : BitVec 32 := Scalar.extui v41
  let c0_i32_23 : BitVec 32 := 0#32
  let v43 : BitVec 1 := Scalar.cmpi .ne v42 c0_i32_23
  v43

def k0_off41 (i : grid0.Coords) : Fin 1 → Nat :=
  let arg0 : BitVec 32 := BitVec.ofNat 32 (i 0).val
  let c32_i32_24 : BitVec 32 := 32#32
  let v44 : BitVec 32 := Scalar.muli arg0 c32_i32_24
  let v45 : Index := Scalar.indexCast v44
  ![v45.toNat]
def k0_off42 (i : grid0.Coords) : Fin 1 → Nat :=
  let arg0 : BitVec 32 := BitVec.ofNat 32 (i 0).val
  let c32_i32_25 : BitVec 32 := 32#32
  let v47 : BitVec 32 := Scalar.muli arg0 c32_i32_25
  let c32_i32_26 : BitVec 32 := 32#32
  let v48 : BitVec 32 := Scalar.addi v47 c32_i32_26
  let c1_i32_27 : BitVec 32 := 1#32
  let v49 : BitVec 32 := Scalar.subi v48 c1_i32_27
  let v50 : Index := Scalar.indexCast v49
  ![v50.toNat]
def k0_mult11 (v46 : BitVec 32) : BitVec 32 :=
  let c10712_i32_32 : BitVec 32 := 10712#32
  let c0_i32_31 : BitVec 32 := 0#32
  let c0_i32_28 : BitVec 32 := 0#32
  let v52 : BitVec 32 := Scalar.maxsi v46 c0_i32_28
  let c_m8_i32_30 : BitVec 32 := 4294967288#32
  let v55 : BitVec 32 := Scalar.andi v52 c_m8_i32_30
  let v56 : BitVec 32 := Scalar.maxsi c0_i32_31 v55
  let v57 : BitVec 32 := Scalar.minsi c10712_i32_32 v56
  v57

def k0_chk11 (v46 : BitVec 32) : Prop :=
  (8 ∣ (k0_mult11 v46).toNat)
theorem k0_mult11_dvd : ∀ (v46 : BitVec 32) (k0_hw11 : k0_chk11 v46), 8 ∣ (k0_mult11 v46).toNat := fun v46 k0_hw11 => k0_hw11

def k0_off43 (i : grid0.Coords) : Fin 3 → Nat :=
  let arg0 : BitVec 32 := BitVec.ofNat 32 (i 0).val
  let c1_i32 : BitVec 32 := 1#32
  let v0 : BitVec 32 := Scalar.andi arg0 c1_i32
  let v62 : Index := Scalar.indexCast v0
  let c0 : Index := 0#32
  let c0_33 : Index := 0#32
  ![v62.toNat, 0, 0]
def k0_mult12 (v51 : BitVec 32) : BitVec 32 :=
  let c10712_i32_36 : BitVec 32 := 10712#32
  let c0_i32_35 : BitVec 32 := 0#32
  let c31_i32_29 : BitVec 32 := 31#32
  let v53 : BitVec 32 := Scalar.subi v51 c31_i32_29
  let c_m8_i32_34 : BitVec 32 := 4294967288#32
  let v67 : BitVec 32 := Scalar.andi v53 c_m8_i32_34
  let v68 : BitVec 32 := Scalar.maxsi c0_i32_35 v67
  let v69 : BitVec 32 := Scalar.minsi c10712_i32_36 v68
  v69

def k0_chk12 (v51 : BitVec 32) : Prop :=
  (8 ∣ (k0_mult12 v51).toNat)
theorem k0_mult12_dvd : ∀ (v51 : BitVec 32) (k0_hw12 : k0_chk12 v51), 8 ∣ (k0_mult12 v51).toNat := fun v51 k0_hw12 => k0_hw12

def k0_off44 (i : grid0.Coords) : Fin 3 → Nat :=
  let arg0 : BitVec 32 := BitVec.ofNat 32 (i 0).val
  let c1_i32 : BitVec 32 := 1#32
  let v0 : BitVec 32 := Scalar.andi arg0 c1_i32
  let v74 : Index := Scalar.indexCast v0
  let c0_39 : Index := 0#32
  let c0_40 : Index := 0#32
  ![v74.toNat, 0, 0]
def k0_off45 (i : grid0.Coords) : Fin 3 → Nat :=
  let arg0 : BitVec 32 := BitVec.ofNat 32 (i 0).val
  let c1_i32 : BitVec 32 := 1#32
  let v0 : BitVec 32 := Scalar.andi arg0 c1_i32
  let v84 : Index := Scalar.indexCast v0
  let c0_41 : Index := 0#32
  let c0_42 : Index := 0#32
  ![v84.toNat, 0, 0]
@[reducible] def k0_t5_loop (v10 : BitVec 32) (v15 : BitVec 32) : Scf.Loop 32 :=
  let c0_i32_48 : BitVec 32 := 0#32
  let c32_i32_43 : BitVec 32 := 32#32
  let c0_i32_9 : BitVec 32 := 0#32
  let v21 : BitVec 1 := Scalar.cmpi .sge v15 c0_i32_9
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v88 : BitVec 32 := Scalar.subi c32_i32_43 v27
  let v89 : BitVec 32 := Scalar.subi v88 v20
  let c1_i32_44 : BitVec 32 := 1#32
  let c1_i32_45 : BitVec 32 := 1#32
  let v90 : BitVec 32 := Scalar.subi c1_i32_44 c1_i32_45
  let v91 : BitVec 32 := Scalar.addi v89 v90
  let c1_i32_46 : BitVec 32 := 1#32
  let v92 : BitVec 32 := Scalar.divsi v91 c1_i32_46
  let v93 : BitVec 32 := Scalar.subi v92 c0_i32_48
  let c1_i32_49 : BitVec 32 := 1#32
  let v95 : BitVec 32 := Scalar.divsi v93 c1_i32_49
  let v96 : BitVec 32 := Scalar.muli v95 c1_i32_49
  let v97 : BitVec 32 := Scalar.addi c0_i32_48 v96
  let c1_i32_50 : BitVec 32 := 1#32
  ⟨c0_i32_48, v97, c1_i32_50⟩
def k0_off46 (i : grid0.Coords) (v10 : BitVec 32) (v15 : BitVec 32) (k0_t5 : Fin (k0_t5_loop v10 v15).trips) : Fin 1 → Nat :=
  let arg0 : BitVec 32 := BitVec.ofNat 32 (i 0).val
  let c32_i32_91 : BitVec 32 := 32#32
  let v193 : BitVec 32 := Scalar.muli arg0 c32_i32_91
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_48 : BitVec 32 := 0#32
  let c1_i32_50 : BitVec 32 := 1#32
  let arg16 : BitVec 32 := Scf.iv c0_i32_48 c1_i32_50 k0_t5
  let c1_i32_47 : BitVec 32 := 1#32
  let v191 : BitVec 32 := Scalar.muli arg16 c1_i32_47
  let v192 : BitVec 32 := Scalar.addi v20 v191
  let v194 : BitVec 32 := Scalar.addi v193 v192
  let v195 : Index := Scalar.indexCast v194
  ![v195.toNat]
def k0_mult13 (v196 : BitVec 32) : BitVec 32 :=
  let c_m8_i32_92 : BitVec 32 := 4294967288#32
  let v197 : BitVec 32 := Scalar.andi v196 c_m8_i32_92
  v197

def k0_off47 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off48 (i : grid0.Coords) (v10 : BitVec 32) (v15 : BitVec 32) (k0_t5 : Fin (k0_t5_loop v10 v15).trips) : Fin 4 → Nat :=
  let arg0 : BitVec 32 := BitVec.ofNat 32 (i 0).val
  let c1_i32 : BitVec 32 := 1#32
  let v0 : BitVec 32 := Scalar.andi arg0 c1_i32
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_48 : BitVec 32 := 0#32
  let c1_i32_50 : BitVec 32 := 1#32
  let arg16 : BitVec 32 := Scf.iv c0_i32_48 c1_i32_50 k0_t5
  let c1_i32_47 : BitVec 32 := 1#32
  let v191 : BitVec 32 := Scalar.muli arg16 c1_i32_47
  let v192 : BitVec 32 := Scalar.addi v20 v191
  let c0_i32_93 : BitVec 32 := 0#32
  let c0_i32_94 : BitVec 32 := 0#32
  ![v0.toNat, v192.toNat, 0, 0]
def k0_off49 (v196 : BitVec 32) : Fin 2 → Nat :=
  let c_m8_i32_92 : BitVec 32 := 4294967288#32
  let v197 : BitVec 32 := Scalar.andi v196 c_m8_i32_92
  let v198 : BitVec 32 := v197
  let c0_i32_95 : BitVec 32 := 0#32
  ![v198.toNat, 0]

def k0_chk13 (v196 : BitVec 32) : Prop :=
  (8 ∣ (k0_mult13 v196).toNat) ∧
  (∀ a, (k0_off49 v196) a + S8x5120.size a ≤ S37919x5120.size a) ∧
  (∀ (hinb : ∀ a, (k0_off49 v196) a + S8x5120.size a ≤ S37919x5120.size a), (Rect.unit (s := S37919x5120) (k0_off49 v196) S8x5120.size hinb).WholeWords (EltTy.packing .i8))
theorem k0_mult13_dvd : ∀ (v196 : BitVec 32) (k0_hw13 : k0_chk13 v196), 8 ∣ (k0_mult13 v196).toNat := fun v196 k0_hw13 => k0_hw13.1
theorem k0_off49_inb : ∀ (v196 : BitVec 32) (k0_hw13 : k0_chk13 v196), ∀ a, (k0_off49 v196) a + S8x5120.size a ≤ S37919x5120.size a := fun v196 k0_hw13 => k0_hw13.2.1
theorem k0_off49_wordsi8 : ∀ (v196 : BitVec 32) (k0_hw13 : k0_chk13 v196), (Rect.unit (s := S37919x5120) (k0_off49 v196) S8x5120.size (k0_off49_inb v196 k0_hw13)).WholeWords (EltTy.packing .i8) := fun v196 k0_hw13 => k0_hw13.2.2 (k0_off49_inb v196 k0_hw13)

@[reducible] def k0_t6_loop (v10 : BitVec 32) (v15 : BitVec 32) : Scf.Loop 32 :=
  let c0_i32_48 : BitVec 32 := 0#32
  let c32_i32_43 : BitVec 32 := 32#32
  let c0_i32_9 : BitVec 32 := 0#32
  let v21 : BitVec 1 := Scalar.cmpi .sge v15 c0_i32_9
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v88 : BitVec 32 := Scalar.subi c32_i32_43 v27
  let v89 : BitVec 32 := Scalar.subi v88 v20
  let c1_i32_44 : BitVec 32 := 1#32
  let c1_i32_45 : BitVec 32 := 1#32
  let v90 : BitVec 32 := Scalar.subi c1_i32_44 c1_i32_45
  let v91 : BitVec 32 := Scalar.addi v89 v90
  let c1_i32_46 : BitVec 32 := 1#32
  let v92 : BitVec 32 := Scalar.divsi v91 c1_i32_46
  let v93 : BitVec 32 := Scalar.subi v92 c0_i32_48
  let c1_i32_49 : BitVec 32 := 1#32
  let v95 : BitVec 32 := Scalar.divsi v93 c1_i32_49
  let v96 : BitVec 32 := Scalar.muli v95 c1_i32_49
  let v97 : BitVec 32 := Scalar.addi c0_i32_48 v96
  let v94 : BitVec 32 := Scalar.addi c0_i32_48 v93
  let c1_i32_51 : BitVec 32 := 1#32
  ⟨v97, v94, c1_i32_51⟩
def k0_off50 (i : grid0.Coords) (v10 : BitVec 32) (v15 : BitVec 32) (k0_t6 : Fin (k0_t6_loop v10 v15).trips) : Fin 1 → Nat :=
  let arg0 : BitVec 32 := BitVec.ofNat 32 (i 0).val
  let c32_i32_91 : BitVec 32 := 32#32
  let v193 : BitVec 32 := Scalar.muli arg0 c32_i32_91
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_48 : BitVec 32 := 0#32
  let c32_i32_43 : BitVec 32 := 32#32
  let c0_i32_9 : BitVec 32 := 0#32
  let v21 : BitVec 1 := Scalar.cmpi .sge v15 c0_i32_9
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v88 : BitVec 32 := Scalar.subi c32_i32_43 v27
  let v89 : BitVec 32 := Scalar.subi v88 v20
  let c1_i32_44 : BitVec 32 := 1#32
  let c1_i32_45 : BitVec 32 := 1#32
  let v90 : BitVec 32 := Scalar.subi c1_i32_44 c1_i32_45
  let v91 : BitVec 32 := Scalar.addi v89 v90
  let c1_i32_46 : BitVec 32 := 1#32
  let v92 : BitVec 32 := Scalar.divsi v91 c1_i32_46
  let v93 : BitVec 32 := Scalar.subi v92 c0_i32_48
  let c1_i32_49 : BitVec 32 := 1#32
  let v95 : BitVec 32 := Scalar.divsi v93 c1_i32_49
  let v96 : BitVec 32 := Scalar.muli v95 c1_i32_49
  let v97 : BitVec 32 := Scalar.addi c0_i32_48 v96
  let c1_i32_51 : BitVec 32 := 1#32
  let arg16 : BitVec 32 := Scf.iv v97 c1_i32_51 k0_t6
  let c1_i32_47 : BitVec 32 := 1#32
  let v191 : BitVec 32 := Scalar.muli arg16 c1_i32_47
  let v192 : BitVec 32 := Scalar.addi v20 v191
  let v194 : BitVec 32 := Scalar.addi v193 v192
  let v195 : Index := Scalar.indexCast v194
  ![v195.toNat]
def k0_mult14 (v196 : BitVec 32) : BitVec 32 :=
  let c_m8_i32_92 : BitVec 32 := 4294967288#32
  let v197 : BitVec 32 := Scalar.andi v196 c_m8_i32_92
  v197

def k0_off51 (i : grid0.Coords) : Fin 1 → Nat :=
  let arg0 : BitVec 32 := BitVec.ofNat 32 (i 0).val
  let c1_i32 : BitVec 32 := 1#32
  let v0 : BitVec 32 := Scalar.andi arg0 c1_i32
  ![v0.toNat]
def k0_off52 (i : grid0.Coords) (v10 : BitVec 32) (v15 : BitVec 32) (k0_t6 : Fin (k0_t6_loop v10 v15).trips) : Fin 4 → Nat :=
  let arg0 : BitVec 32 := BitVec.ofNat 32 (i 0).val
  let c1_i32 : BitVec 32 := 1#32
  let v0 : BitVec 32 := Scalar.andi arg0 c1_i32
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_48 : BitVec 32 := 0#32
  let c32_i32_43 : BitVec 32 := 32#32
  let c0_i32_9 : BitVec 32 := 0#32
  let v21 : BitVec 1 := Scalar.cmpi .sge v15 c0_i32_9
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v88 : BitVec 32 := Scalar.subi c32_i32_43 v27
  let v89 : BitVec 32 := Scalar.subi v88 v20
  let c1_i32_44 : BitVec 32 := 1#32
  let c1_i32_45 : BitVec 32 := 1#32
  let v90 : BitVec 32 := Scalar.subi c1_i32_44 c1_i32_45
  let v91 : BitVec 32 := Scalar.addi v89 v90
  let c1_i32_46 : BitVec 32 := 1#32
  let v92 : BitVec 32 := Scalar.divsi v91 c1_i32_46
  let v93 : BitVec 32 := Scalar.subi v92 c0_i32_48
  let c1_i32_49 : BitVec 32 := 1#32
  let v95 : BitVec 32 := Scalar.divsi v93 c1_i32_49
  let v96 : BitVec 32 := Scalar.muli v95 c1_i32_49
  let v97 : BitVec 32 := Scalar.addi c0_i32_48 v96
  let c1_i32_51 : BitVec 32 := 1#32
  let arg16 : BitVec 32 := Scf.iv v97 c1_i32_51 k0_t6
  let c1_i32_47 : BitVec 32 := 1#32
  let v191 : BitVec 32 := Scalar.muli arg16 c1_i32_47
  let v192 : BitVec 32 := Scalar.addi v20 v191
  let c0_i32_93 : BitVec 32 := 0#32
  let c0_i32_94 : BitVec 32 := 0#32
  ![v0.toNat, v192.toNat, 0, 0]
def k0_off53 (v196 : BitVec 32) : Fin 2 → Nat :=
  let c_m8_i32_92 : BitVec 32 := 4294967288#32
  let v197 : BitVec 32 := Scalar.andi v196 c_m8_i32_92
  let v198 : BitVec 32 := v197
  let c0_i32_95 : BitVec 32 := 0#32
  ![v198.toNat, 0]

def k0_chk14 (v196 : BitVec 32) : Prop :=
  (8 ∣ (k0_mult14 v196).toNat) ∧
  (∀ a, (k0_off53 v196) a + S8x5120.size a ≤ S37919x5120.size a) ∧
  (∀ (hinb : ∀ a, (k0_off53 v196) a + S8x5120.size a ≤ S37919x5120.size a), (Rect.unit (s := S37919x5120) (k0_off53 v196) S8x5120.size hinb).WholeWords (EltTy.packing .i8))
theorem k0_mult14_dvd : ∀ (v196 : BitVec 32) (k0_hw14 : k0_chk14 v196), 8 ∣ (k0_mult14 v196).toNat := fun v196 k0_hw14 => k0_hw14.1
theorem k0_off53_inb : ∀ (v196 : BitVec 32) (k0_hw14 : k0_chk14 v196), ∀ a, (k0_off53 v196) a + S8x5120.size a ≤ S37919x5120.size a := fun v196 k0_hw14 => k0_hw14.2.1
theorem k0_off53_wordsi8 : ∀ (v196 : BitVec 32) (k0_hw14 : k0_chk14 v196), (Rect.unit (s := S37919x5120) (k0_off53 v196) S8x5120.size (k0_off53_inb v196 k0_hw14)).WholeWords (EltTy.packing .i8) := fun v196 k0_hw14 => k0_hw14.2.2 (k0_off53_inb v196 k0_hw14)

@[reducible] def k0_t7_loop (v10 : BitVec 32) (v15 : BitVec 32) : Scf.Loop 32 :=
  let c0_i32_57 : BitVec 32 := 0#32
  let c32_i32_52 : BitVec 32 := 32#32
  let c0_i32_9 : BitVec 32 := 0#32
  let v21 : BitVec 1 := Scalar.cmpi .sge v15 c0_i32_9
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v98 : BitVec 32 := Scalar.subi c32_i32_52 v27
  let v99 : BitVec 32 := Scalar.subi v98 v20
  let c1_i32_53 : BitVec 32 := 1#32
  let c1_i32_54 : BitVec 32 := 1#32
  let v100 : BitVec 32 := Scalar.subi c1_i32_53 c1_i32_54
  let v101 : BitVec 32 := Scalar.addi v99 v100
  let c1_i32_55 : BitVec 32 := 1#32
  let v102 : BitVec 32 := Scalar.divsi v101 c1_i32_55
  let v103 : BitVec 32 := Scalar.subi v102 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_59 : BitVec 32 := 1#32
  ⟨c0_i32_57, v107, c1_i32_59⟩
def k0_off54 (i : grid0.Coords) (v10 : BitVec 32) (v15 : BitVec 32) (k0_t7 : Fin (k0_t7_loop v10 v15).trips) : Fin 1 → Nat :=
  let arg0 : BitVec 32 := BitVec.ofNat 32 (i 0).val
  let c32_i32_91 : BitVec 32 := 32#32
  let v193 : BitVec 32 := Scalar.muli arg0 c32_i32_91
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c1_i32_59 : BitVec 32 := 1#32
  let arg16 : BitVec 32 := Scf.iv c0_i32_57 c1_i32_59 k0_t7
  let c1_i32_56 : BitVec 32 := 1#32
  let v191 : BitVec 32 := Scalar.muli arg16 c1_i32_56
  let v192 : BitVec 32 := Scalar.addi v20 v191
  let v194 : BitVec 32 := Scalar.addi v193 v192
  let v195 : Index := Scalar.indexCast v194
  ![v195.toNat]
def k0_off55 (i : grid0.Coords) (v10 : BitVec 32) (v15 : BitVec 32) (k0_t7 : Fin (k0_t7_loop v10 v15).trips) : Fin 4 → Nat :=
  let arg0 : BitVec 32 := BitVec.ofNat 32 (i 0).val
  let c1_i32 : BitVec 32 := 1#32
  let v0 : BitVec 32 := Scalar.andi arg0 c1_i32
  let v198 : Index := Scalar.indexCast v0
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c1_i32_59 : BitVec 32 := 1#32
  let arg16 : BitVec 32 := Scf.iv c0_i32_57 c1_i32_59 k0_t7
  let c1_i32_56 : BitVec 32 := 1#32
  let v191 : BitVec 32 := Scalar.muli arg16 c1_i32_56
  let v192 : BitVec 32 := Scalar.addi v20 v191
  let v199 : Index := Scalar.indexCast v192
  let c0_92 : Index := 0#32
  let c0_93 : Index := 0#32
  ![v198.toNat, v199.toNat, 0, 0]
def k0_off56 (i : grid0.Coords) (v10 : BitVec 32) (v15 : BitVec 32) (k0_t7 : Fin (k0_t7_loop v10 v15).trips) : Fin 3 → Nat :=
  let arg0 : BitVec 32 := BitVec.ofNat 32 (i 0).val
  let c1_i32 : BitVec 32 := 1#32
  let v0 : BitVec 32 := Scalar.andi arg0 c1_i32
  let v215 : Index := Scalar.indexCast v0
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c1_i32_59 : BitVec 32 := 1#32
  let arg16 : BitVec 32 := Scf.iv c0_i32_57 c1_i32_59 k0_t7
  let c1_i32_56 : BitVec 32 := 1#32
  let v191 : BitVec 32 := Scalar.muli arg16 c1_i32_56
  let v192 : BitVec 32 := Scalar.addi v20 v191
  let v216 : Index := Scalar.indexCast v192
  let c0_96 : Index := 0#32
  ![v215.toNat, v216.toNat, 0]
@[reducible] def k0_t8_loop (v10 : BitVec 32) (v15 : BitVec 32) : Scf.Loop 32 :=
  let c0_i32_57 : BitVec 32 := 0#32
  let c32_i32_52 : BitVec 32 := 32#32
  let c0_i32_9 : BitVec 32 := 0#32
  let v21 : BitVec 1 := Scalar.cmpi .sge v15 c0_i32_9
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v98 : BitVec 32 := Scalar.subi c32_i32_52 v27
  let v99 : BitVec 32 := Scalar.subi v98 v20
  let c1_i32_53 : BitVec 32 := 1#32
  let c1_i32_54 : BitVec 32 := 1#32
  let v100 : BitVec 32 := Scalar.subi c1_i32_53 c1_i32_54
  let v101 : BitVec 32 := Scalar.addi v99 v100
  let c1_i32_55 : BitVec 32 := 1#32
  let v102 : BitVec 32 := Scalar.divsi v101 c1_i32_55
  let v103 : BitVec 32 := Scalar.subi v102 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let v104 : BitVec 32 := Scalar.addi c0_i32_57 v103
  let c1_i32_60 : BitVec 32 := 1#32
  ⟨v107, v104, c1_i32_60⟩
def k0_off57 (i : grid0.Coords) (v10 : BitVec 32) (v15 : BitVec 32) (k0_t8 : Fin (k0_t8_loop v10 v15).trips) : Fin 1 → Nat :=
  let arg0 : BitVec 32 := BitVec.ofNat 32 (i 0).val
  let c32_i32_91 : BitVec 32 := 32#32
  let v193 : BitVec 32 := Scalar.muli arg0 c32_i32_91
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c32_i32_52 : BitVec 32 := 32#32
  let c0_i32_9 : BitVec 32 := 0#32
  let v21 : BitVec 1 := Scalar.cmpi .sge v15 c0_i32_9
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v98 : BitVec 32 := Scalar.subi c32_i32_52 v27
  let v99 : BitVec 32 := Scalar.subi v98 v20
  let c1_i32_53 : BitVec 32 := 1#32
  let c1_i32_54 : BitVec 32 := 1#32
  let v100 : BitVec 32 := Scalar.subi c1_i32_53 c1_i32_54
  let v101 : BitVec 32 := Scalar.addi v99 v100
  let c1_i32_55 : BitVec 32 := 1#32
  let v102 : BitVec 32 := Scalar.divsi v101 c1_i32_55
  let v103 : BitVec 32 := Scalar.subi v102 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_60 : BitVec 32 := 1#32
  let arg16 : BitVec 32 := Scf.iv v107 c1_i32_60 k0_t8
  let c1_i32_56 : BitVec 32 := 1#32
  let v191 : BitVec 32 := Scalar.muli arg16 c1_i32_56
  let v192 : BitVec 32 := Scalar.addi v20 v191
  let v194 : BitVec 32 := Scalar.addi v193 v192
  let v195 : Index := Scalar.indexCast v194
  ![v195.toNat]
def k0_off58 (i : grid0.Coords) (v10 : BitVec 32) (v15 : BitVec 32) (k0_t8 : Fin (k0_t8_loop v10 v15).trips) : Fin 4 → Nat :=
  let arg0 : BitVec 32 := BitVec.ofNat 32 (i 0).val
  let c1_i32 : BitVec 32 := 1#32
  let v0 : BitVec 32 := Scalar.andi arg0 c1_i32
  let v198 : Index := Scalar.indexCast v0
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c32_i32_52 : BitVec 32 := 32#32
  let c0_i32_9 : BitVec 32 := 0#32
  let v21 : BitVec 1 := Scalar.cmpi .sge v15 c0_i32_9
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v98 : BitVec 32 := Scalar.subi c32_i32_52 v27
  let v99 : BitVec 32 := Scalar.subi v98 v20
  let c1_i32_53 : BitVec 32 := 1#32
  let c1_i32_54 : BitVec 32 := 1#32
  let v100 : BitVec 32 := Scalar.subi c1_i32_53 c1_i32_54
  let v101 : BitVec 32 := Scalar.addi v99 v100
  let c1_i32_55 : BitVec 32 := 1#32
  let v102 : BitVec 32 := Scalar.divsi v101 c1_i32_55
  let v103 : BitVec 32 := Scalar.subi v102 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_60 : BitVec 32 := 1#32
  let arg16 : BitVec 32 := Scf.iv v107 c1_i32_60 k0_t8
  let c1_i32_56 : BitVec 32 := 1#32
  let v191 : BitVec 32 := Scalar.muli arg16 c1_i32_56
  let v192 : BitVec 32 := Scalar.addi v20 v191
  let v199 : Index := Scalar.indexCast v192
  let c0_92 : Index := 0#32
  let c0_93 : Index := 0#32
  ![v198.toNat, v199.toNat, 0, 0]
def k0_off59 (i : grid0.Coords) (v10 : BitVec 32) (v15 : BitVec 32) (k0_t8 : Fin (k0_t8_loop v10 v15).trips) : Fin 3 → Nat :=
  let arg0 : BitVec 32 := BitVec.ofNat 32 (i 0).val
  let c1_i32 : BitVec 32 := 1#32
  let v0 : BitVec 32 := Scalar.andi arg0 c1_i32
  let v215 : Index := Scalar.indexCast v0
  let c0_i32_6 : BitVec 32 := 0#32
  let v16 : BitVec 1 := Scalar.cmpi .sge v10 c0_i32_6
  let c32_i32_7 : BitVec 32 := 32#32
  let c256_i32 : BitVec 32 := 256#32
  let c255_i32 : BitVec 32 := 255#32
  let v17 : BitVec 32 := Scalar.andi v10 c255_i32
  let v18 : BitVec 32 := Scalar.subi c256_i32 v17
  let v19 : BitVec 32 := Scalar.minsi c32_i32_7 v18
  let c0_i32_8 : BitVec 32 := 0#32
  let v20 : BitVec 32 := Scalar.select v16 v19 c0_i32_8
  let c0_i32_57 : BitVec 32 := 0#32
  let c32_i32_52 : BitVec 32 := 32#32
  let c0_i32_9 : BitVec 32 := 0#32
  let v21 : BitVec 1 := Scalar.cmpi .sge v15 c0_i32_9
  let c32_i32_10 : BitVec 32 := 32#32
  let v22 : BitVec 1 := Scalar.cmpi .slt v20 c32_i32_10
  let v23 : BitVec 1 := Scalar.andi v21 v22
  let c32_i32_13 : BitVec 32 := 32#32
  let c255_i32_11 : BitVec 32 := 255#32
  let v24 : BitVec 32 := Scalar.andi v15 c255_i32_11
  let c1_i32_12 : BitVec 32 := 1#32
  let v25 : BitVec 32 := Scalar.addi v24 c1_i32_12
  let v26 : BitVec 32 := Scalar.minsi c32_i32_13 v25
  let c0_i32_14 : BitVec 32 := 0#32
  let v27 : BitVec 32 := Scalar.select v23 v26 c0_i32_14
  let v98 : BitVec 32 := Scalar.subi c32_i32_52 v27
  let v99 : BitVec 32 := Scalar.subi v98 v20
  let c1_i32_53 : BitVec 32 := 1#32
  let c1_i32_54 : BitVec 32 := 1#32
  let v100 : BitVec 32 := Scalar.subi c1_i32_53 c1_i32_54
  let v101 : BitVec 32 := Scalar.addi v99 v100
  let c1_i32_55 : BitVec 32 := 1#32
  let v102 : BitVec 32 := Scalar.divsi v101 c1_i32_55
  let v103 : BitVec 32 := Scalar.subi v102 c0_i32_57
  let c1_i32_58 : BitVec 32 := 1#32
  let v105 : BitVec 32 := Scalar.divsi v103 c1_i32_58
  let v106 : BitVec 32 := Scalar.muli v105 c1_i32_58
  let v107 : BitVec 32 := Scalar.addi c0_i32_57 v106
  let c1_i32_60 : BitVec 32 := 1#32
  let arg16 : BitVec 32 := Scf.iv v107 c1_i32_60 k0_t8
  let c1_i32_56 : BitVec 32 := 1#32
  let v191 : BitVec 32 := Scalar.muli arg16 c1_i32_56
  let v192 : BitVec 32 := Scalar.addi v20 v191
  let v216 : Index := Scalar.indexCast v192
  let c0_96 : Index := 0#32
  ![v215.toNat, v216.toNat, 0]

def k0_chk10 (i : grid0.Coords) (v10 : BitVec 32) (v15 : BitVec 32) : Prop :=
  (8 ∣ (k0_mult10 v15).toNat) ∧
  (∀ (k0_h8 : k0_cond8 v10 v15 = 1#1), ∀ a, (k0_off40 v15) a + S40x5120.size a ≤ S10752x5120.size a) ∧
  ((k0_t5_loop v10 v15).OK) ∧
  (∀ k0_t5 : Fin (k0_t5_loop v10 v15).trips, ∀ a, (k0_off46 i v10 v15 k0_t5) a + S1.size a ≤ S12288.size a) ∧
  (∀ k0_t5 : Fin (k0_t5_loop v10 v15).trips, ∀ a, (k0_off48 i v10 v15 k0_t5) a + S1x1x8x5120.size a ≤ S2x32x8x5120.size a) ∧
  (∀ k0_t5 : Fin (k0_t5_loop v10 v15).trips, ∀ (hinb : ∀ a, (k0_off48 i v10 v15 k0_t5) a + S1x1x8x5120.size a ≤ S2x32x8x5120.size a), (Rect.unit (s := S2x32x8x5120) (k0_off48 i v10 v15 k0_t5) S1x1x8x5120.size hinb).WholeWords (EltTy.packing .i8)) ∧
  ((k0_t6_loop v10 v15).OK) ∧
  (∀ k0_t6 : Fin (k0_t6_loop v10 v15).trips, ∀ a, (k0_off50 i v10 v15 k0_t6) a + S1.size a ≤ S12288.size a) ∧
  (∀ k0_t6 : Fin (k0_t6_loop v10 v15).trips, ∀ a, (k0_off52 i v10 v15 k0_t6) a + S1x1x8x5120.size a ≤ S2x32x8x5120.size a) ∧
  (∀ k0_t6 : Fin (k0_t6_loop v10 v15).trips, ∀ (hinb : ∀ a, (k0_off52 i v10 v15 k0_t6) a + S1x1x8x5120.size a ≤ S2x32x8x5120.size a), (Rect.unit (s := S2x32x8x5120) (k0_off52 i v10 v15 k0_t6) S1x1x8x5120.size hinb).WholeWords (EltTy.packing .i8)) ∧
  ((k0_t7_loop v10 v15).OK) ∧
  (∀ k0_t7 : Fin (k0_t7_loop v10 v15).trips, ∀ a, (k0_off54 i v10 v15 k0_t7) a + S1.size a ≤ S12288.size a) ∧
  (∀ k0_t7 : Fin (k0_t7_loop v10 v15).trips, ∀ a, (k0_off55 i v10 v15 k0_t7) a + S1x1x8x5120.size a ≤ S2x32x8x5120.size a) ∧
  (∀ k0_t7 : Fin (k0_t7_loop v10 v15).trips, ∀ a, (k0_off56 i v10 v15 k0_t7) a + S1x1x5120.size a ≤ S2x40x5120.size a) ∧
  ((k0_t8_loop v10 v15).OK) ∧
  (∀ k0_t8 : Fin (k0_t8_loop v10 v15).trips, ∀ a, (k0_off57 i v10 v15 k0_t8) a + S1.size a ≤ S12288.size a) ∧
  (∀ k0_t8 : Fin (k0_t8_loop v10 v15).trips, ∀ a, (k0_off58 i v10 v15 k0_t8) a + S1x1x8x5120.size a ≤ S2x32x8x5120.size a) ∧
  (∀ k0_t8 : Fin (k0_t8_loop v10 v15).trips, ∀ a, (k0_off59 i v10 v15 k0_t8) a + S1x1x5120.size a ≤ S2x40x5120.size a)
theorem k0_mult10_dvd : ∀ (i : grid0.Coords) (v10 : BitVec 32) (v15 : BitVec 32) (k0_hw10 : k0_chk10 i v10 v15), 8 ∣ (k0_mult10 v15).toNat := fun i v10 v15 k0_hw10 => k0_hw10.1
theorem k0_off40_inb : ∀ (i : grid0.Coords) (v10 : BitVec 32) (v15 : BitVec 32) (k0_hw10 : k0_chk10 i v10 v15), ∀ (k0_h8 : k0_cond8 v10 v15 = 1#1), ∀ a, (k0_off40 v15) a + S40x5120.size a ≤ S10752x5120.size a := fun i v10 v15 k0_hw10 k0_h8 => k0_hw10.2.1 k0_h8
theorem k0_t5_ok : ∀ (i : grid0.Coords) (v10 : BitVec 32) (v15 : BitVec 32) (k0_hw10 : k0_chk10 i v10 v15), (k0_t5_loop v10 v15).OK := fun i v10 v15 k0_hw10 => k0_hw10.2.2.1
theorem k0_off46_inb : ∀ (i : grid0.Coords) (v10 : BitVec 32) (v15 : BitVec 32) (k0_hw10 : k0_chk10 i v10 v15) (k0_t5 : Fin (k0_t5_loop v10 v15).trips), ∀ a, (k0_off46 i v10 v15 k0_t5) a + S1.size a ≤ S12288.size a := fun i v10 v15 k0_hw10 k0_t5 => k0_hw10.2.2.2.1 k0_t5
theorem k0_off48_inb : ∀ (i : grid0.Coords) (v10 : BitVec 32) (v15 : BitVec 32) (k0_hw10 : k0_chk10 i v10 v15) (k0_t5 : Fin (k0_t5_loop v10 v15).trips), ∀ a, (k0_off48 i v10 v15 k0_t5) a + S1x1x8x5120.size a ≤ S2x32x8x5120.size a := fun i v10 v15 k0_hw10 k0_t5 => k0_hw10.2.2.2.2.1 k0_t5
theorem k0_off48_wordsi8 : ∀ (i : grid0.Coords) (v10 : BitVec 32) (v15 : BitVec 32) (k0_hw10 : k0_chk10 i v10 v15) (k0_t5 : Fin (k0_t5_loop v10 v15).trips), (Rect.unit (s := S2x32x8x5120) (k0_off48 i v10 v15 k0_t5) S1x1x8x5120.size (k0_off48_inb i v10 v15 k0_hw10 k0_t5)).WholeWords (EltTy.packing .i8) := fun i v10 v15 k0_hw10 k0_t5 => k0_hw10.2.2.2.2.2.1 k0_t5 (k0_off48_inb i v10 v15 k0_hw10 k0_t5)
theorem k0_t6_ok : ∀ (i : grid0.Coords) (v10 : BitVec 32) (v15 : BitVec 32) (k0_hw10 : k0_chk10 i v10 v15), (k0_t6_loop v10 v15).OK := fun i v10 v15 k0_hw10 => k0_hw10.2.2.2.2.2.2.1
theorem k0_off50_inb : ∀ (i : grid0.Coords) (v10 : BitVec 32) (v15 : BitVec 32) (k0_hw10 : k0_chk10 i v10 v15) (k0_t6 : Fin (k0_t6_loop v10 v15).trips), ∀ a, (k0_off50 i v10 v15 k0_t6) a + S1.size a ≤ S12288.size a := fun i v10 v15 k0_hw10 k0_t6 => k0_hw10.2.2.2.2.2.2.2.1 k0_t6
theorem k0_off52_inb : ∀ (i : grid0.Coords) (v10 : BitVec 32) (v15 : BitVec 32) (k0_hw10 : k0_chk10 i v10 v15) (k0_t6 : Fin (k0_t6_loop v10 v15).trips), ∀ a, (k0_off52 i v10 v15 k0_t6) a + S1x1x8x5120.size a ≤ S2x32x8x5120.size a := fun i v10 v15 k0_hw10 k0_t6 => k0_hw10.2.2.2.2.2.2.2.2.1 k0_t6
theorem k0_off52_wordsi8 : ∀ (i : grid0.Coords) (v10 : BitVec 32) (v15 : BitVec 32) (k0_hw10 : k0_chk10 i v10 v15) (k0_t6 : Fin (k0_t6_loop v10 v15).trips), (Rect.unit (s := S2x32x8x5120) (k0_off52 i v10 v15 k0_t6) S1x1x8x5120.size (k0_off52_inb i v10 v15 k0_hw10 k0_t6)).WholeWords (EltTy.packing .i8) := fun i v10 v15 k0_hw10 k0_t6 => k0_hw10.2.2.2.2.2.2.2.2.2.1 k0_t6 (k0_off52_inb i v10 v15 k0_hw10 k0_t6)
theorem k0_t7_ok : ∀ (i : grid0.Coords) (v10 : BitVec 32) (v15 : BitVec 32) (k0_hw10 : k0_chk10 i v10 v15), (k0_t7_loop v10 v15).OK := fun i v10 v15 k0_hw10 => k0_hw10.2.2.2.2.2.2.2.2.2.2.1
theorem k0_off54_inb : ∀ (i : grid0.Coords) (v10 : BitVec 32) (v15 : BitVec 32) (k0_hw10 : k0_chk10 i v10 v15) (k0_t7 : Fin (k0_t7_loop v10 v15).trips), ∀ a, (k0_off54 i v10 v15 k0_t7) a + S1.size a ≤ S12288.size a := fun i v10 v15 k0_hw10 k0_t7 => k0_hw10.2.2.2.2.2.2.2.2.2.2.2.1 k0_t7
theorem k0_off55_inb : ∀ (i : grid0.Coords) (v10 : BitVec 32) (v15 : BitVec 32) (k0_hw10 : k0_chk10 i v10 v15) (k0_t7 : Fin (k0_t7_loop v10 v15).trips), ∀ a, (k0_off55 i v10 v15 k0_t7) a + S1x1x8x5120.size a ≤ S2x32x8x5120.size a := fun i v10 v15 k0_hw10 k0_t7 => k0_hw10.2.2.2.2.2.2.2.2.2.2.2.2.1 k0_t7
theorem k0_off56_inb : ∀ (i : grid0.Coords) (v10 : BitVec 32) (v15 : BitVec 32) (k0_hw10 : k0_chk10 i v10 v15) (k0_t7 : Fin (k0_t7_loop v10 v15).trips), ∀ a, (k0_off56 i v10 v15 k0_t7) a + S1x1x5120.size a ≤ S2x40x5120.size a := fun i v10 v15 k0_hw10 k0_t7 => k0_hw10.2.2.2.2.2.2.2.2.2.2.2.2.2.1 k0_t7
theorem k0_t8_ok : ∀ (i : grid0.Coords) (v10 : BitVec 32) (v15 : BitVec 32) (k0_hw10 : k0_chk10 i v10 v15), (k0_t8_loop v10 v15).OK := fun i v10 v15 k0_hw10 => k0_hw10.2.2.2.2.2.2.2.2.2.2.2.2.2.2.1
theorem k0_off57_inb : ∀ (i : grid0.Coords) (v10 : BitVec 32) (v15 : BitVec 32) (k0_hw10 : k0_chk10 i v10 v15) (k0_t8 : Fin (k0_t8_loop v10 v15).trips), ∀ a, (k0_off57 i v10 v15 k0_t8) a + S1.size a ≤ S12288.size a := fun i v10 v15 k0_hw10 k0_t8 => k0_hw10.2.2.2.2.2.2.2.2.2.2.2.2.2.2.2.1 k0_t8
theorem k0_off58_inb : ∀ (i : grid0.Coords) (v10 : BitVec 32) (v15 : BitVec 32) (k0_hw10 : k0_chk10 i v10 v15) (k0_t8 : Fin (k0_t8_loop v10 v15).trips), ∀ a, (k0_off58 i v10 v15 k0_t8) a + S1x1x8x5120.size a ≤ S2x32x8x5120.size a := fun i v10 v15 k0_hw10 k0_t8 => k0_hw10.2.2.2.2.2.2.2.2.2.2.2.2.2.2.2.2.1 k0_t8
theorem k0_off59_inb : ∀ (i : grid0.Coords) (v10 : BitVec 32) (v15 : BitVec 32) (k0_hw10 : k0_chk10 i v10 v15) (k0_t8 : Fin (k0_t8_loop v10 v15).trips), ∀ a, (k0_off59 i v10 v15 k0_t8) a + S1x1x5120.size a ≤ S2x40x5120.size a := fun i v10 v15 k0_hw10 k0_t8 => k0_hw10.2.2.2.2.2.2.2.2.2.2.2.2.2.2.2.2.2 k0_t8

def k0_off60 (i : grid0.Coords) : Fin 2 → Nat :=
  let arg0 : BitVec 32 := BitVec.ofNat 32 (i 0).val
  let c4_i32_87 : BitVec 32 := 4#32
  let v177 : BitVec 32 := Scalar.divsi arg0 c4_i32_87
  let v185 : Index := Scalar.indexCast v177
  let c0_89 : Index := 0#32
  ![v185.toNat, 0]
def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x5120 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x5120 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Proof.AsmPlan.lean ====
/-
Proof/AsmPlan.lean — how the assembly splits a frame of 32 rows.

A frame begins with rows of one run of image rows, ends with rows of another, and the rows between
are rows of the embedding table.  The kernel works the two lengths out of two table words; this file
states those lengths as natural numbers and shows that the words are those numbers.
-/
module

public import proofs.«01_k».proof.Proof.Gen.AsmIdeal.Skeleton
public import Idealize.ShloMosaic.Lib.WordArith
public import Idealize.ShloMosaic.Lib.WordArith.Masks

@[expose] public section

namespace Cert.AsmPlan

open Idealize.ShloMosaic Idealize.ShloMosaic.WordArith Cert.AsmIdeal

/-- The number of leading rows of the frame that come from the run of its first row. -/
def na (v : BitVec 32) : ℕ := if v.toNat < 2 ^ 31 then min 32 (256 - v.toNat % 256) else 0

/-- The number of trailing rows of the frame that come from the run of its last row. -/
def nb (v w : BitVec 32) : ℕ :=
  if w.toNat < 2 ^ 31 ∧ na v < 32 then min 32 (w.toNat % 256 + 1) else 0

/-- The first length as the kernel's word. -/
def naW (v : BitVec 32) : BitVec 32 :=
  Scalar.select (Scalar.cmpi .sge v 0#32)
    (Scalar.minsi 32#32 (Scalar.subi 256#32 (Scalar.andi v 255#32))) 0#32

/-- The second length as the kernel's word. -/
def nbW (v w : BitVec 32) : BitVec 32 :=
  Scalar.select (Scalar.andi (Scalar.cmpi .sge w 0#32) (Scalar.cmpi .slt (naW v) 32#32))
    (Scalar.minsi 32#32 (Scalar.addi (Scalar.andi w 255#32) 1#32)) 0#32

theorem sge_zero (v : BitVec 32) :
    Scalar.cmpi .sge v 0#32 = BitVec.ofBool (decide (v.toNat < 2 ^ 31)) := by
  have := v.isLt
  show BitVec.ofBool (BitVec.sle 0#32 v) = _
  congr 1
  rw [Bool.eq_iff_iff, BitVec.sle_iff_toInt_le, decide_eq_true_iff, BitVec.toInt_eq_toNat_cond v]
  rw [show (0#32 : BitVec 32).toInt = 0 from rfl]
  split <;> omega

theorem na_le (v : BitVec 32) : na v ≤ 32 := by unfold na; split <;> omega
theorem nb_le (v w : BitVec 32) : nb v w ≤ 32 := by unfold nb; split <;> omega

theorem low8 (v : BitVec 32) : Scalar.andi v 255#32 = BitVec.ofNat 32 (v.toNat % 256) := by
  apply BitVec.eq_of_toNat_eq
  rw [toNat_andi_lowMask v 255#32 8 rfl, BitVec.toNat_ofNat]
  omega

theorem head_words : ∀ a : Fin 256, Scalar.minsi 32#32 (Scalar.subi 256#32 (BitVec.ofNat 32 a.val))
    = BitVec.ofNat 32 (min 32 (256 - a.val)) := by decide +kernel
theorem tail_words : ∀ a : Fin 256, Scalar.minsi 32#32 (Scalar.addi (BitVec.ofNat 32 a.val) 1#32)
    = BitVec.ofNat 32 (min 32 (a.val + 1)) := by decide +kernel
theorem lt_words : ∀ a : Fin 33, Scalar.cmpi .slt (BitVec.ofNat 32 a.val) 32#32
    = BitVec.ofBool (decide (a.val < 32)) := by decide +kernel
theorem pos_words : ∀ a : Fin 33, Scalar.cmpi .ne (Scalar.extui
    (Scalar.cmpi .sgt (BitVec.ofNat 32 a.val) 0#32)) 0#32 = BitVec.ofBool (decide (0 < a.val)) := by
  decide +kernel

theorem naW_eq (v : BitVec 32) : naW v = BitVec.ofNat 32 (na v) := by
  unfold naW na
  rw [sge_zero, low8, head_words ⟨v.toNat % 256, Nat.mod_lt _ (by decide)⟩]
  by_cases h : v.toNat < 2 ^ 31
  · rw [if_pos h, decide_eq_true h]; rfl
  · rw [if_neg h, decide_eq_false h]; rfl

theorem nbW_eq (v w : BitVec 32) : nbW v w = BitVec.ofNat 32 (nb v w) := by
  unfold nbW nb
  rw [naW_eq, lt_words ⟨na v, by have := na_le v; omega⟩, sge_zero, low8,
    tail_words ⟨w.toNat % 256, Nat.mod_lt _ (by decide)⟩]
  by_cases h : w.toNat < 2 ^ 31
  · by_cases h' : na v < 32
    · rw [if_pos ⟨h, h'⟩]; simp only [decide_eq_true h, decide_eq_true h']; rfl
    · rw [if_neg (fun x => h' x.2)]; simp only [decide_eq_true h, decide_eq_false h']; rfl
  · rw [if_neg (fun x => h x.1)]
    by_cases h' : na v < 32
    · simp only [decide_eq_false h, decide_eq_true h']; rfl
    · simp only [decide_eq_false h, decide_eq_false h']; rfl

/-- The word of the number of text rows, as the kernel's loops compute their last trip. -/
def txtW (v w : BitVec 32) : BitVec 32 :=
  Scalar.addi 0#32 (Scalar.muli (Scalar.divsi (Scalar.subi (Scalar.divsi (Scalar.addi
    (Scalar.subi (Scalar.subi 32#32 (nbW v w)) (naW v)) (Scalar.subi 1#32 1#32)) 1#32) 0#32) 1#32) 1#32)

/-- The number of text rows. -/
def txt (v w : BitVec 32) : ℕ := 32 - nb v w - na v

theorem txtW_eq (v w : BitVec 32) :
    txtW v w = Scalar.subi (Scalar.subi 32#32 (nbW v w)) (naW v) := by
  have d : ∀ x : BitVec 32, Scalar.divsi x 1#32 = x := fun x => divsi_one _ x
  unfold txtW
  rw [d, d]
  simp only [Scalar.addi, Scalar.muli, Scalar.subi, IntOp.addi, IntOp.muli, IntOp.subi]
  simp

theorem trips_words : ∀ a b : Fin 33, Scf.trips 0#32 (Scalar.subi (Scalar.subi 32#32
    (BitVec.ofNat 32 b.val)) (BitVec.ofNat 32 a.val)) 1#32 = 32 - b.val - a.val := by decide +kernel

/-- The loop over the text rows. -/
@[reducible] def lp (v w : BitVec 32) : Scf.Loop 32 := ⟨0#32, txtW v w, 1#32⟩

theorem lp_trips (v w : BitVec 32) : (lp v w).trips = txt v w := by
  show Scf.trips 0#32 (txtW v w) 1#32 = _
  rw [txtW_eq, naW_eq, nbW_eq]
  exact trips_words ⟨na v, by have := na_le v; omega⟩ ⟨nb v w, by have := nb_le v w; omega⟩

theorem lp_ok (v w : BitVec 32) : (lp v w).OK := by
  refine ⟨show (0 : ℤ) < (1#32 : BitVec 32).toInt by decide, ?_⟩
  have h := lp_trips v w
  have : (lp v w).trips ≤ 32 := by rw [h]; unfold txt; omega
  show (0#32 : BitVec 32).toInt + ((lp v w).trips : ℤ) * (1#32 : BitVec 32).toInt < 2 ^ 31
  rw [show (0#32 : BitVec 32).toInt = 0 from rfl, show (1#32 : BitVec 32).toInt = 1 from rfl]
  omega

theorem t1_eq (v w : BitVec 32) : k0_t1_loop v w = lp v w := rfl
theorem t3_eq (v w : BitVec 32) : k0_t3_loop v w = lp v w := rfl
theorem t5_eq (v w : BitVec 32) : k0_t5_loop v w = lp v w := rfl
theorem t7_eq (v w : BitVec 32) : k0_t7_loop v w = lp v w := rfl

theorem cond2_eq (v : BitVec 32) : k0_cond2 v = BitVec.ofBool (decide (0 < na v)) := by
  show Scalar.cmpi .ne (Scalar.extui (Scalar.cmpi .sgt (naW v) 0#32)) 0#32 = _
  rw [naW_eq]; exact pos_words ⟨na v, by have := na_le v; omega⟩
theorem cond3_eq (v w : BitVec 32) : k0_cond3 v w = BitVec.ofBool (decide (0 < nb v w)) := by
  show Scalar.cmpi .ne (Scalar.extui (Scalar.cmpi .sgt (nbW v w) 0#32)) 0#32 = _
  rw [nbW_eq]; exact pos_words ⟨nb v w, by have := nb_le v w; omega⟩
theorem cond5_eq (v : BitVec 32) : k0_cond5 v = k0_cond2 v := rfl
theorem cond6_eq (v w : BitVec 32) : k0_cond6 v w = k0_cond3 v w := rfl
theorem cond7_eq (v : BitVec 32) : k0_cond7 v = k0_cond2 v := rfl
theorem cond8_eq (v w : BitVec 32) : k0_cond8 v w = k0_cond3 v w := rfl

end Cert.AsmPlan
-- ==== Proof.AsmOffs.lean ====
/-
Proof/AsmOffs.lean — where the assembly's copies go: each offset vector of the kernel in closed form, and
the checks the kernel makes, from what the precondition says of one frame's table words.
-/
module

public import proofs.«01_k».proof.Proof.AsmPlan

@[expose] public section

namespace Cert.AsmPlan

open Idealize.ShloMosaic Idealize.ShloMosaic.WordArith Cert.AsmIdeal

/-- The low bit of a grid point's number, as a word. -/
theorem par_word (i : grid0.Coords) : (Scalar.andi (BitVec.ofNat 32 (i 0).val) 1#32).toNat = (i 0).val % 2 := by
  have h : (i 0).val < 384 := (i 0).isLt
  rw [toNat_andi_lowMask _ 1#32 1 rfl, BitVec.toNat_ofNat]; omega
theorem npar_word (i : grid0.Coords) :
    (Scalar.subi 1#32 (Scalar.andi (BitVec.ofNat 32 (i 0).val) 1#32)).toNat = 1 - (i 0).val % 2 := by
  have h := par_word i
  show (1#32 - Scalar.andi (BitVec.ofNat 32 (i 0).val) 1#32).toNat = _
  rw [BitVec.toNat_sub, h]
  show (2 ^ 32 - (i 0).val % 2 + 1) % 2 ^ 32 = _
  omega

theorem off3_eq (i : grid0.Coords) : k0_off3 i = ![(i 0).val % 2] := by
  show ![_] = _; rw [par_word]
theorem off4_eq (i : grid0.Coords) : k0_off4 i = ![(i 0).val % 2, 0, 0] := by
  show ![_, 0, 0] = _; rw [par_word]
theorem off6_eq (i : grid0.Coords) : k0_off6 i = ![(i 0).val % 2] := off3_eq i
theorem off7_eq (i : grid0.Coords) : k0_off7 i = ![(i 0).val % 2, 0, 0] := off4_eq i
theorem off10_eq (i : grid0.Coords) : k0_off10 i = ![(i 0).val % 2] := off3_eq i
theorem off19_eq (i : grid0.Coords) : k0_off19 i = ![1 - (i 0).val % 2] := by
  show ![_] = _; rw [npar_word]
theorem off20_eq (i : grid0.Coords) : k0_off20 i = ![1 - (i 0).val % 2, 0, 0] := by
  show ![_, 0, 0] = _; rw [npar_word]
theorem off22_eq (i : grid0.Coords) : k0_off22 i = ![1 - (i 0).val % 2] := off19_eq i
theorem off23_eq (i : grid0.Coords) : k0_off23 i = ![1 - (i 0).val % 2, 0, 0] := off20_eq i
theorem off26_eq (i : grid0.Coords) : k0_off26 i = ![1 - (i 0).val % 2] := off19_eq i
theorem off35_eq (i : grid0.Coords) : k0_off35 i = ![(i 0).val % 2] := off3_eq i
theorem off36_eq (i : grid0.Coords) : k0_off36 i = ![(i 0).val % 2, 0, 0] := off4_eq i
theorem off38_eq (i : grid0.Coords) : k0_off38 i = ![(i 0).val % 2] := off3_eq i
theorem off39_eq (i : grid0.Coords) : k0_off39 i = ![(i 0).val % 2, 0, 0] := off4_eq i
theorem off43_eq (i : grid0.Coords) : k0_off43 i = ![(i 0).val % 2, 0, 0] := off4_eq i
theorem off44_eq (i : grid0.Coords) : k0_off44 i = ![(i 0).val % 2, 0, 0] := off4_eq i
theorem off45_eq (i : grid0.Coords) : k0_off45 i = ![(i 0).val % 2, 0, 0] := off4_eq i
theorem off47_eq (i : grid0.Coords) : k0_off47 i = ![(i 0).val % 2] := off3_eq i

/-- Clearing the low three bits. -/
theorem and_mask8_eq (x : BitVec 32) : x &&& 4294967288#32 = (x >>> 3) <<< 3 := by
  have hm : (4294967288#32 : BitVec 32) = BitVec.allOnes 32 <<< 3 := by decide
  rw [hm]
  ext i hi
  simp only [BitVec.getElem_and, BitVec.getElem_shiftLeft, BitVec.getElem_ushiftRight, BitVec.getElem_allOnes]
  by_cases h : i < 3
  · simp only [h, decide_true, Bool.not_true, Bool.false_and, Bool.and_false]
  · simp only [h, decide_false, Bool.not_false, Bool.true_and]
    rw [Bool.and_true, show 3 + (i - 3) = i by omega, BitVec.getLsbD_eq_getElem hi]
theorem toNat_mask8 (x : BitVec 32) : (Scalar.andi x 4294967288#32).toNat = x.toNat / 8 * 8 := by
  show (x &&& 4294967288#32).toNat = _
  rw [and_mask8_eq, BitVec.toNat_shiftLeft, BitVec.toNat_ushiftRight, Nat.shiftLeft_eq, Nat.shiftRight_eq_div_pow]
  have := x.isLt
  omega

/-- The first row of a window of 40 rows around a word's row: rounded down to a multiple of 8, kept in the array. -/
def ws (x : BitVec 32) : ℕ := if x.toNat < 2 ^ 31 then min 10712 (x.toNat / 8 * 8) else 0
/-- The same as the kernel's word. -/
def wsW (x : BitVec 32) : BitVec 32 :=
  Scalar.minsi 10712#32 (Scalar.maxsi 0#32 (Scalar.andi x 4294967288#32))

theorem ws_le (x : BitVec 32) : ws x ≤ 10712 := by unfold ws; split <;> omega
theorem ws_dvd (x : BitVec 32) : 8 ∣ ws x := by unfold ws; split <;> omega

theorem wsW_eq (x : BitVec 32) : (wsW x).toNat = ws x := by
  have hx := x.isLt
  have hm := toNat_mask8 x
  set y := Scalar.andi x 4294967288#32 with hy
  have h0 : (Scalar.maxsi 0#32 y).toNat = y.toInt.toNat := toNat_maxsi_zero y
  have h1 : 2 * (Scalar.maxsi 0#32 y).toNat < 2 ^ 32 := two_mul_toNat_maxsi_zero_lt y
  have h2 : (Scalar.minsi 10712#32 (Scalar.maxsi 0#32 y)).toNat
      = min (10712#32 : BitVec 32).toNat (Scalar.maxsi 0#32 y).toNat :=
    toNat_minsi_of_lt _ _ (by decide) (by omega)
  show (Scalar.minsi 10712#32 (Scalar.maxsi 0#32 y)).toNat = _
  rw [h2, h0, BitVec.toInt_eq_toNat_cond, hm]
  unfold ws
  show min 10712 _ = _
  split <;> split <;> omega

/-- The word whose window the leading rows are read from. -/
def aW (v : BitVec 32) : BitVec 32 := Scalar.maxsi v 0#32
/-- The word whose window the trailing rows are read from. -/
def bW (w : BitVec 32) : BitVec 32 := Scalar.subi w 31#32

theorem off5_eq (v : BitVec 32) : k0_off5 v = ![ws (aW v), 0] := by
  show ![(wsW (aW v)).toNat, 0] = _; rw [wsW_eq]
theorem off8_eq (w : BitVec 32) : k0_off8 w = ![ws (bW w), 0] := by
  show ![(wsW (bW w)).toNat, 0] = _; rw [wsW_eq]
theorem off21_eq (v : BitVec 32) : k0_off21 v = ![ws (aW v), 0] := off5_eq v
theorem off24_eq (w : BitVec 32) : k0_off24 w = ![ws (bW w), 0] := off8_eq w
theorem off37_eq (v : BitVec 32) : k0_off37 v = ![ws (aW v), 0] := off5_eq v
theorem off40_eq (w : BitVec 32) : k0_off40 w = ![ws (bW w), 0] := off8_eq w
theorem off12_eq (x : BitVec 32) : k0_off12 x = ![x.toNat / 8 * 8, 0] := by
  show ![_, 0] = _; rw [toNat_mask8]
theorem off28_eq (x : BitVec 32) : k0_off28 x = ![x.toNat / 8 * 8, 0] := off12_eq x
theorem off49_eq (x : BitVec 32) : k0_off49 x = ![x.toNat / 8 * 8, 0] := off12_eq x

/-- The row of a trip of the loop over the text rows, as the kernel's word. -/
theorem row_word (v w : BitVec 32) (k : Fin (lp v w).trips) :
    (Scalar.addi (naW v) (Scalar.muli (Scf.iv 0#32 1#32 k.val) 1#32)).toNat = na v + k.val := by
  have hk : k.val < txt v w := lt_of_lt_of_eq k.isLt (lp_trips v w)
  have hk' : k.val < 32 := by unfold txt at hk; omega
  have hn := na_le v
  have hi := toNat_iv_zero_one k.val (by omega)
  show (naW v + Scf.iv 0#32 1#32 k.val * 1#32).toNat = _
  rw [BitVec.mul_one, BitVec.toNat_add, hi, naW_eq, BitVec.toNat_ofNat]
  omega

theorem row_lt (v w : BitVec 32) (k : Fin (lp v w).trips) : na v + k.val + nb v w < 32 := by
  have hk : k.val < txt v w := lt_of_lt_of_eq k.isLt (lp_trips v w)
  unfold txt at hk; omega

theorem off9_eq (i : grid0.Coords) (v w : BitVec 32) (k : Fin (lp v w).trips) :
    k0_off9 i v w k = ![32 * (i 0).val + (na v + k.val)] := by
  have h : (i 0).val < 384 := (i 0).isLt
  have hr := row_lt v w k
  show ![(Scalar.addi (Scalar.muli (BitVec.ofNat 32 (i 0).val) 32#32) (Scalar.addi (naW v) (Scalar.muli (Scf.iv 0#32 1#32 k.val) 1#32))).toNat] = _
  congr 1
  show (BitVec.ofNat 32 (i 0).val * 32#32 + Scalar.addi (naW v) (Scalar.muli (Scf.iv 0#32 1#32 k.val) 1#32)).toNat = _
  rw [BitVec.toNat_add, BitVec.toNat_mul, row_word, BitVec.toNat_ofNat]
  show ((i 0).val % 2 ^ 32 * 32 % 2 ^ 32 + (na v + k.val)) % 2 ^ 32 = _
  omega
theorem off46_eq (i : grid0.Coords) (v w : BitVec 32) (k : Fin (lp v w).trips) :
    k0_off46 i v w k = ![32 * (i 0).val + (na v + k.val)] := off9_eq i v w k
theorem off54_eq (i : grid0.Coords) (v w : BitVec 32) (k : Fin (lp v w).trips) :
    k0_off54 i v w k = ![32 * (i 0).val + (na v + k.val)] := off9_eq i v w k
theorem off25_eq (i : grid0.Coords) (h1 : (i 0).val + 1 < 384) (v w : BitVec 32) (k : Fin (lp v w).trips) :
    k0_off25 i v w k = ![32 * ((i 0).val + 1) + (na v + k.val)] := by
  have hr := row_lt v w k
  show ![(Scalar.addi (Scalar.muli (Scalar.addi (BitVec.ofNat 32 (i 0).val) 1#32) 32#32) (Scalar.addi (naW v) (Scalar.muli (Scf.iv 0#32 1#32 k.val) 1#32))).toNat] = _
  congr 1
  show ((BitVec.ofNat 32 (i 0).val + 1#32) * 32#32 + Scalar.addi (naW v) (Scalar.muli (Scf.iv 0#32 1#32 k.val) 1#32)).toNat = _
  rw [BitVec.toNat_add, BitVec.toNat_mul, BitVec.toNat_add, row_word, BitVec.toNat_ofNat]
  show (((i 0).val % 2 ^ 32 + 1) % 2 ^ 32 * 32 % 2 ^ 32 + (na v + k.val)) % 2 ^ 32 = _
  omega

theorem off11_eq (i : grid0.Coords) (v w : BitVec 32) (k : Fin (lp v w).trips) :
    k0_off11 i v w k = ![(i 0).val % 2, na v + k.val, 0, 0] := by
  show ![(Scalar.andi (BitVec.ofNat 32 (i 0).val) 1#32).toNat, (Scalar.addi (naW v) (Scalar.muli (Scf.iv 0#32 1#32 k.val) 1#32)).toNat, 0, 0] = _
  rw [par_word, row_word]
theorem off48_eq (i : grid0.Coords) (v w : BitVec 32) (k : Fin (lp v w).trips) :
    k0_off48 i v w k = ![(i 0).val % 2, na v + k.val, 0, 0] := off11_eq i v w k
theorem off55_eq (i : grid0.Coords) (v w : BitVec 32) (k : Fin (lp v w).trips) :
    k0_off55 i v w k = ![(i 0).val % 2, na v + k.val, 0, 0] := off11_eq i v w k
theorem off56_eq (i : grid0.Coords) (v w : BitVec 32) (k : Fin (lp v w).trips) :
    k0_off56 i v w k = ![(i 0).val % 2, na v + k.val, 0] := by
  show ![(Scalar.andi (BitVec.ofNat 32 (i 0).val) 1#32).toNat, (Scalar.addi (naW v) (Scalar.muli (Scf.iv 0#32 1#32 k.val) 1#32)).toNat, 0] = _
  rw [par_word, row_word]
theorem off27_eq (i : grid0.Coords) (v w : BitVec 32) (k : Fin (lp v w).trips) :
    k0_off27 i v w k = ![1 - (i 0).val % 2, na v + k.val, 0, 0] := by
  show ![(Scalar.subi 1#32 (Scalar.andi (BitVec.ofNat 32 (i 0).val) 1#32)).toNat, (Scalar.addi (naW v) (Scalar.muli (Scf.iv 0#32 1#32 k.val) 1#32)).toNat, 0, 0] = _
  rw [npar_word, row_word]

theorem cond1_iff (i : grid0.Coords) : k0_cond1 i = 1#1 ↔ (i 0).val = 0 := by
  have : ∀ a : Fin 384, Scalar.cmpi .ne (Scalar.extui (Scalar.cmpi .eq (BitVec.ofNat 32 a.val) 0#32)) 0#32 = 1#1 ↔ a.val = 0 := by
    decide +kernel
  exact this (i 0)
theorem cond4_iff (i : grid0.Coords) : k0_cond4 i = 1#1 ↔ (i 0).val + 1 < 384 := by
  have : ∀ a : Fin 384, Scalar.cmpi .ne (Scalar.extui (Scalar.cmpi .slt (Scalar.addi (BitVec.ofNat 32 a.val) 1#32) 384#32)) 0#32 = 1#1 ↔ a.val + 1 < 384 := by
    decide +kernel
  exact this (i 0)

/-- A loop with equal ends has no trips. -/
theorem no_trips (x : BitVec 32) : Scf.trips x x 1#32 = 0 := by
  unfold Scf.trips; rw [show (1#32 : BitVec 32).toInt = 1 from rfl]; omega
theorem txtS_eq (v w : BitVec 32) :
    Scalar.addi 0#32 (Scalar.subi (Scalar.divsi (Scalar.addi
    (Scalar.subi (Scalar.subi 32#32 (nbW v w)) (naW v)) (Scalar.subi 1#32 1#32)) 1#32) 0#32) = txtW v w := by
  have d : ∀ x : BitVec 32, Scalar.divsi x 1#32 = x := fun x => divsi_one _ x
  rw [txtW_eq, d]
  simp only [Scalar.addi, Scalar.subi, IntOp.addi, IntOp.subi]
  simp
theorem t2_eq (v w : BitVec 32) : k0_t2_loop v w = ⟨txtW v w, txtW v w, 1#32⟩ :=
  congrArg (fun u => (⟨txtW v w, u, 1#32⟩ : Scf.Loop 32)) (txtS_eq v w)
theorem t2_trips (v w : BitVec 32) : (k0_t2_loop v w).trips = 0 := by rw [t2_eq]; exact no_trips _
theorem t4_trips (v w : BitVec 32) : (k0_t4_loop v w).trips = 0 := t2_trips v w
theorem t6_trips (v w : BitVec 32) : (k0_t6_loop v w).trips = 0 := t2_trips v w
theorem t8_trips (v w : BitVec 32) : (k0_t8_loop v w).trips = 0 := t2_trips v w
theorem t2_ok (v w : BitVec 32) : (k0_t2_loop v w).OK := by
  rw [t2_eq]
  refine ⟨show (0 : ℤ) < (1#32 : BitVec 32).toInt by decide, ?_⟩
  show (txtW v w).toInt + ((Scf.trips (txtW v w) (txtW v w) 1#32 : ℕ) : ℤ) * _ < _
  rw [no_trips]
  have := BitVec.toInt_lt (x := txtW v w)
  simp at this ⊢; omega

/-! ## The checks -/

theorem ofs1 {x n : ℕ} (h : x + 1 ≤ n) : ∀ a, (![x] : Fin 1 → ℕ) a + (![1] : Fin 1 → ℕ) a ≤ (![n] : Fin 1 → ℕ) a := by
  intro a; fin_cases a; exact h
theorem ofs2 {x s n m : ℕ} (h : x + s ≤ n) : ∀ a, (![x, 0] : Fin 2 → ℕ) a + (![s, m] : Fin 2 → ℕ) a ≤ (![n, m] : Fin 2 → ℕ) a := by
  intro a; fin_cases a; exacts [h, (Nat.zero_add m).le]
theorem ofs3 {p r s q n m : ℕ} (hp : p + 1 ≤ q) (hr : r + s ≤ n) : ∀ a, (![p, r, 0] : Fin 3 → ℕ) a + (![1, s, m] : Fin 3 → ℕ) a ≤ (![q, n, m] : Fin 3 → ℕ) a := by
  intro a; fin_cases a; exacts [hp, hr, (Nat.zero_add m).le]
theorem ofs4 {p r q n s m : ℕ} (hp : p + 1 ≤ q) (hr : r + 1 ≤ n) :
    ∀ a, (![p, r, 0, 0] : Fin 4 → ℕ) a + (![1, 1, s, m] : Fin 4 → ℕ) a ≤ (![q, n, s, m] : Fin 4 → ℕ) a := by
  intro a; fin_cases a; exacts [hp, hr, (Nat.zero_add s).le, (Nat.zero_add m).le]

theorem words_group {p r : ℕ} (off : Fin 4 → ℕ) (ho : off = ![p, r, 0, 0]) (hinb : ∀ a, off a + S1x1x8x5120.size a ≤ S2x32x8x5120.size a) :
    (Rect.unit (s := S2x32x8x5120) off S1x1x8x5120.size hinb).WholeWords (EltTy.packing .i8) := by
  subst ho; exact Affine.words_rows (show 2 ≤ 4 by decide) rfl rfl
theorem words_table {r : ℕ} (off : Fin 2 → ℕ) (ho : off = ![r / 8 * 8, 0]) (hinb : ∀ a, off a + S8x5120.size a ≤ S37919x5120.size a) :
    (Rect.unit (s := S37919x5120) off S8x5120.size hinb).WholeWords (EltTy.packing .i8) := by
  subst ho
  exact .inl (Affine.packed_dvd (show 2 ≤ 2 by decide) (Dvd.dvd.trans (show EltTy.packing .i8 ∣ 8 by decide) (Dvd.intro_left _ rfl))
    (by decide))

theorem win_inb {x : ℕ} (h : x ≤ 10712) : ∀ a, (![x, 0] : Fin 2 → ℕ) a + S40x5120.size a ≤ S10752x5120.size a := ofs2 (by omega)

theorem chk1 (i : grid0.Coords) (v : BitVec 32) : k0_chk1 i v :=
  ⟨fun _ => (wsW_eq (aW v)).symm ▸ ws_dvd _, fun _ _ => (off5_eq v).symm ▸ win_inb (ws_le _)⟩
theorem chk5 (i : grid0.Coords) (v : BitVec 32) : k0_chk5 i v :=
  ⟨fun _ => (wsW_eq (aW v)).symm ▸ ws_dvd _, fun _ _ => (off21_eq v).symm ▸ win_inb (ws_le _)⟩
theorem chk9 (v : BitVec 32) : k0_chk9 v :=
  ⟨(wsW_eq (aW v)).symm ▸ ws_dvd _, fun _ => (off37_eq v).symm ▸ win_inb (ws_le _)⟩
theorem chk11 (v : BitVec 32) : k0_chk11 v := by
  show 8 ∣ (wsW (aW v)).toNat
  rw [wsW_eq]; exact ws_dvd _
theorem chk12 (w : BitVec 32) : k0_chk12 w := by
  show 8 ∣ (wsW (bW w)).toNat
  rw [wsW_eq]; exact ws_dvd _

theorem chk2 (i : grid0.Coords) (v w : BitVec 32) : k0_chk2 i v w := by
  have h : (i 0).val < 384 := (i 0).isLt
  refine ⟨fun _ => (wsW_eq (bW w)).symm ▸ ws_dvd _, fun _ _ => (off8_eq w).symm ▸ win_inb (ws_le _), fun _ => lp_ok v w,
    fun k _ => ?_, fun k _ => ?_, fun k _ hinb => words_group _ (off11_eq i v w k) hinb, fun _ => t2_ok v w, fun k => ?_, fun k => ?_, fun k => ?_⟩
  · have := row_lt v w k; rw [off9_eq i v w k]; exact ofs1 (by omega)
  · have := row_lt v w k; rw [off11_eq i v w k]; exact ofs4 (by omega) (by omega)
  all_goals exact absurd (lt_of_lt_of_eq k.isLt (t2_trips v w)) (Nat.not_lt_zero _)
theorem chk6 (i : grid0.Coords) (v w : BitVec 32) : k0_chk6 i v w := by
  refine ⟨fun _ => (wsW_eq (bW w)).symm ▸ ws_dvd _, fun _ _ => (off24_eq w).symm ▸ win_inb (ws_le _), fun _ => lp_ok v w,
    fun k h4 => ?_, fun k _ => ?_, fun k _ hinb => words_group _ (off27_eq i v w k) hinb, fun _ => t2_ok v w, fun k => ?_, fun k => ?_, fun k => ?_⟩
  · have := row_lt v w k; have h4 := (cond4_iff i).mp h4; rw [off25_eq i h4 v w k]; exact ofs1 (by omega)
  · have := row_lt v w k; rw [off27_eq i v w k]; exact ofs4 (by omega) (by omega)
  all_goals exact absurd (lt_of_lt_of_eq k.isLt (t4_trips v w)) (Nat.not_lt_zero _)
theorem chk10 (i : grid0.Coords) (v w : BitVec 32) : k0_chk10 i v w := by
  have h : (i 0).val < 384 := (i 0).isLt
  refine ⟨(wsW_eq (bW w)).symm ▸ ws_dvd _, fun _ => (off40_eq w).symm ▸ win_inb (ws_le _), lp_ok v w,
    fun k => ?_, fun k => ?_, fun k hinb => words_group _ (off48_eq i v w k) hinb, t2_ok v w, fun k => ?_, fun k => ?_, fun k => ?_,
    lp_ok v w, fun k => ?_, fun k => ?_, fun k => ?_, t2_ok v w, fun k => ?_, fun k => ?_, fun k => ?_⟩
  · have := row_lt v w k; rw [off46_eq i v w k]; exact ofs1 (by omega)
  · have := row_lt v w k; rw [off48_eq i v w k]; exact ofs4 (by omega) (by omega)
  · exact absurd (lt_of_lt_of_eq k.isLt (t6_trips v w)) (Nat.not_lt_zero _)
  · exact absurd (lt_of_lt_of_eq k.isLt (t6_trips v w)) (Nat.not_lt_zero _)
  · exact absurd (lt_of_lt_of_eq k.isLt (t6_trips v w)) (Nat.not_lt_zero _)
  · have := row_lt v w k; rw [off54_eq i v w k]; exact ofs1 (by omega)
  · have := row_lt v w k; rw [off55_eq i v w k]; exact ofs4 (by omega) (by omega)
  · have := row_lt v w k; rw [off56_eq i v w k]; exact ofs3 (by omega) (by omega)
  all_goals exact absurd (lt_of_lt_of_eq k.isLt (t8_trips v w)) (Nat.not_lt_zero _)

theorem grp_inb {x : BitVec 32} (h : x.toNat < 37912) :
    ∀ a, (![x.toNat / 8 * 8, 0] : Fin 2 → ℕ) a + S8x5120.size a ≤ S37919x5120.size a := ofs2 (by omega)
theorem mask_dvd (x : BitVec 32) : 8 ∣ (Scalar.andi x 4294967288#32).toNat := by rw [toNat_mask8]; exact Dvd.intro_left _ rfl
theorem chk3 (i : grid0.Coords) {x : BitVec 32} (h : x.toNat < 37912) : k0_chk3 i x :=
  ⟨fun _ => mask_dvd x, fun _ => (off12_eq x).symm ▸ grp_inb h, fun _ hinb => words_table _ (off12_eq x) hinb⟩
theorem chk7 (i : grid0.Coords) {x : BitVec 32} (h : x.toNat < 37912) : k0_chk7 i x :=
  ⟨fun _ => mask_dvd x, fun _ => (off28_eq x).symm ▸ grp_inb h, fun _ hinb => words_table _ (off28_eq x) hinb⟩
theorem chk13 {x : BitVec 32} (h : x.toNat < 37912) : k0_chk13 x :=
  ⟨mask_dvd x, (off49_eq x).symm ▸ grp_inb h, fun hinb => words_table _ (off49_eq x) hinb⟩

end Cert.AsmPlan
-- ==== Proof.AsmWindow.lean ====
/-
Proof/AsmWindow.lean — one window of image rows fetched by the assembly: the copy of 40 rows of the image array
into one half of a two-slot scratch buffer, started in one grid point and waited for in a later one.
-/
module

public import proofs.«01_k».proof.Proof.AsmOffs
public import Idealize.ShloMosaic.Lib.Batch
public import Idealize.ShloMosaic.Lib.Ring
public import Idealize.ShloMosaic.Lib.Tactic
public import Idealize.ShloMosaic.Lib.Pipeline.Frame

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep bigSep_insert bigSep_empty)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

/-- The counters the copies' tokens are taken from. -/
abbrev EC : UEmb Counters (MT nD τ sig Unit (Elt F) ℕ (Pipeline.UD sig nD τ) ℕ) := countersEmb (U := Pipeline.UD sig nD τ)

theorem slot_inb {p : ℕ} (hp : p < 2) : ∀ a, (![p, 0, 0] : Fin 3 → ℕ) a + S1x40x5120.size a ≤ S2x40x5120.size a :=
  ofs3 (by omega) (by omega)
theorem cell_inb {p : ℕ} (hp : p < 2) : ∀ a, (![p] : Fin 1 → ℕ) a + S1.size a ≤ S2.size a := ofs1 (by omega)

/-- Half `p` of a two-slot window buffer. -/
def slotM (M : Memref sig .tc .vmem S2x40x5120 .f32) (p : ℕ) (hp : p < 2) : Memref sig .tc .vmem S40x5120 .f32 :=
  (M.slice (Rect.unit (s := S2x40x5120) ![p, 0, 0] S1x40x5120.size (slot_inb hp)) (fun _ => rfl)).squeeze S40x5120 squeezes_S1x40x5120_S40x5120
/-- Cell `p` of a pair of semaphores. -/
def cell (A : DmaSems sig S2) (p : ℕ) (hp : p < 2) : DmaSem sig :=
  ((A.slice (Rect.unit (s := S2) ![p] S1.size (cell_inb hp))).squeeze S_ squeezes_S1_S_).sem
/-- The window of image rows that begins at the aligned row of `x`. -/
def rowsM (R : Memref sig .tc .hbm S10752x5120 .f32) (x : BitVec 32) : Memref sig .tc .hbm S40x5120 .f32 :=
  R.slice (Rect.unit (s := S10752x5120) ![ws x, 0] S40x5120.size (win_inb (ws_le x))) (fun _ => rfl)

theorem rowsM_subset (R : Memref sig .tc .hbm S10752x5120 .f32) (x : BitVec 32) : (rowsM R x).view.set ⊆ R.view.set :=
  View.set_slice_subset _ _

/-- What one window copy credits its cell with. -/
abbrev winCredit (M : Memref sig .tc .vmem S2x40x5120 .f32) (A : DmaSems sig S2) (p : ℕ) (hp : p < 2) : ℕ :=
  (slotM M p hp).view.amount (SemLoc.dma (cell A p hp))

section Window

variable (c : Dev nD) (M : Memref sig .tc .vmem S2x40x5120 .f32) (A : DmaSems sig S2) (R : Memref sig .tc .hbm S10752x5120 .f32)
  (tk : ℕ) (e : Buf (Elt F) (R.view.loc (c : Thread nD τ))) (p : ℕ) (hp : p < 2)

/-- The half is free: its elements in hand, the image array readable under token `tk`, the cell at zero. -/
def winFree : sProp 𝕄 :=
  iprop((∃ g, (slotM M p hp).view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0)

/-- The window of `x` is on its way into the half. -/
def winFly (x : BitVec 32) : sProp 𝕄 :=
  iprop(∃ g, ⌜(slotM M p hp).view.read (Elt F) g = (rowsM R x).view.read (Elt F) e⌝
    ∗ Transfers.Flight EC (c : Thread nD τ) (.dma (cell A p hp)) () (winCredit M A p hp)
      iprop(((slotM M p hp).view.loc (c : Thread nD τ) ↦[(slotM M p hp).view.set]{fullShare} g)
        ∗ ((rowsM R x).view.loc (c : Thread nD τ) ↦[(rowsM R x).view.set]{Transfers.shareTokN fullShare tk} e))
    ∗ (R.view.loc (c : Thread nD τ) ↦[R.view.set \ (rowsM R x).view.set]{Transfers.shareTokN fullShare tk} e))

/-- The half is free again and holds the window of `x`. -/
def winHas (x : BitVec 32) : sProp 𝕄 :=
  iprop(∃ g, ⌜(slotM M p hp).view.read (Elt F) g = (rowsM R x).view.read (Elt F) e⌝
    ∗ ((slotM M p hp).view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0)

variable {α : Type}

/-- Starting the copy. -/
theorem win_issue {Q : α → sProp 𝕄} (x : BitVec 32) (off1 : Fin 1 → ℕ) (h1 : off1 = ![p]) (hi1) (off3 : Fin 3 → ℕ) (h3 : off3 = ![p, 0, 0]) (hi3)
    (off2 : Fin 2 → ℕ) (h2 : off2 = ![ws x, 0]) (hi2) (w1) (w2) (w3) (k : PUnit → Prog (TpuEff nD τ sig (Elt F) Λ₀ .tc) α) :
    winFree c M A R tk e p hp ⊢ iprop((winFly c M A R tk e p hp x -∗ wp frame (wpE (defs₀ (F := F)) Variants.none (c : Thread nD τ) none) Set.univ (k ⟨⟩) Q)
      -∗ wp frame (wpE (defs₀ (F := F)) Variants.none (c : Thread nD τ) none) Set.univ
        (.op (.enqueueDma (R.slice (Rect.unit (s := S10752x5120) off2 S40x5120.size hi2) (fun _ => rfl))
          (.here ((M.slice (Rect.unit (s := S2x40x5120) off3 S1x40x5120.size hi3) (fun _ => rfl)).squeeze S40x5120 squeezes_S1x40x5120_S40x5120))
          (.dma ((A.slice (Rect.unit (s := S2) off1 S1.size hi1)).squeeze S_ squeezes_S1_S_).sem) w1 w2 w3) k : Prog (TpuEff nD τ sig (Elt F) Λ₀ .tc) α) Q) := by
  subst h1 h2 h3
  unfold winFree
  iintro ⟨⟨%g, Hd⟩, He, Hc⟩ Hk
  ihave He' := (pointsTo_split_subset (rowsM_subset R x)).1 $$ He
  icases He' with ⟨He, Hr⟩
  iapply (Transfers.wp_dmaLocal EC Variants.none (c : Thread nD τ) none (src := rowsM R x) (dst := slotM M p hp) (hsrc := w1) (hdst := w2) (hsem := w3) () (winCredit M A p hp) rfl
    (View.amount_pos _ _ (by decide)) subset_rfl) $$ [He Hd Hc]
  · isplitl [He]; · iexact He
    isplitl [Hd]; · iexact Hd
    iexact Hc
  iintro Hf
  iapply Hk
  unfold winFly
  iexists ((slotM M p hp).view.write (Elt F) g ((rowsM R x).view.read (Elt F) e) Finset.univ)
  isplitr
  · ipureintro
    exact View.read_write_univ _ _
  isplitl [Hf]; · iexact Hf
  iexact Hr

/-- Waiting for it. -/
theorem win_wait {Q : α → sProp 𝕄} (x : BitVec 32) (off1 : Fin 1 → ℕ) (h1 : off1 = ![p]) (hi1) (off3 : Fin 3 → ℕ) (h3 : off3 = ![p, 0, 0]) (hi3)
    (S : Memref sig .tc .hbm S40x5120 .f32) (w1) (w2) (k : PUnit → Prog (TpuEff nD τ sig (Elt F) Λ₀ .tc) α) (W : Waits sig Unit) :
    iprop(winFly c M A R tk e p hp x ∗ owes (c : Thread nD τ) 0 W)
      ⊢ iprop((iprop(winHas c M A R tk e p hp x ∗ owes (c : Thread nD τ) 0 (insert (SemLoc.dma (cell A p hp), ()) W)) -∗ wp frame (wpE (defs₀ (F := F)) Variants.none (c : Thread nD τ) none) Set.univ (k ⟨⟩) Q)
      -∗ wp frame (wpE (defs₀ (F := F)) Variants.none (c : Thread nD τ) none) Set.univ
        (.op (.waitDma2 ((A.slice (Rect.unit (s := S2) off1 S1.size hi1)).squeeze S_ squeezes_S1_S_).sem S
          ((M.slice (Rect.unit (s := S2x40x5120) off3 S1x40x5120.size hi3) (fun _ => rfl)).squeeze S40x5120 squeezes_S1x40x5120_S40x5120) w1 w2) k : Prog (TpuEff nD τ sig (Elt F) Λ₀ .tc) α) Q) := by
  subst h1 h3
  unfold winFly
  iintro ⟨⟨%g, %hg, Hf, Hr⟩, HO⟩ Hk
  iapply (Transfers.wp_waitLocal EC Variants.none (c : Thread nD τ) none (sem := cell A p hp) (srcw := S) (dstw := slotM M p hp) (hsrc := w1) (hdst := w2) () (N := winCredit M A p hp) rfl) $$ [Hf HO]
  · isplitl [Hf]; · iexact Hf
    iexact HO
  iintro ⟨⟨Hd, He⟩, Hc, HO⟩
  iapply Hk
  isplitr [HO]
  · unfold winHas
    iexists g
    isplitr; · ipureintro; exact hg
    isplitl [Hd]; · iexact Hd
    isplitl [He Hr]
    · iapply (pointsTo_split_subset (rowsM_subset R x)).2
      isplitl [He]; · iexact He
      iexact Hr
    iexact Hc
  iexact HO

/-- A half that holds something is free for the next copy. -/
theorem winHas_free (x : BitVec 32) : winHas c M A R tk e p hp x ⊢ winFree c M A R tk e p hp := by
  unfold winHas winFree
  iintro ⟨%g, -, Hd, He, Hc⟩
  isplitl [Hd]; · iexists g; iexact Hd
  isplitl [He] <;> iassumption

end Window

end Cert.AsmRun
-- ==== Proof.AsmText.lean ====
/-
Proof/AsmText.lean — the text rows the assembly fetches: for each text row of a frame, the copy of the group of 8
embedding rows its token lies in, all on one semaphore, started in one grid point and waited for in a later one.
-/
module

public import proofs.«01_k».proof.Proof.AsmWindow

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep bigSep_insert bigSep_empty bigSep_mono bigSep_sep)
open scoped Idealize.SL.BI
open Idealize.SL.BI.BIBase Idealize.SL.BI.Laws Idealize.SL.Sem Idealize.SL.ProofMode
open Idealize.SL.RA
open Idealize.ShloMosaic.Ring (rangeSet)

variable {F : FTy → Type} [FloatOps F] [Named F]

local notation "𝕄" => MT nD τ sig Unit (Elt F) ℕ (Pipeline.UD sig nD τ) ℕ

/-- The first row of the group of 8 embedding rows that `x` lies in. -/
def gs (x : BitVec 32) : ℕ := min (x.toNat / 8 * 8) 37904
theorem gs_eq {x : BitVec 32} (h : x.toNat < 37912) : gs x = x.toNat / 8 * 8 := by unfold gs; omega

theorem row_inb {p r : ℕ} (hp : p < 2) (hr : r < 32) : ∀ a, (![p, r, 0, 0] : Fin 4 → ℕ) a + S1x1x8x5120.size a ≤ S2x32x8x5120.size a :=
  ofs4 (by omega) (by omega)
theorem gs_inb (x : BitVec 32) : ∀ a, (![gs x, 0] : Fin 2 → ℕ) a + S8x5120.size a ≤ S37919x5120.size a :=
  ofs2 (by unfold gs; omega)

/-- The place of row `r` in half `p` of the buffer of groups. -/
def rowM (G : Memref sig .tc .vmem S2x32x8x5120 .i8) (p : ℕ) (hp : p < 2) (r : Fin 32) : Memref sig .tc .vmem S8x5120 .i8 :=
  (G.slice (Rect.unit (s := S2x32x8x5120) ![p, r.val, 0, 0] S1x1x8x5120.size (row_inb hp r.isLt)) (fun _ => rfl)).squeeze S8x5120 squeezes_S1x1x8x5120_S8x5120
/-- The group of embedding rows of `x`. -/
def grpM (T : Memref sig .tc .hbm S37919x5120 .i8) (x : BitVec 32) : Memref sig .tc .hbm S8x5120 .i8 :=
  T.slice (Rect.unit (s := S37919x5120) ![gs x, 0] S8x5120.size (gs_inb x)) (fun _ => rfl)
theorem grpM_subset (T : Memref sig .tc .hbm S37919x5120 .i8) (x : BitVec 32) : (grpM T x).view.set ⊆ T.view.set :=
  View.set_slice_subset _ _

/-- What one group's copy credits its cell with. -/
abbrev grpCredit (G : Memref sig .tc .vmem S2x32x8x5120 .i8) (p : ℕ) (hp : p < 2) : ℕ := (rowM G p hp 0).view.dmaCredit

section Text

variable (c : Dev nD) (G : Memref sig .tc .vmem S2x32x8x5120 .i8) (A : DmaSems sig S2) (T : Memref sig .tc .hbm S37919x5120 .i8)
  (tk : ℕ) (m : Buf (Elt F) (T.view.loc (c : Thread nD τ))) (p : ℕ) (hp : p < 2)

/-- Row `r`'s place is free. -/
def rowFree (r : Fin 32) : sProp 𝕄 :=
  iprop((∃ g, (rowM G p hp r).view.loc (c : Thread nD τ) ↦[(rowM G p hp r).view.set]{fullShare} g)
    ∗ (T.view.loc (c : Thread nD τ) ↦[T.view.set]{Transfers.shareTokN fullShare (tk + r.val)} m))
/-- Row `r`'s place holds the group of its token. -/
def rowHas (X : ℕ → BitVec 32) (r : Fin 32) : sProp 𝕄 :=
  iprop((∃ g, ⌜(rowM G p hp r).view.read (Elt F) g = (grpM T (X r.val)).view.read (Elt F) m⌝
      ∗ ((rowM G p hp r).view.loc (c : Thread nD τ) ↦[(rowM G p hp r).view.set]{fullShare} g))
    ∗ (T.view.loc (c : Thread nD τ) ↦[T.view.set]{Transfers.shareTokN fullShare (tk + r.val)} m))
/-- What the copy for row `r` delivers. -/
def rowGets (X : ℕ → BitVec 32) (r : Fin 32) : sProp 𝕄 :=
  iprop((∃ g, ⌜(rowM G p hp r).view.read (Elt F) g = (grpM T (X r.val)).view.read (Elt F) m⌝
      ∗ ((rowM G p hp r).view.loc (c : Thread nD τ) ↦[(rowM G p hp r).view.set]{fullShare} g))
    ∗ ((grpM T (X r.val)).view.loc (c : Thread nD τ) ↦[(grpM T (X r.val)).view.set]{Transfers.shareTokN fullShare (tk + r.val)} m))
/-- What of the embedding table row `r` keeps while its copy is on its way. -/
def rowKeeps (X : ℕ → BitVec 32) (r : Fin 32) : sProp 𝕄 :=
  iprop(T.view.loc (c : Thread nD τ) ↦[T.view.set \ (grpM T (X r.val)).view.set]{Transfers.shareTokN fullShare (tk + r.val)} m)

instance (X : ℕ → BitVec 32) (r : Fin 32) : BI.Storable (upEmb : UEmb _ 𝕄) (rowGets c G T tk m p hp X r) := by
  have h : ∀ (D : Memref sig .tc .hbm S8x5120 .i8) (q) (g : Buf (Elt F) (D.view.loc (c : Thread nD τ))),
      BI.Storable (upEmb : UEmb _ 𝕄) (iprop(D.view.loc (c : Thread nD τ) ↦[D.view.set]{q} g)) := fun _ _ _ => inferInstance
  have := h (grpM T (X r.val)) (Transfers.shareTokN fullShare (tk + r.val)) m
  unfold rowGets
  exact BI.Storable.sep _ _ _

/-- What the copy for the `t`-th of `n` text rows from row `a` on delivers. -/
def gets (X : ℕ → BitVec 32) (a n : ℕ) (h : a + n ≤ 32) (t : Fin n) : sProp 𝕄 :=
  rowGets c G T tk m p hp X ⟨a + t.val, by omega⟩
instance (X : ℕ → BitVec 32) (a n : ℕ) (h : a + n ≤ 32) (t : Fin n) : BI.Storable (upEmb : UEmb _ 𝕄) (gets c G T tk m p hp X a n h t) := by
  unfold gets; infer_instance

/-- No copy under way. -/
def txtFree : sProp 𝕄 :=
  iprop(bigSep Finset.univ (rowFree c G T tk m p hp) ∗ semVal ((c : Thread nD τ), SemLoc.dma (cell A p hp)) 0)
/-- `k` of the `n` copies for the rows from `a` on started, `u` of their credits waited for. -/
def txtRun (X : ℕ → BitVec 32) (a n : ℕ) (h : a + n ≤ 32) (k u : ℕ) : sProp 𝕄 :=
  iprop(bigSep (rangeSet 32 0 a) (rowFree c G T tk m p hp) ∗ bigSep (rangeSet 32 (a + k) 32) (rowFree c G T tk m p hp)
    ∗ bigSep (rangeSet 32 a (a + k)) (rowKeeps c T tk m X)
    ∗ Transfers.Batch EC (c : Thread nD τ) (.dma (cell A p hp)) () (grpCredit G p hp) (gets c G T tk m p hp X a n h) k u)
/-- All there. -/
def txtHas (X : ℕ → BitVec 32) (a n : ℕ) : sProp 𝕄 :=
  iprop(bigSep (rangeSet 32 0 a) (rowFree c G T tk m p hp) ∗ bigSep (rangeSet 32 (a + n) 32) (rowFree c G T tk m p hp)
    ∗ bigSep (rangeSet 32 a (a + n)) (rowHas c G T tk m p hp X) ∗ semVal ((c : Thread nD τ), SemLoc.dma (cell A p hp)) 0)

/-- Before the first copy. -/
theorem txt_open (X : ℕ → BitVec 32) (a n : ℕ) (h : a + n ≤ 32) {E : Set ℕ} :
    txtFree c G A T tk m p hp ⊢ |={E}=> txtRun c G A T tk m p hp X a n h 0 0 := by
  unfold txtFree txtRun
  rw [← Ring.rangeSet_univ, Ring.bigSep_rangeSet_split (Nat.zero_le a) (show a ≤ 32 by omega), Nat.add_zero,
    Ring.bigSep_rangeSet_empty (le_refl a)]
  iintro ⟨⟨H1, H2⟩, Hv⟩
  imod (Transfers.batch_alloc' EC (c : Thread nD τ) () (grpCredit G p hp) (gets c G T tk m p hp X a n h)) $$ Hv with Hb
  imodintro
  isplitl [H1]; · iexact H1
  isplitl [H2]; · iexact H2
  isplitr; · iempintro
  iexact Hb

/-- What a row's copy delivers, with what the row kept. -/
theorem rowGets_has (X : ℕ → BitVec 32) (r : Fin 32) :
    iprop(rowKeeps c T tk m X r ∗ rowGets c G T tk m p hp X r) ⊢ rowHas c G T tk m p hp X r := by
  unfold rowKeeps rowGets rowHas
  iintro ⟨Hr, Hg, Hs⟩
  isplitl [Hg]; · iexact Hg
  iapply (pointsTo_split_subset (grpM_subset T (X r.val))).2
  isplitl [Hs]; · iexact Hs
  iexact Hr

/-- After the last wait. -/
theorem txt_close (X : ℕ → BitVec 32) (a n : ℕ) (h : a + n ≤ 32) :
    txtRun c G A T tk m p hp X a n h n (grpCredit G p hp * n) ⊢ |={Set.univ}=> txtHas c G A T tk m p hp X a n := by
  unfold txtRun txtHas
  iintro ⟨H1, H2, H3, Hb⟩
  imod (Transfers.batch_collect' EC (c : Thread nD τ) (View.dmaCredit_pos _ (by decide))) $$ Hb with ⟨HD, Hv⟩
  imodintro
  isplitl [H1]; · iexact H1
  isplitl [H2]; · iexact H2
  isplitr [Hv]
  · ihave HD' := (show bigSep Finset.univ (gets c G T tk m p hp X a n h) ⊢ bigSep (rangeSet 32 a (a + n)) (rowGets c G T tk m p hp X) from
      Entails.of_eq (by
        let Ψ : ℕ → sProp 𝕄 := fun k => if hk : a + k < 32 then rowGets c G T tk m p hp X ⟨a + k, hk⟩ else iprop(emp)
        rw [Ring.bigSep_rangeSet_eq_range h Ψ (fun k hk => dif_pos hk), Ring.bigSep_fin_eq_range n _ Ψ (fun t ht => dif_pos (by omega)),
          Nat.add_sub_cancel_left])) $$ HD
    ihave HB := (show iprop(bigSep (rangeSet 32 a (a + n)) (rowKeeps c T tk m X) ∗ bigSep (rangeSet 32 a (a + n)) (rowGets c G T tk m p hp X))
        ⊢ bigSep (rangeSet 32 a (a + n)) (rowHas c G T tk m p hp X) from by
      exact (Entails.of_eq (bigSep_sep _ _ _).symm).trans (bigSep_mono fun r _ => rowGets_has c G T tk m p hp X r)) $$ [H3 HD']
    · isplitl [H3]; · iexact H3
      iexact HD'
    iexact HB
  iexact Hv

/-- A row that holds its group is free for the next. -/
theorem rowHas_free (X : ℕ → BitVec 32) (r : Fin 32) : rowHas c G T tk m p hp X r ⊢ rowFree c G T tk m p hp r := by
  unfold rowHas rowFree
  iintro ⟨⟨%g, -, Hg⟩, Hm⟩
  isplitl [Hg]; · iexists g; iexact Hg
  iexact Hm
theorem txtHas_free (X : ℕ → BitVec 32) (a n : ℕ) (h : a + n ≤ 32) : txtHas c G A T tk m p hp X a n ⊢ txtFree c G A T tk m p hp := by
  unfold txtHas txtFree
  rw [← Ring.rangeSet_univ, Ring.bigSep_rangeSet_split (Nat.zero_le a) (show a ≤ 32 by omega),
    Ring.bigSep_rangeSet_split (show a ≤ a + n by omega) h]
  iintro ⟨H1, H2, H3, Hv⟩
  isplitr [Hv]
  · isplitl [H1]; · iexact H1
    isplitr [H2]
    · iapply (show bigSep (rangeSet 32 a (a + n)) (rowHas c G T tk m p hp X) ⊢ bigSep (rangeSet 32 a (a + n)) (rowFree c G T tk m p hp)
        from bigSep_mono fun r _ => rowHas_free c G T tk m p hp X r)
      iexact H3
    iexact H2
  iexact Hv

variable {α : Type}

/-- Starting the copy of the `k`-th text row. -/
theorem txt_issue {Q : α → sProp 𝕄} (X : ℕ → BitVec 32) (a n : ℕ) (h : a + n ≤ 32) (k : ℕ) (hk : k < n) (hX : (X (a + k)).toNat < 37912)
    (off1 : Fin 1 → ℕ) (h1 : off1 = ![p]) (hi1) (off4 : Fin 4 → ℕ) (h4 : off4 = ![p, a + k, 0, 0]) (hi4)
    (off2 : Fin 2 → ℕ) (h2 : off2 = ![(X (a + k)).toNat / 8 * 8, 0]) (hi2) (w1) (w2) (w3)
    (K : PUnit → Prog (TpuEff nD τ sig (Elt F) Λ₀ .tc) α) :
    txtRun c G A T tk m p hp X a n h k 0 ⊢ iprop((txtRun c G A T tk m p hp X a n h (k + 1) 0 -∗ wp frame (wpE (defs₀ (F := F)) Variants.none (c : Thread nD τ) none) Set.univ (K ⟨⟩) Q)
      -∗ wp frame (wpE (defs₀ (F := F)) Variants.none (c : Thread nD τ) none) Set.univ
        (.op (.enqueueDma (T.slice (Rect.unit (s := S37919x5120) off2 S8x5120.size hi2) (fun _ => rfl))
          (.here ((G.slice (Rect.unit (s := S2x32x8x5120) off4 S1x1x8x5120.size hi4) (fun _ => rfl)).squeeze S8x5120 squeezes_S1x1x8x5120_S8x5120))
          (.dma ((A.slice (Rect.unit (s := S2) off1 S1.size hi1)).squeeze S_ squeezes_S1_S_).sem) w1 w2 w3) K) Q) := by
  rw [← gs_eq hX] at h2
  subst h1 h2 h4
  have hr : a + k < 32 := by omega
  have hr' : a + (k + 1) - 1 < 32 := by omega
  unfold txtRun
  rw [Ring.bigSep_rangeSet_head (Φ := rowFree c G T tk m p hp) (lo := a + k) (hi := 32) hr hr,
    Ring.bigSep_rangeSet_last (Φ := rowKeeps c T tk m X) (lo := a) (hi := a + (k + 1)) (by omega) (by omega)]
  iintro ⟨H1, ⟨Hrow, H2⟩, H3, Hb⟩ Hk
  ihave Hrow' := (show rowFree c G T tk m p hp ⟨a + k, hr⟩ ⊢ iprop((∃ g, (rowM G p hp ⟨a + k, hr⟩).view.loc (c : Thread nD τ) ↦[(rowM G p hp ⟨a + k, hr⟩).view.set]{fullShare} g)
    ∗ (T.view.loc (c : Thread nD τ) ↦[T.view.set]{Transfers.shareTokN fullShare (tk + (a + k))} m)) from Entails.rfl) $$ Hrow
  icases Hrow' with ⟨⟨%g, Hd⟩, Hm⟩
  ihave Hm' := (pointsTo_split_subset (grpM_subset T (X (a + k)))).1 $$ Hm
  icases Hm' with ⟨Hs, Hr⟩
  iapply (Transfers.wp_dmaBatch EC Variants.none (c : Thread nD τ) none (src := grpM T (X (a + k))) (dst := rowM G p hp ⟨a + k, hr⟩)
    (hsrc := w1) (hdst := w2) (hsem := w3) (D := gets c G T tk m p hp X a n h) (j := k) (u := 0) () (grpCredit G p hp) rfl
    subset_rfl hk (Nat.zero_le _) (by
      unfold gets rowGets
      iintro ⟨Hd, Hs⟩
      isplitl [Hd]
      · iexists ((rowM G p hp ⟨a + k, hr⟩).view.write (Elt F) g ((grpM T (X (a + k))).view.read (Elt F) m) Finset.univ)
        isplitr
        · ipureintro
          exact View.read_write_univ _ _
        iexact Hd
      iexact Hs)) $$ [Hs Hd Hb]
  · isplitl [Hs]; · iexact Hs
    isplitl [Hd]; · iexact Hd
    iexact Hb
  iintro Hb
  iapply Hk
  isplitl [H1]; · iexact H1
  isplitl [H2]; · iexact H2
  isplitr [Hb]
  · isplitl [Hr]
    · iapply (show iprop(T.view.loc (c : Thread nD τ) ↦[T.view.set \ (grpM T (X (a + k))).view.set]{Transfers.shareTokN fullShare (tk + (a + k))} m)
        ⊢ rowKeeps c T tk m X ⟨a + (k + 1) - 1, hr'⟩ from Entails.rfl) $$ Hr
    iexact H3
  iexact Hb

/-- Waiting for one of the copies. -/
theorem txt_wait {Q : α → sProp 𝕄} (X : ℕ → BitVec 32) (a n : ℕ) (h : a + n ≤ 32) (k : ℕ) (hk : k < n) (r : ℕ) (hr : r < 32)
    (off1 : Fin 1 → ℕ) (h1 : off1 = ![p]) (hi1) (off4 : Fin 4 → ℕ) (h4 : off4 = ![p, r, 0, 0]) (hi4)
    (S : Memref sig .tc .hbm S8x5120 .i8) (w1) (w2) (K : PUnit → Prog (TpuEff nD τ sig (Elt F) Λ₀ .tc) α) (W : Waits sig Unit) :
    iprop(txtRun c G A T tk m p hp X a n h n (grpCredit G p hp * k) ∗ owes (c : Thread nD τ) 0 W)
      ⊢ iprop((iprop(txtRun c G A T tk m p hp X a n h n (grpCredit G p hp * (k + 1)) ∗ owes (c : Thread nD τ) 0 (insert (SemLoc.dma (cell A p hp), ()) W))
          -∗ wp frame (wpE (defs₀ (F := F)) Variants.none (c : Thread nD τ) none) Set.univ (K ⟨⟩) Q)
      -∗ wp frame (wpE (defs₀ (F := F)) Variants.none (c : Thread nD τ) none) Set.univ
        (.op (.waitDma2 ((A.slice (Rect.unit (s := S2) off1 S1.size hi1)).squeeze S_ squeezes_S1_S_).sem S
          ((G.slice (Rect.unit (s := S2x32x8x5120) off4 S1x1x8x5120.size hi4) (fun _ => rfl)).squeeze S8x5120 squeezes_S1x1x8x5120_S8x5120) w1 w2) K) Q) := by
  subst h1 h4
  unfold txtRun
  iintro ⟨⟨H1, H2, H3, Hb⟩, HO⟩ Hk
  iapply (Transfers.wp_waitBatchMul EC Variants.none (c : Thread nD τ) none (sem := cell A p hp) (srcw := S) (dstw := rowM G p hp ⟨r, hr⟩)
    (hsrc := w1) (hdst := w2) () (N := grpCredit G p hp) 1 (Nat.one_mul _).symm (D := gets c G T tk m p hp X a n h) (j := n) (u := grpCredit G p hp * k)
    (by rw [Nat.one_mul, ← Nat.mul_succ]; exact Nat.mul_le_mul_left _ hk)) $$ [Hb HO]
  · isplitl [Hb]; · iexact Hb
    iexact HO
  rw [Nat.one_mul, ← Nat.mul_succ]
  iintro ⟨Hb, HO⟩
  iapply Hk
  isplitr [HO]
  · isplitl [H1]; · iexact H1
    isplitl [H2]; · iexact H2
    isplitl [H3]; · iexact H3
    iexact Hb
  iexact HO

end Text

end Cert.AsmRun
-- ==== Proof.AsmWalk.lean ====
/-
Proof/AsmWalk.lean — walking through the assembly's body.
-/
module

public import proofs.«01_k».proof.Proof.AsmText

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

/-- Entry `n` of a table of words. -/
def tabAt (T : Memref sig .tc .smem S12288 .i32) (c : Dev nD) (f : Buf (Elt F) (T.view.loc (c : Thread nD τ))) (n : ℕ) : BitVec 32 :=
  if h : n + 1 ≤ 12288 then
    (T.access (Rect.unit (s := S12288) ![n] S1.size (ofs1 h))).read (Elt F) f (Shape.Idx.first (s := S1) (by decide))
  else 0#32

section Table
variable (c : Dev nD) (T : Memref sig .tc .smem S12288 .i32) (f : Buf (Elt F) (T.view.loc (c : Thread nD τ))) {q : PosShare TreeShare}

/-- Reading an entry of a table. -/
theorem tab_load {Q : Elt F .i32 → sProp 𝕄} (n : ℕ) (off : Fin 1 → ℕ) (ho : off = ![n]) (hi) (h1) (h2) :
    (T.view.loc (c : Thread nD τ) ↦[T.view.set]{q} f)
      ⊢ iprop(((T.view.loc (c : Thread nD τ) ↦[T.view.set]{q} f) -∗ Q (tabAt T c f n))
        -∗ wp frame (wpE (defs₀ (F := F)) Variants.none (c : Thread nD τ) none) Set.univ
          (smemLoad (e := .i32) T (Rect.unit (s := S12288) off S1.size hi) h1 h2 : Prog (TpuEff nD τ sig (Elt F) Λ₀ .tc) (Elt F .i32)) Q) := by
  subst ho
  have hn : n + 1 ≤ 12288 := hi 0
  unfold tabAt smemLoad
  rw [dif_pos hn]
  iintro Hp Hk
  iapply (wp_smemLoadElt Variants.none (c : Thread nD τ) none Set.univ (m := T) (r := Rect.unit (s := S12288) ![n] S1.size hi)
    (q := q) (f := f) (S := T.view.set) (View.set_slice_subset _ _)) $$ Hp
  iintro Hp
  rw [wp_ret]
  imodintro
  iapply Hk $$ Hp
end Table

section Loops
variable (c : Dev nD)

/-- A loop that carries nothing, by an invariant. -/
theorem loop_wp (L : Scf.Loop 32) (hok : L.OK) (body : Fin L.trips → PUnit → Prog (TpuEff nD τ sig (Elt F) Λ₀ .tc) PUnit) (I : ℕ → sProp 𝕄)
    (hbody : ∀ k : Fin L.trips, I k.val ⊢ wp frame (wpE (defs₀ (F := F)) Variants.none (c : Thread nD τ) none) Set.univ (body k ⟨⟩) (fun _ => I (k.val + 1)))
    {Q : PUnit → sProp 𝕄} :
    I 0 ⊢ iprop((I L.trips -∗ Q ⟨⟩) -∗ wp frame (wpE (defs₀ (F := F)) Variants.none (c : Thread nD τ) none) Set.univ (Scf.Loop.for L hok ⟨⟩ body) Q) := by
  iintro HI HK
  iapply (Scf.wp_for frame (wpE (defs₀ (F := F)) Variants.none (c : Thread nD τ) none) Set.univ L.lb L.ub L.st hok PUnit.unit body
    (fun k _ => I k) (fun k _ => hbody k))
  isplitl [HI]; · iexact HI
  iintro %_ HI
  iapply HK $$ HI

/-- A loop without trips. -/
theorem loop_zero (L : Scf.Loop 32) (h : L.trips = 0) (hok : L.OK) (body : Fin L.trips → PUnit → Prog (TpuEff nD τ sig (Elt F) Λ₀ .tc) PUnit)
    {Q : PUnit → sProp 𝕄} :
    Q ⟨⟩ ⊢ wp frame (wpE (defs₀ (F := F)) Variants.none (c : Thread nD τ) none) Set.univ (Scf.Loop.for L hok ⟨⟩ body) Q := by
  iintro HQ
  iapply (loop_wp c L hok body (fun _ => Q ⟨⟩) (fun k => absurd (lt_of_lt_of_eq k.isLt h) (Nat.not_lt_zero _))) $$ HQ
  iintro HQ
  iexact HQ

/-- A conditional statement before the rest of a program. -/
theorem dite_wp {α : Type} {p : Prop} [Decidable p] {X : p → Prog (TpuEff nD τ sig (Elt F) Λ₀ .tc) α} {R : Prog (TpuEff nD τ sig (Elt F) Λ₀ .tc) α}
    {Q : α → sProp 𝕄} {S S' : sProp 𝕄}
    (hR : S' ⊢ wp frame (wpE (defs₀ (F := F)) Variants.none (c : Thread nD τ) none) Set.univ R Q)
    (ht : ∀ h, (S' ⊢ wp frame (wpE (defs₀ (F := F)) Variants.none (c : Thread nD τ) none) Set.univ R Q)
      → S ⊢ wp frame (wpE (defs₀ (F := F)) Variants.none (c : Thread nD τ) none) Set.univ (X h) Q)
    (hf : ¬ p → S ⊢ S') :
    S ⊢ wp frame (wpE (defs₀ (F := F)) Variants.none (c : Thread nD τ) none) Set.univ (if h : p then X h else R) Q := by
  by_cases h : p
  · rw [dif_pos h]; exact ht h hR
  · rw [dif_neg h]; exact (hf h).trans hR
end Loops

section Half

variable (c : Dev nD) (R : Memref sig .tc .hbm S10752x5120 .f32) (e : Buf (Elt F) (R.view.loc (c : Thread nD τ)))
  (T : Memref sig .tc .hbm S37919x5120 .i8) (m : Buf (Elt F) (T.view.loc (c : Thread nD τ)))
  (M N : Memref sig .tc .vmem S2x40x5120 .f32) (G : Memref sig .tc .vmem S2x32x8x5120 .i8) (A B D : DmaSems sig S2)

theorem na_txt (v w : BitVec 32) : na v + txt v w ≤ 32 := by
  have := na_le v; unfold txt; omega

/-- Half `p` of the three buffers: no copy under way. -/
def halfFree (p : ℕ) (hp : p < 2) : sProp 𝕄 :=
  iprop(winFree c M A R p e p hp ∗ winFree c N B R (2 + p) e p hp ∗ txtFree c G D T (32 * p) m p hp)
/-- Half `p` of the three buffers: the copies for a frame under way. -/
def halfFly (p : ℕ) (hp : p < 2) (v w : BitVec 32) (X : ℕ → BitVec 32) : sProp 𝕄 :=
  iprop((if 0 < na v then winFly c M A R p e p hp (aW v) else winFree c M A R p e p hp)
    ∗ (if 0 < nb v w then winFly c N B R (2 + p) e p hp (bW w) else winFree c N B R (2 + p) e p hp)
    ∗ txtRun c G D T (32 * p) m p hp X (na v) (txt v w) (na_txt v w) (txt v w) 0)
/-- Half `p` of the three buffers: a frame's rows are there. -/
def halfHas (p : ℕ) (hp : p < 2) (v w : BitVec 32) (X : ℕ → BitVec 32) : sProp 𝕄 :=
  iprop((if 0 < na v then winHas c M A R p e p hp (aW v) else winFree c M A R p e p hp)
    ∗ (if 0 < nb v w then winHas c N B R (2 + p) e p hp (bW w) else winFree c N B R (2 + p) e p hp)
    ∗ txtHas c G D T (32 * p) m p hp X (na v) (txt v w))

end Half

end Cert.AsmRun
-- ==== Proof.AsmStart.lean ====
/-
Proof/AsmStart.lean — the first part of the assembly's body: the copies for the first frame are started in the first
grid point, and in every grid point but the last those for the next frame are.
-/
module

public import proofs.«01_k».proof.Proof.AsmWalk

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

/-- The table words of frame `t`: those of its first row, of its last row, and its tokens. -/
abbrev vAt (T : Memref sig .tc .smem S12288 .i32) (c : Dev nD) (f : Buf (Elt F) (T.view.loc (c : Thread nD τ))) (t : ℕ) : BitVec 32 :=
  tabAt T c f (32 * t)
abbrev wAt (T : Memref sig .tc .smem S12288 .i32) (c : Dev nD) (f : Buf (Elt F) (T.view.loc (c : Thread nD τ))) (t : ℕ) : BitVec 32 :=
  tabAt T c f (32 * t + 31)
abbrev xAt (T : Memref sig .tc .smem S12288 .i32) (c : Dev nD) (f : Buf (Elt F) (T.view.loc (c : Thread nD τ))) (t : ℕ) : ℕ → BitVec 32 :=
  fun r => tabAt T c f (32 * t + r)

theorem off1_eq (i : grid0.Coords) : k0_off1 i = ![32 * (i 0).val] := by
  have h : (i 0).val < 384 := (i 0).isLt
  show ![(BitVec.ofNat 32 (i 0).val * 32#32).toNat] = _
  rw [BitVec.toNat_mul, BitVec.toNat_ofNat]
  show ![(i 0).val % 2 ^ 32 * 32 % 2 ^ 32] = _
  congr 1; omega
theorem off33_eq (i : grid0.Coords) : k0_off33 i = ![32 * (i 0).val] := off1_eq i
theorem off41_eq (i : grid0.Coords) : k0_off41 i = ![32 * (i 0).val] := off1_eq i
theorem off2_eq (i : grid0.Coords) : k0_off2 i = ![32 * (i 0).val + 31] := by
  have h : (i 0).val < 384 := (i 0).isLt
  show ![(BitVec.ofNat 32 (i 0).val * 32#32 + 32#32 - 1#32).toNat] = _
  rw [BitVec.toNat_sub, BitVec.toNat_add, BitVec.toNat_mul, BitVec.toNat_ofNat]
  show ![(2 ^ 32 - 1 + ((i 0).val % 2 ^ 32 * 32 % 2 ^ 32 + 32) % 2 ^ 32) % 2 ^ 32] = _
  congr 1; omega
theorem off34_eq (i : grid0.Coords) : k0_off34 i = ![32 * (i 0).val + 31] := off2_eq i
theorem off42_eq (i : grid0.Coords) : k0_off42 i = ![32 * (i 0).val + 31] := off2_eq i
theorem off17_eq (i : grid0.Coords) : k0_off17 i = ![32 * ((i 0).val + 1)] := by
  have h : (i 0).val < 384 := (i 0).isLt
  show ![((BitVec.ofNat 32 (i 0).val + 1#32) * 32#32).toNat] = _
  rw [BitVec.toNat_mul, BitVec.toNat_add, BitVec.toNat_ofNat]
  show ![((i 0).val % 2 ^ 32 + 1) % 2 ^ 32 * 32 % 2 ^ 32] = _
  congr 1; omega
theorem off18_eq (i : grid0.Coords) : k0_off18 i = ![32 * ((i 0).val + 1) + 31] := by
  have h : (i 0).val < 384 := (i 0).isLt
  show ![((BitVec.ofNat 32 (i 0).val + 1#32) * 32#32 + 32#32 - 1#32).toNat] = _
  rw [BitVec.toNat_sub, BitVec.toNat_add, BitVec.toNat_mul, BitVec.toNat_add, BitVec.toNat_ofNat]
  show ![(2 ^ 32 - 1 + (((i 0).val % 2 ^ 32 + 1) % 2 ^ 32 * 32 % 2 ^ 32 + 32) % 2 ^ 32) % 2 ^ 32] = _
  congr 1; omega

section Start

variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))
/-- Reading the two words of a frame, in the first grid point. -/
theorem part1 (arg0) (h1) {q1 : PosShare TreeShare} {Q : _ → sProp 𝕄} :
    (arg1.view.loc (c : Thread nD τ) ↦[arg1.view.set]{q1} f1)
      ⊢ iprop(((arg1.view.loc (c : Thread nD τ) ↦[arg1.view.set]{q1} f1) -∗ Q ⟨vAt arg1 c f1 (i 0).val, chk1 i _, wAt arg1 c f1 (i 0).val, chk2 i _ _,
            naW (vAt arg1 c f1 (i 0).val), nbW (vAt arg1 c f1 (i 0).val) (wAt arg1 c f1 (i 0).val)⟩)
        -∗ wp frame (wpE (defs₀ (F := F)) Variants.none (c : Thread nD τ) none) Set.univ
          (k0_part1 (F := F) i arg1 harg1 arg2 harg2 arg3 harg3 arg4 harg4 arg5 harg5 arg6 harg6 arg7 harg7 arg8 harg8 arg9 harg9 arg10 harg10 arg11 harg11 arg12 harg12 arg13 arg14 arg15 arg0 h1) Q) := by
  unfold k0_part1 nbW naW
  simp only [wp_bind, Prog.lift]
  iintro H Hk
  iapply (tab_load c arg1 f1 (32 * (i 0).val) _ (off1_eq i) _ _ _) $$ H
  iintro H
  iapply (wp_assume Variants.none (c : Thread nD τ) none Set.univ (chk1 i _))
  rw [wp_ret]
  imodintro
  iapply (tab_load c arg1 f1 (32 * (i 0).val + 31) _ (off2_eq i) _ _ _) $$ H
  iintro H
  iapply (wp_assume Variants.none (c : Thread nD τ) none Set.univ (chk2 i _ _))
  rw [wp_ret]
  imodintro
  rw [wp_pure]
  imodintro
  iapply Hk $$ H

/-- Reading the two words of the next frame. -/
theorem part2 (arg0 v0) (h4) {q1 : PosShare TreeShare} {Q : _ → sProp 𝕄} :
    (arg1.view.loc (c : Thread nD τ) ↦[arg1.view.set]{q1} f1)
      ⊢ iprop(((arg1.view.loc (c : Thread nD τ) ↦[arg1.view.set]{q1} f1) -∗ Q ⟨Scalar.addi arg0 1#32, vAt arg1 c f1 ((i 0).val + 1), chk5 i _, wAt arg1 c f1 ((i 0).val + 1), chk6 i _ _,
            naW (vAt arg1 c f1 ((i 0).val + 1)), nbW (vAt arg1 c f1 ((i 0).val + 1)) (wAt arg1 c f1 ((i 0).val + 1)), 0#32⟩)
        -∗ wp frame (wpE (defs₀ (F := F)) Variants.none (c : Thread nD τ) none) Set.univ
          (k0_part2 (F := F) i arg1 harg1 arg2 harg2 arg3 harg3 arg4 harg4 arg5 harg5 arg6 harg6 arg7 harg7 arg8 harg8 arg9 harg9 arg10 harg10 arg11 harg11 arg12 harg12 arg13 arg14 arg15 arg0 v0 h4) Q) := by
  unfold k0_part2 nbW naW
  simp only [wp_bind, Prog.lift]
  iintro H Hk
  iapply (tab_load c arg1 f1 (32 * ((i 0).val + 1)) _ (off17_eq i) _ _ _) $$ H
  iintro H
  iapply (wp_assume Variants.none (c : Thread nD τ) none Set.univ (chk5 i _))
  rw [wp_ret]
  imodintro
  iapply (tab_load c arg1 f1 (32 * ((i 0).val + 1) + 31) _ (off18_eq i) _ _ _) $$ H
  iintro H
  iapply (wp_assume Variants.none (c : Thread nD τ) none Set.univ (chk6 i _ _))
  rw [wp_ret]
  imodintro
  rw [wp_pure]
  imodintro
  iapply Hk $$ H

/-- The tokens of frame `t`'s text rows lie in the embedding table. -/
def ToksOk (t : ℕ) : Prop :=
  ∀ k < txt (vAt arg1 c f1 t) (wAt arg1 c f1 t), (xAt arg2 c f2 t (na (vAt arg1 c f1 t) + k)).toNat < 37912

abbrev tabs (q1 q2 : PosShare TreeShare) : sProp 𝕄 :=
  iprop((arg1.view.loc (c : Thread nD τ) ↦[arg1.view.set]{q1} f1) ∗ (arg2.view.loc (c : Thread nD τ) ↦[arg2.view.set]{q2} f2))

/-- The halves before and after the first part. -/
abbrev free (p : ℕ) (hp : p < 2) : sProp 𝕄 := halfFree c arg3 e arg4 m arg10 arg11 arg12 arg13 arg14 arg15 p hp
abbrev fly (p : ℕ) (hp : p < 2) (t : ℕ) : sProp 𝕄 :=
  halfFly c arg3 e arg4 m arg10 arg11 arg12 arg13 arg14 arg15 p hp (vAt arg1 c f1 t) (wAt arg1 c f1 t) (xAt arg2 c f2 t)

theorem par_lt (n : ℕ) : n % 2 < 2 := Nat.mod_lt _ (by decide)
theorem npar_lt (n : ℕ) : 1 - n % 2 < 2 := by omega

theorem ofBool_iff (b : Prop) [Decidable b] : BitVec.ofBool (decide b) = 1#1 ↔ b := by
  by_cases h : b <;> simp [h]

/-- The window of the leading rows: started if there are any. -/
def goA (p : ℕ) (hp : p < 2) (t : ℕ) : sProp 𝕄 :=
  iprop(if 0 < na (vAt arg1 c f1 t) then winFly c arg10 arg13 arg3 p e p hp (aW (vAt arg1 c f1 t)) else winFree c arg10 arg13 arg3 p e p hp)
/-- The window of the trailing rows. -/
def goB (p : ℕ) (hp : p < 2) (t : ℕ) : sProp 𝕄 :=
  iprop(if 0 < nb (vAt arg1 c f1 t) (wAt arg1 c f1 t) then winFly c arg11 arg14 arg3 (2 + p) e p hp (bW (wAt arg1 c f1 t))
    else winFree c arg11 arg14 arg3 (2 + p) e p hp)

set_option maxHeartbeats 4000000 in
/-- The first part. -/
theorem part3 (q1 q2 : PosShare TreeShare) (hk : ∀ t, t < 384 → ToksOk c arg1 arg2 f1 f2 t) {K : sProp 𝕄} {Q : _ → sProp 𝕄}
    (hQ : iprop(tabs c arg1 arg2 f1 f2 q1 q2
          ∗ fly c arg1 arg2 arg3 arg4 arg10 arg11 arg12 arg13 arg14 arg15 f1 f2 e m ((i 0).val % 2) (par_lt _) (i 0).val
          ∗ (if (i 0).val + 1 < 384 then fly c arg1 arg2 arg3 arg4 arg10 arg11 arg12 arg13 arg14 arg15 f1 f2 e m (1 - (i 0).val % 2) (npar_lt _) ((i 0).val + 1)
            else free c arg3 arg4 arg10 arg11 arg12 arg13 arg14 arg15 e m (1 - (i 0).val % 2) (npar_lt _)) ∗ K)
        ⊢ Q ⟨BitVec.ofNat 32 (i 0).val, Scalar.andi (BitVec.ofNat 32 (i 0).val) 1#32, vAt arg1 c f1 (i 0).val, chk9 _, wAt arg1 c f1 (i 0).val, chk10 i _ _,
            naW (vAt arg1 c f1 (i 0).val), nbW (vAt arg1 c f1 (i 0).val) (wAt arg1 c f1 (i 0).val), bW (wAt arg1 c f1 (i 0).val),
            Scalar.andi (aW (vAt arg1 c f1 (i 0).val)) 4294967288#32⟩) :
    iprop(tabs c arg1 arg2 f1 f2 q1 q2
        ∗ (if (i 0).val = 0 then free c arg3 arg4 arg10 arg11 arg12 arg13 arg14 arg15 e m ((i 0).val % 2) (par_lt _)
          else fly c arg1 arg2 arg3 arg4 arg10 arg11 arg12 arg13 arg14 arg15 f1 f2 e m ((i 0).val % 2) (par_lt _) (i 0).val)
        ∗ free c arg3 arg4 arg10 arg11 arg12 arg13 arg14 arg15 e m (1 - (i 0).val % 2) (npar_lt _) ∗ K)
      ⊢ wp frame (wpE (defs₀ (F := F)) Variants.none (c : Thread nD τ) none) Set.univ
          (k0_part3 (F := F) i arg1 harg1 arg2 harg2 arg3 harg3 arg4 harg4 arg5 harg5 arg6 harg6 arg7 harg7 arg8 harg8 arg9 harg9 arg10 harg10 arg11 harg11 arg12 harg12 arg13 arg14 arg15) Q := by
  unfold k0_part3
  simp only [Prog.lift]
  have hi : (i 0).val < 384 := (i 0).isLt
  refine dite_wp c (S' := iprop(tabs c arg1 arg2 f1 f2 q1 q2
          ∗ fly c arg1 arg2 arg3 arg4 arg10 arg11 arg12 arg13 arg14 arg15 f1 f2 e m ((i 0).val % 2) (par_lt _) (i 0).val
          ∗ free c arg3 arg4 arg10 arg11 arg12 arg13 arg14 arg15 e m (1 - (i 0).val % 2) (npar_lt _) ∗ K)) ?_ ?_ ?_
  · refine dite_wp c (S' := iprop(tabs c arg1 arg2 f1 f2 q1 q2
          ∗ (if (i 0).val + 1 < 384 then fly c arg1 arg2 arg3 arg4 arg10 arg11 arg12 arg13 arg14 arg15 f1 f2 e m (1 - (i 0).val % 2) (npar_lt _) ((i 0).val + 1)
            else free c arg3 arg4 arg10 arg11 arg12 arg13 arg14 arg15 e m (1 - (i 0).val % 2) (npar_lt _))
          ∗ fly c arg1 arg2 arg3 arg4 arg10 arg11 arg12 arg13 arg14 arg15 f1 f2 e m ((i 0).val % 2) (par_lt _) (i 0).val ∗ K)) ?_ ?_ ?_
    · iintro ⟨⟨H1, H2⟩, Hn, Hp, HK⟩
      rw [wp_bind]
      iapply (tab_load c arg1 f1 (32 * (i 0).val) _ (off33_eq i) _ _ _) $$ H1
      iintro H1
      rw [wp_bind]
      iapply (wp_assume Variants.none (c : Thread nD τ) none Set.univ (chk9 _))
      rw [wp_ret]
      imodintro
      rw [wp_bind]
      iapply (tab_load c arg1 f1 (32 * (i 0).val + 31) _ (off34_eq i) _ _ _) $$ H1
      iintro H1
      rw [wp_bind]
      iapply (wp_assume Variants.none (c : Thread nD τ) none Set.univ (chk10 i _ _))
      rw [wp_ret]
      imodintro
      rw [wp_pure]
      imodintro
      unfold nbW naW bW aW at hQ
      iapply hQ
      isplitl [H1 H2]
      · isplitl [H1]; · iexact H1
        iexact H2
      isplitl [Hp]; · iexact Hp
      isplitl [Hn]; · iexact Hn
      iexact HK
    · intro h4 hR
      have h4' := (cond4_iff i).mp h4
      rw [if_pos h4'] at hR
      refine Entails.trans (Q := iprop(tabs c arg1 arg2 f1 f2 q1 q2
          ∗ free c arg3 arg4 arg10 arg11 arg12 arg13 arg14 arg15 e m (1 - (i 0).val % 2) (npar_lt _)
          ∗ fly c arg1 arg2 arg3 arg4 arg10 arg11 arg12 arg13 arg14 arg15 f1 f2 e m ((i 0).val % 2) (par_lt _) (i 0).val ∗ K)) ?_ ?_
      · iintro ⟨Ht, Hp, Hn, HK⟩
        isplitl [Ht]; · iexact Ht
        isplitl [Hn]; · iexact Hn
        isplitl [Hp]; · iexact Hp
        iexact HK
      iintro ⟨⟨H1, H2⟩, Hp, HK⟩
      rw [wp_bind]
      iapply (part2 c i arg1 harg1 arg2 harg2 arg3 harg3 arg4 harg4 arg5 harg5 arg6 harg6 arg7 harg7 arg8 harg8 arg9 harg9 arg10 harg10 arg11 harg11 arg12 harg12 arg13 arg14 arg15 f1 _ _ _) $$ H1
      iintro H1
      set v := vAt arg1 c f1 ((i 0).val + 1) with hv
      set w := wAt arg1 c f1 ((i 0).val + 1) with hw
      ihave Hp' := (show free c arg3 arg4 arg10 arg11 arg12 arg13 arg14 arg15 e m (1 - (i 0).val % 2) (npar_lt _)
        ⊢ iprop((winFree c arg10 arg13 arg3 (1 - (i 0).val % 2) e (1 - (i 0).val % 2) (npar_lt _)) ∗ (winFree c arg11 arg14 arg3 (2 + (1 - (i 0).val % 2)) e (1 - (i 0).val % 2) (npar_lt _)) ∗ (txtFree c arg12 arg15 arg4 (32 * (1 - (i 0).val % 2)) m (1 - (i 0).val % 2) (npar_lt _))) from Entails.rfl) $$ Hp
      icases Hp' with ⟨Ha, Hb, Ht⟩
      iapply (dite_wp c (S := iprop((winFree c arg10 arg13 arg3 (1 - (i 0).val % 2) e (1 - (i 0).val % 2) (npar_lt _)) ∗ (winFree c arg11 arg14 arg3 (2 + (1 - (i 0).val % 2)) e (1 - (i 0).val % 2) (npar_lt _)) ∗ (txtFree c arg12 arg15 arg4 (32 * (1 - (i 0).val % 2)) m (1 - (i 0).val % 2) (npar_lt _)) ∗ tabs c arg1 arg2 f1 f2 q1 q2 ∗ (fly c arg1 arg2 arg3 arg4 arg10 arg11 arg12 arg13 arg14 arg15 f1 f2 e m ((i 0).val % 2) (par_lt _) (i 0).val ∗ K)))
        (S' := iprop((goA c arg1 arg3 arg10 arg13 f1 e (1 - (i 0).val % 2) (npar_lt _) ((i 0).val + 1)) ∗ (winFree c arg11 arg14 arg3 (2 + (1 - (i 0).val % 2)) e (1 - (i 0).val % 2) (npar_lt _)) ∗ (txtFree c arg12 arg15 arg4 (32 * (1 - (i 0).val % 2)) m (1 - (i 0).val % 2) (npar_lt _)) ∗ tabs c arg1 arg2 f1 f2 q1 q2 ∗ (fly c arg1 arg2 arg3 arg4 arg10 arg11 arg12 arg13 arg14 arg15 f1 f2 e m ((i 0).val % 2) (par_lt _) (i 0).val ∗ K))) ?_ ?_ ?_)
      · refine dite_wp c (S' := iprop((goA c arg1 arg3 arg10 arg13 f1 e (1 - (i 0).val % 2) (npar_lt _) ((i 0).val + 1)) ∗ (goB c arg1 arg3 arg11 arg14 f1 e (1 - (i 0).val % 2) (npar_lt _) ((i 0).val + 1)) ∗ (txtFree c arg12 arg15 arg4 (32 * (1 - (i 0).val % 2)) m (1 - (i 0).val % 2) (npar_lt _)) ∗ tabs c arg1 arg2 f1 f2 q1 q2 ∗ (fly c arg1 arg2 arg3 arg4 arg10 arg11 arg12 arg13 arg14 arg15 f1 f2 e m ((i 0).val % 2) (par_lt _) (i 0).val ∗ K))) ?_ ?_ ?_
        · iintro ⟨Ha, Hb, Ht, ⟨H1, H2⟩, HK⟩
          rw [wp_bind]
          imod (txt_open c arg12 arg15 arg4 (32 * (1 - (i 0).val % 2)) m (1 - (i 0).val % 2) (npar_lt _) (xAt arg2 c f2 ((i 0).val + 1)) (na v) (txt v w) (na_txt v w)) $$ Ht with Ht
          iapply (loop_wp c (k0_t3_loop v w) _ _ (fun k => iprop(txtRun c arg12 arg15 arg4 (32 * (1 - (i 0).val % 2)) m (1 - (i 0).val % 2) (npar_lt _) (xAt arg2 c f2 ((i 0).val + 1)) (na v) (txt v w) (na_txt v w) k 0
            ∗ (arg2.view.loc (c : Thread nD τ) ↦[arg2.view.set]{q2} f2))) ?_) $$ [Ht H2]
          · intro k
            have hkt : k.val < txt v w := lt_of_lt_of_eq k.isLt (lp_trips v w)
            iintro ⟨Ht, H2⟩
            rw [wp_bind]
            iapply (tab_load c arg2 f2 (32 * ((i 0).val + 1) + (na v + k.val)) _ (off25_eq i h4' v w k) _ _ _) $$ H2
            iintro H2
            rw [wp_bind]
            iapply (wp_assume Variants.none (c : Thread nD τ) none Set.univ (chk7 i (hk ((i 0).val + 1) (by omega) k.val hkt)))
            rw [wp_ret]
            imodintro
            rw [wp_bind]
            iapply (txt_issue c arg12 arg15 arg4 (32 * (1 - (i 0).val % 2)) m (1 - (i 0).val % 2) (npar_lt _) (xAt arg2 c f2 ((i 0).val + 1)) (na v) (txt v w) (na_txt v w) k.val hkt
              (hk ((i 0).val + 1) (by omega) k.val hkt) _ (off26_eq i) _ _ (off27_eq i v w k) _ _ (off28_eq _) _ _ _ _ _) $$ Ht
            iintro Ht
            rw [wp_ret]
            imodintro
            rw [wp_pure]
            imodintro
            isplitl [Ht]; · iexact Ht
            iexact H2
          · isplitl [Ht]; · iexact Ht
            iexact H2
          rw [show (k0_t3_loop v w).trips = txt v w from lp_trips v w]
          iintro ⟨Ht, H2⟩
          rw [wp_bind]
          iapply (loop_zero c (k0_t4_loop v w) (t4_trips v w))
          iapply hR
          isplitl [H1 H2]
          · isplitl [H1]; · iexact H1
            iexact H2
          isplitr [HK]
          · iapply (show iprop((goA c arg1 arg3 arg10 arg13 f1 e (1 - (i 0).val % 2) (npar_lt _) ((i 0).val + 1)) ∗ (goB c arg1 arg3 arg11 arg14 f1 e (1 - (i 0).val % 2) (npar_lt _) ((i 0).val + 1)) ∗ txtRun c arg12 arg15 arg4 (32 * (1 - (i 0).val % 2)) m (1 - (i 0).val % 2) (npar_lt _) (xAt arg2 c f2 ((i 0).val + 1)) (na v) (txt v w) (na_txt v w) (txt v w) 0)
              ⊢ fly c arg1 arg2 arg3 arg4 arg10 arg11 arg12 arg13 arg14 arg15 f1 f2 e m (1 - (i 0).val % 2) (npar_lt _) ((i 0).val + 1) from Entails.rfl)
            isplitl [Ha]; · iexact Ha
            isplitl [Hb]; · iexact Hb
            iexact Ht
          iexact HK
        · intro h3 hR3
          rw [cond6_eq, cond3_eq, ofBool_iff] at h3
          unfold goB at hR3
          rw [if_pos h3] at hR3
          iintro ⟨Ha, Hb, HR⟩
          rw [wp_bind]
          iapply (win_issue c arg11 arg14 arg3 _ e _ (npar_lt _) (bW w) _ (off22_eq i) _ _ (off23_eq i) _ _ (off24_eq w) _ _ _ _ _) $$ Hb
          iintro Hb
          rw [wp_ret]
          imodintro
          iapply hR3
          isplitl [Ha]; · iexact Ha
          isplitl [Hb]; · iexact Hb
          iexact HR
        · intro h3
          rw [cond6_eq, cond3_eq, ofBool_iff] at h3
          unfold goB
          rw [if_neg h3]
      · intro h2 hR2
        rw [cond5_eq, cond2_eq, ofBool_iff] at h2
        unfold goA at hR2
        rw [if_pos h2] at hR2
        iintro ⟨Ha, HR⟩
        rw [wp_bind]
        iapply (win_issue c arg10 arg13 arg3 _ e _ (npar_lt _) (aW v) _ (off19_eq i) _ _ (off20_eq i) _ _ (off21_eq v) _ _ _ _ _) $$ Ha
        iintro Ha
        rw [wp_ret]
        imodintro
        iapply hR2
        isplitl [Ha]; · iexact Ha
        iexact HR
      · intro h2
        rw [cond5_eq, cond2_eq, ofBool_iff] at h2
        unfold goA
        rw [if_neg h2]
      isplitl [Ha]; · iexact Ha
      isplitl [Hb]; · iexact Hb
      isplitl [Ht]; · iexact Ht
      isplitr [HK]
      · isplitl [H1]; · iexact H1
        iexact H2
      iexact HK
    · intro h4
      have h4' := fun h => h4 ((cond4_iff i).mpr h)
      rw [if_neg h4']
      iintro ⟨Ht, Hp, Hn, HK⟩
      isplitl [Ht]; · iexact Ht
      isplitl [Hn]; · iexact Hn
      isplitl [Hp]; · iexact Hp
      iexact HK
  · intro h1 hR
    rw [if_pos ((cond1_iff i).mp h1)]
    iintro ⟨⟨H1, H2⟩, Hp, HK⟩
    rw [wp_bind]
    iapply (part1 c i arg1 harg1 arg2 harg2 arg3 harg3 arg4 harg4 arg5 harg5 arg6 harg6 arg7 harg7 arg8 harg8 arg9 harg9 arg10 harg10 arg11 harg11 arg12 harg12 arg13 arg14 arg15 f1 _ _) $$ H1
    iintro H1
    set v := vAt arg1 c f1 ((i 0).val) with hv
    set w := wAt arg1 c f1 ((i 0).val) with hw
    ihave Hp' := (show free c arg3 arg4 arg10 arg11 arg12 arg13 arg14 arg15 e m ((i 0).val % 2) (par_lt _)
      ⊢ iprop((winFree c arg10 arg13 arg3 ((i 0).val % 2) e ((i 0).val % 2) (par_lt _)) ∗ (winFree c arg11 arg14 arg3 (2 + ((i 0).val % 2)) e ((i 0).val % 2) (par_lt _)) ∗ (txtFree c arg12 arg15 arg4 (32 * ((i 0).val % 2)) m ((i 0).val % 2) (par_lt _))) from Entails.rfl) $$ Hp
    icases Hp' with ⟨Ha, Hb, Ht⟩
    iapply (dite_wp c (S := iprop((winFree c arg10 arg13 arg3 ((i 0).val % 2) e ((i 0).val % 2) (par_lt _)) ∗ (winFree c arg11 arg14 arg3 (2 + ((i 0).val % 2)) e ((i 0).val % 2) (par_lt _)) ∗ (txtFree c arg12 arg15 arg4 (32 * ((i 0).val % 2)) m ((i 0).val % 2) (par_lt _)) ∗ tabs c arg1 arg2 f1 f2 q1 q2 ∗ (free c arg3 arg4 arg10 arg11 arg12 arg13 arg14 arg15 e m (1 - (i 0).val % 2) (npar_lt _) ∗ K)))
      (S' := iprop((goA c arg1 arg3 arg10 arg13 f1 e ((i 0).val % 2) (par_lt _) ((i 0).val)) ∗ (winFree c arg11 arg14 arg3 (2 + ((i 0).val % 2)) e ((i 0).val % 2) (par_lt _)) ∗ (txtFree c arg12 arg15 arg4 (32 * ((i 0).val % 2)) m ((i 0).val % 2) (par_lt _)) ∗ tabs c arg1 arg2 f1 f2 q1 q2 ∗ (free c arg3 arg4 arg10 arg11 arg12 arg13 arg14 arg15 e m (1 - (i 0).val % 2) (npar_lt _) ∗ K))) ?_ ?_ ?_)
    · refine dite_wp c (S' := iprop((goA c arg1 arg3 arg10 arg13 f1 e ((i 0).val % 2) (par_lt _) ((i 0).val)) ∗ (goB c arg1 arg3 arg11 arg14 f1 e ((i 0).val % 2) (par_lt _) ((i 0).val)) ∗ (txtFree c arg12 arg15 arg4 (32 * ((i 0).val % 2)) m ((i 0).val % 2) (par_lt _)) ∗ tabs c arg1 arg2 f1 f2 q1 q2 ∗ (free c arg3 arg4 arg10 arg11 arg12 arg13 arg14 arg15 e m (1 - (i 0).val % 2) (npar_lt _) ∗ K))) ?_ ?_ ?_
      · iintro ⟨Ha, Hb, Ht, ⟨H1, H2⟩, HK⟩
        rw [wp_bind]
        imod (txt_open c arg12 arg15 arg4 (32 * ((i 0).val % 2)) m ((i 0).val % 2) (par_lt _) (xAt arg2 c f2 ((i 0).val)) (na v) (txt v w) (na_txt v w)) $$ Ht with Ht
        iapply (loop_wp c (k0_t1_loop v w) _ _ (fun k => iprop(txtRun c arg12 arg15 arg4 (32 * ((i 0).val % 2)) m ((i 0).val % 2) (par_lt _) (xAt arg2 c f2 ((i 0).val)) (na v) (txt v w) (na_txt v w) k 0
          ∗ (arg2.view.loc (c : Thread nD τ) ↦[arg2.view.set]{q2} f2))) ?_) $$ [Ht H2]
        · intro k
          have hkt : k.val < txt v w := lt_of_lt_of_eq k.isLt (lp_trips v w)
          iintro ⟨Ht, H2⟩
          rw [wp_bind]
          iapply (tab_load c arg2 f2 (32 * ((i 0).val) + (na v + k.val)) _ (off9_eq i v w k) _ _ _) $$ H2
          iintro H2
          rw [wp_bind]
          iapply (wp_assume Variants.none (c : Thread nD τ) none Set.univ (chk3 i (hk ((i 0).val) (by omega) k.val hkt)))
          rw [wp_ret]
          imodintro
          rw [wp_bind]
          iapply (txt_issue c arg12 arg15 arg4 (32 * ((i 0).val % 2)) m ((i 0).val % 2) (par_lt _) (xAt arg2 c f2 ((i 0).val)) (na v) (txt v w) (na_txt v w) k.val hkt
            (hk ((i 0).val) (by omega) k.val hkt) _ (off10_eq i) _ _ (off11_eq i v w k) _ _ (off12_eq _) _ _ _ _ _) $$ Ht
          iintro Ht
          rw [wp_ret]
          imodintro
          rw [wp_pure]
          imodintro
          isplitl [Ht]; · iexact Ht
          iexact H2
        · isplitl [Ht]; · iexact Ht
          iexact H2
        rw [show (k0_t1_loop v w).trips = txt v w from lp_trips v w]
        iintro ⟨Ht, H2⟩
        rw [wp_bind]
        iapply (loop_zero c (k0_t2_loop v w) (t2_trips v w))
        iapply hR
        isplitl [H1 H2]
        · isplitl [H1]; · iexact H1
          iexact H2
        isplitr [HK]
        · iapply (show iprop((goA c arg1 arg3 arg10 arg13 f1 e ((i 0).val % 2) (par_lt _) ((i 0).val)) ∗ (goB c arg1 arg3 arg11 arg14 f1 e ((i 0).val % 2) (par_lt _) ((i 0).val)) ∗ txtRun c arg12 arg15 arg4 (32 * ((i 0).val % 2)) m ((i 0).val % 2) (par_lt _) (xAt arg2 c f2 ((i 0).val)) (na v) (txt v w) (na_txt v w) (txt v w) 0)
            ⊢ fly c arg1 arg2 arg3 arg4 arg10 arg11 arg12 arg13 arg14 arg15 f1 f2 e m ((i 0).val % 2) (par_lt _) ((i 0).val) from Entails.rfl)
          isplitl [Ha]; · iexact Ha
          isplitl [Hb]; · iexact Hb
          iexact Ht
        iexact HK
      · intro h3 hR3
        rw [cond3_eq, ofBool_iff] at h3
        unfold goB at hR3
        rw [if_pos h3] at hR3
        iintro ⟨Ha, Hb, HR⟩
        rw [wp_bind]
        iapply (win_issue c arg11 arg14 arg3 _ e _ (par_lt _) (bW w) _ (off6_eq i) _ _ (off7_eq i) _ _ (off8_eq w) _ _ _ _ _) $$ Hb
        iintro Hb
        rw [wp_ret]
        imodintro
        iapply hR3
        isplitl [Ha]; · iexact Ha
        isplitl [Hb]; · iexact Hb
        iexact HR
      · intro h3
        rw [cond3_eq, ofBool_iff] at h3
        unfold goB
        rw [if_neg h3]
    · intro h2 hR2
      rw [cond2_eq, ofBool_iff] at h2
      unfold goA at hR2
      rw [if_pos h2] at hR2
      iintro ⟨Ha, HR⟩
      rw [wp_bind]
      iapply (win_issue c arg10 arg13 arg3 _ e _ (par_lt _) (aW v) _ (off3_eq i) _ _ (off4_eq i) _ _ (off5_eq v) _ _ _ _ _) $$ Ha
      iintro Ha
      rw [wp_ret]
      imodintro
      iapply hR2
      isplitl [Ha]; · iexact Ha
      iexact HR
    · intro h2
      rw [cond2_eq, ofBool_iff] at h2
      unfold goA
      rw [if_neg h2]
    isplitl [Ha]; · iexact Ha
    isplitl [Hb]; · iexact Hb
    isplitl [Ht]; · iexact Ht
    isplitr [HK]
    · isplitl [H1]; · iexact H1
      iexact H2
    iexact HK
  · intro h1
    rw [if_neg (fun h => h1 ((cond1_iff i).mpr h))]

end Start

end Cert.AsmRun
-- ==== Proof.AsmPre.lean ====
/-
  The precondition `text_tokens_in_table`, read entry by entry: on every row of a frame that is copied from
  the embedding table, the token is in the part of the table that is read whole.
-/
module

public import proofs.«01_k».proof.Proof.AsmStart
public import proofs.«01_k».proof.Proof.Gen.Pre_text_tokens_in_table
public import Idealize.ShloMosaic.Lib.StableHlo.Predicate
public import Idealize.ShloMosaic.Lib.Pipeline.Value

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

/-! ## The words of one row -/

/-- The predicate's word on row `r` of a frame whose first and last source words are `v` and `w`, at the token `x`. -/
def okW (v w x : BitVec 32) (r : ℕ) : BitVec 1 :=
  IntOp.ori (IntOp.ori (IntOp.cmpi .slt (BitVec.ofNat 32 r) (naW v)) (IntOp.cmpi .sge (BitVec.ofNat 32 r) (IntOp.subi 32#32 (nbW v w))))
    (IntOp.andi (IntOp.cmpi .sge x 0#32) (IntOp.cmpi .slt x 37912#32))

theorem past_head : ∀ (r : Fin 32) (a : Fin 33), a.val ≤ r.val → IntOp.cmpi .slt (BitVec.ofNat 32 r.val) (BitVec.ofNat 32 a.val) = 0#1 := by
  decide +kernel
theorem before_tail : ∀ (r : Fin 32) (b : Fin 33), r.val < 32 - b.val →
    IntOp.cmpi .sge (BitVec.ofNat 32 r.val) (IntOp.subi 32#32 (BitVec.ofNat 32 b.val)) = 0#1 := by
  decide +kernel
theorem bits : ∀ x y : BitVec 1, IntOp.ori (IntOp.ori 0#1 0#1) (IntOp.andi x y) = 1#1 → x = 1#1 ∧ y = 1#1 := by decide

/-- On a text row the word is one only at a token of the table. -/
theorem token_ok (v w x : BitVec 32) (k : ℕ) (hk : k < txt v w) (h : okW v w x (na v + k) = 1#1) : x.toNat < 37912 := by
  have h1 := na_le v; have h2 := nb_le v w
  have hr : na v + k < 32 - nb v w := by unfold txt at hk; omega
  unfold okW at h
  rw [naW_eq, nbW_eq, past_head ⟨na v + k, by omega⟩ ⟨na v, by omega⟩ (by show na v ≤ na v + k; omega),
    before_tail ⟨na v + k, by omega⟩ ⟨nb v w, by omega⟩ hr] at h
  obtain ⟨hx, hy⟩ := bits _ _ h
  have hx' : x.toNat < 2 ^ 31 := by
    have e : IntOp.cmpi .sge x 0#32 = BitVec.ofBool (decide (x.toNat < 2 ^ 31)) := sge_zero x
    rw [e, StableHlo.Predicate.ofBool_eq_one_iff, decide_eq_true_eq] at hx; exact hx
  exact (StableHlo.Predicate.slt_iff_toNat hx' (by decide)).mp hy

/-! ## The predicate at one entry -/

/-- The entry of a table of words. -/
def at1 (n : ℕ) (h : n < 12288) : S12288.Idx := fun (0 : Fin 1) => ⟨n, h⟩
/-- The entry of row `r` of frame `t`. -/
def at2 (t : Fin 384) (r : Fin 32) : Pre_text_tokens_in_table.S384x32.Idx := StableHlo.Predicate.ij t r

theorem frames (x : S12288.Idx → BitVec 32) (t : Fin 384) (r : Fin 32) :
    shapeCast Pre_text_tokens_in_table.S384x32 x Pre_text_tokens_in_table.Facts.shapeCasts_S12288_S384x32 (at2 t r)
      = x (at1 (32 * t.val + r.val) (by omega)) :=
  shapeCast_apply x _ _ _ (by
    refine (Shape.rowMajor_val_one (d := ![12288]) (at1 _ _)).trans (Eq.trans ?_ (Shape.rowMajor_val_two (d := ![384, 32]) (at2 t r)).symm)
    show 32 * t.val + r.val = t.val * 32 + r.val
    omega)

theorem fn_at (a0 a1 : S12288.Idx → BitVec 32) (a2 a3 a4 a5) (t : Fin 384) (r : Fin 32) :
    Pre_text_tokens_in_table.fn (F := F) a0 a1 a2 a3 a4 a5 (at2 t r)
      = okW (a0 (at1 (32 * t.val) (by omega))) (a0 (at1 (32 * t.val + 31) (by omega))) (a1 (at1 (32 * t.val + r.val) (by omega))) r.val := by
  refine Eq.trans (b := okW (shapeCast Pre_text_tokens_in_table.S384x32 a0 Pre_text_tokens_in_table.Facts.shapeCasts_S12288_S384x32 (at2 t 0))
    (shapeCast Pre_text_tokens_in_table.S384x32 a0 Pre_text_tokens_in_table.Facts.shapeCasts_S12288_S384x32 (at2 t 31))
    (shapeCast Pre_text_tokens_in_table.S384x32 a1 Pre_text_tokens_in_table.Facts.shapeCasts_S12288_S384x32 (at2 t r)) r.val) ?_ ?_
  · have hb : ∀ v : Pre_text_tokens_in_table.S384x1.Idx → BitVec 32,
        broadcastInDim Pre_text_tokens_in_table.S384x32 ![0, 1] Pre_text_tokens_in_table.Facts.bcast_S384x1_S384x32_0_1 v (at2 t r)
          = v (StableHlo.Predicate.ixP t) := fun v => StableHlo.Predicate.bcast_of_col _ v t r
    have hs : ∀ (v : Pre_text_tokens_in_table.S384x32.Idx → BitVec 32) (k : Fin 32) (h : Pre_text_tokens_in_table.S384x32.Slices ![0, k.val] Pre_text_tokens_in_table.S384x1),
        extractStridedSlice Pre_text_tokens_in_table.S384x1 ![0, k.val] v h (StableHlo.Predicate.ixP t) = v (at2 t k) := fun v k h => by
      refine congrArg v (funext fun a => Fin.ext ?_)
      match a with
      | ⟨0, _⟩ => exact Nat.zero_add _
      | ⟨1, _⟩ => exact Nat.add_zero _
    refine Eq.trans (b := okW (extractStridedSlice Pre_text_tokens_in_table.S384x1 ![0, (0 : Fin 32).val] (shapeCast Pre_text_tokens_in_table.S384x32 a0 Pre_text_tokens_in_table.Facts.shapeCasts_S12288_S384x32)
        Pre_text_tokens_in_table.Facts.slices_S384x32_S384x1_0_0 (StableHlo.Predicate.ixP t))
      (extractStridedSlice Pre_text_tokens_in_table.S384x1 ![0, (31 : Fin 32).val] (shapeCast Pre_text_tokens_in_table.S384x32 a0 Pre_text_tokens_in_table.Facts.shapeCasts_S12288_S384x32)
        Pre_text_tokens_in_table.Facts.slices_S384x32_S384x1_0_31 (StableHlo.Predicate.ixP t)) _ r.val) ?_ (by rw [hs, hs])
    unfold Pre_text_tokens_in_table.fn Pre_text_tokens_in_table.fn_part1 Pre_text_tokens_in_table.fn_part2
    dsimp only [cmpi, ori, andi]
    rw [hb, hb]
    rfl
  · rw [frames, frames, frames]; rfl

/-- Under the predicate every text row's token is in the table. -/
theorem toks_ok (c : Dev nD) (f1 : Buf (Elt F) ((c.tc : Thread nD τ).loc main_arg0)) (f2 : Buf (Elt F) ((c.tc : Thread nD τ).loc main_arg1)) (a2 a3 a4 a5)
    (h : Pre_text_tokens_in_table.fn (F := F) f1 f2 a2 a3 a4 a5 = fun _ => 1#1) (t : ℕ) (ht : t < 384) :
    ToksOk c (Memref.whole main_arg0) (Memref.whole main_arg1) f1 f2 t := by
  have tab0 : ∀ n (hn : n < 12288), tabAt (Memref.whole main_arg0) c f1 n = f1 (at1 n hn) := fun n hn => by
    unfold tabAt; rw [dif_pos (by omega)]
    show f1 _ = _
    exact congrArg f1 (funext fun (0 : Fin 1) => Fin.ext rfl)
  have tab1 : ∀ n (hn : n < 12288), tabAt (Memref.whole main_arg1) c f2 n = f2 (at1 n hn) := fun n hn => by
    unfold tabAt; rw [dif_pos (by omega)]
    show f2 _ = _
    exact congrArg f2 (funext fun (0 : Fin 1) => Fin.ext rfl)
  intro k hk
  have h1 := na_le (vAt (Memref.whole main_arg0) c f1 t)
  have hr : na (vAt (Memref.whole main_arg0) c f1 t) + k < 32 := by unfold txt at hk; omega
  have e := congrFun h (at2 ⟨t, ht⟩ ⟨_, hr⟩)
  rw [fn_at] at e
  refine token_ok (vAt (Memref.whole main_arg0) c f1 t) (wAt (Memref.whole main_arg0) c f1 t) _ k hk ?_
  unfold vAt wAt xAt at *
  rw [tab1 _ (by omega)]
  have e0 := tab0 (32 * t) (by omega)
  have e1 := tab0 (32 * t + 31) (by omega)
  refine Eq.trans ?_ e
  exact congrArg₂ (fun v w => okW v w _ _) e0 e1

end Cert.AsmRun
end
-- ==== Proof.AsmAccess.lean ====
/-
Proof/AsmAccess.lean — loads and stores of the assembly's own buffers, their values not followed.
-/
module

public import proofs.«01_k».proof.Proof.AsmStart

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

/-! ## What the loads and stores touch -/

theorem slot_set (M : Memref sig .tc .vmem S2x40x5120 .f32) {p : ℕ} (hp : p < 2) (off : Fin 3 → ℕ) (ho : off = ![p, 0, 0]) (hi) :
    (M.access (Rect.unit (s := S2x40x5120) off S1x40x5120.size hi)).set = (slotM M p hp).view.set := by
  subst ho
  exact (View.set_reshape _ _).symm

theorem part_subset (M : Memref sig .tc .vmem S2x40x5120 .f32) {p r n : ℕ} (hp : p < 2) (hr : r + n ≤ 40) (off : Fin 3 → ℕ) (ho : off = ![p, r, 0]) (hi) :
    (M.access (Rect.unit (s := S2x40x5120) off (![1, n, 5120] : Fin 3 → ℕ) hi)).set ⊆ (slotM M p hp).view.set := by
  subst ho
  rw [← slot_set M hp _ rfl (slot_inb hp)]
  rw [show (M.access (Rect.unit (s := S2x40x5120) ![p, r, 0] (![1, n, 5120] : Fin 3 → ℕ) hi)).set = _ from View.set_slice _ _,
    show (M.access (Rect.unit (s := S2x40x5120) ![p, 0, 0] S1x40x5120.size (slot_inb hp))).set = _ from View.set_slice _ _]
  refine Finset.map_subset_map.mpr fun y hy => ?_
  rw [Rect.mem_set_unit] at hy ⊢
  intro a
  have := hy a
  fin_cases a <;> simp at this ⊢ <;> omega

theorem row_set (G : Memref sig .tc .vmem S2x32x8x5120 .i8) {p : ℕ} (hp : p < 2) (r : Fin 32) (off : Fin 4 → ℕ) (ho : off = ![p, r.val, 0, 0]) (hi) :
    (G.access (Rect.unit (s := S2x32x8x5120) off S1x1x8x5120.size hi)).set = (rowM G p hp r).view.set := by
  subst ho
  exact (View.set_reshape _ _).symm

/-! ## Loads and stores whose values are not followed -/

section Access
variable (c : Dev nD) {α : Type} {cs : CoreSpace} {s : Shape} {t : EltTy}

/-- A load reads something. -/
theorem any_load {M : Memref sig .tc cs s t} {r : Rect s} {h : M.view.LoadsAt r.toLoadRect} {k : (r.toLoadRect.shape.Idx → Elt F t) → Prog (TpuEff nD τ sig (Elt F) Λ₀ .tc) α} {Q : α → sProp 𝕄}
    {S : Finset (Idx (M.view.loc (c : Thread nD τ)))} {q : PosShare TreeShare} {g : Buf (Elt F) (M.view.loc (c : Thread nD τ))} (hS : (M.access r).set ⊆ S) :
    (M.view.loc (c : Thread nD τ) ↦[S]{q} g)
      ⊢ iprop((∀ x, (M.view.loc (c : Thread nD τ) ↦[S]{q} g) -∗ wp frame (wpE (defs₀ (F := F)) Variants.none (c : Thread nD τ) none) Set.univ (k x) Q) -∗ wp frame (wpE (defs₀ (F := F)) Variants.none (c : Thread nD τ) none) Set.univ (.op (.load M r.toLoadRect h) k) Q) := by
  iintro Hg Hk
  iapply (wp_load_rect Variants.none (c : Thread nD τ) none Set.univ (m := M) (r := r) (q := q) (f := g) (S := S) hS) $$ Hg
  iintro Hg
  iapply Hk $$ %_ Hg

/-- A store leaves something. -/
theorem any_store {M : Memref sig .tc cs s t} {r : Rect s} {w : r.shape.Idx → Elt F t} {hx : (M.access r).Stores Finset.univ} {hm} {k : PUnit → Prog (TpuEff nD τ sig (Elt F) Λ₀ .tc) α} {Q : α → sProp 𝕄}
    {S : Finset (Idx (M.view.loc (c : Thread nD τ)))} {g : Buf (Elt F) (M.view.loc (c : Thread nD τ))} (hS : (M.access r).set ⊆ S) :
    (M.view.loc (c : Thread nD τ) ↦[S]{fullShare} g)
      ⊢ iprop(((∃ g', M.view.loc (c : Thread nD τ) ↦[S]{fullShare} g') -∗ wp frame (wpE (defs₀ (F := F)) Variants.none (c : Thread nD τ) none) Set.univ (k ⟨⟩) Q) -∗ wp frame (wpE (defs₀ (F := F)) Variants.none (c : Thread nD τ) none) Set.univ (.op (.store M r w Finset.univ hx hm) k) Q) := by
  iintro Hg Hk
  iapply (wp_store Variants.none (c : Thread nD τ) none Set.univ (m := M) (r := r) (w := w) (Mk := Finset.univ) (hx := hx) (hm := hm) (f := g) (S := S)
    (View.setOn_univ _ ▸ hS)) $$ Hg
  iintro Hg
  iapply Hk
  iexists _
  iexact Hg

end Access

/-- A load of rows of a window. -/
theorem win_load (c : Dev nD) {α : Type} {Q : α → sProp 𝕄} (M : Memref sig .tc .vmem S2x40x5120 .f32) (A : DmaSems sig S2) (R : Memref sig .tc .hbm S10752x5120 .f32) (tk : ℕ) (e : Buf (Elt F) (R.view.loc (c : Thread nD τ)))
    (p : ℕ) (hp : p < 2) (r n : ℕ) (hr : r + n ≤ 40) (off : Fin 3 → ℕ) (ho : off = ![p, r, 0]) (sz : Fin 3 → ℕ) (hz : sz = ![1, n, 5120]) (hi) (h)
    (k : ((Rect.unit (s := S2x40x5120) off sz hi).toLoadRect.shape.Idx → Elt F .f32) → Prog (TpuEff nD τ sig (Elt F) Λ₀ .tc) α) :
    winFree c M A R tk e p hp
      ⊢ iprop((∀ x, winFree c M A R tk e p hp -∗ wp frame (wpE (defs₀ (F := F)) Variants.none (c : Thread nD τ) none) Set.univ (k x) Q) -∗ wp frame (wpE (defs₀ (F := F)) Variants.none (c : Thread nD τ) none) Set.univ (.op (.load M (Rect.unit (s := S2x40x5120) off sz hi).toLoadRect h) k) Q) := by
  subst hz
  refine (show winFree c M A R tk e p hp ⊢ iprop((∃ g : Buf (Elt F) (M.view.loc (c : Thread nD τ)), M.view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0) from Entails.rfl).trans ?_
  iintro ⟨⟨%g, Hg⟩, HR⟩ Hk
  iapply (any_load c (M := M) (r := Rect.unit (s := S2x40x5120) off (![1, n, 5120] : Fin 3 → ℕ) hi) (h := h) (k := k) (Q := Q) (q := fullShare) (g := g) (S := (slotM M p hp).view.set) (part_subset M hp hr off ho hi)) $$ Hg
  iintro %x Hg
  iapply Hk
  iapply (show iprop((∃ g : Buf (Elt F) (M.view.loc (c : Thread nD τ)), M.view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0) ⊢ winFree c M A R tk e p hp from Entails.rfl)
  isplitl [Hg]; · iexists g; iexact Hg
  iexact HR

/-- A store of rows of a window. -/
theorem win_store (c : Dev nD) {α : Type} {Q : α → sProp 𝕄} (M : Memref sig .tc .vmem S2x40x5120 .f32) (A : DmaSems sig S2) (R : Memref sig .tc .hbm S10752x5120 .f32) (tk : ℕ) (e : Buf (Elt F) (R.view.loc (c : Thread nD τ)))
    (p : ℕ) (hp : p < 2) (r n : ℕ) (hr : r + n ≤ 40) (off : Fin 3 → ℕ) (ho : off = ![p, r, 0]) (sz : Fin 3 → ℕ) (hz : sz = ![1, n, 5120]) (hi) (w) (hx) (hm)
    (k : PUnit → Prog (TpuEff nD τ sig (Elt F) Λ₀ .tc) α) :
    winFree c M A R tk e p hp
      ⊢ iprop((winFree c M A R tk e p hp -∗ wp frame (wpE (defs₀ (F := F)) Variants.none (c : Thread nD τ) none) Set.univ (k ⟨⟩) Q) -∗ wp frame (wpE (defs₀ (F := F)) Variants.none (c : Thread nD τ) none) Set.univ (.op (.store M (Rect.unit (s := S2x40x5120) off sz hi) w Finset.univ hx hm) k) Q) := by
  subst hz
  refine (show winFree c M A R tk e p hp ⊢ iprop((∃ g : Buf (Elt F) (M.view.loc (c : Thread nD τ)), M.view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0) from Entails.rfl).trans ?_
  iintro ⟨⟨%g, Hg⟩, HR⟩ Hk
  iapply (any_store c (M := M) (r := Rect.unit (s := S2x40x5120) off (![1, n, 5120] : Fin 3 → ℕ) hi) (w := w) (hx := hx) (hm := hm) (k := k) (Q := Q) (g := g) (S := (slotM M p hp).view.set) (part_subset M hp hr off ho hi)) $$ Hg
  iintro Hg
  iapply Hk
  iapply (show iprop((∃ g : Buf (Elt F) (M.view.loc (c : Thread nD τ)), M.view.loc (c : Thread nD τ) ↦[(slotM M p hp).view.set]{fullShare} g)
    ∗ (R.view.loc (c : Thread nD τ) ↦[R.view.set]{Transfers.shareTokN fullShare tk} e)
    ∗ semVal ((c : Thread nD τ), SemLoc.dma (cell A p hp)) 0) ⊢ winFree c M A R tk e p hp from Entails.rfl)
  isplitl [Hg]; · iexact Hg
  iexact HR

/-- A load of a row's group. -/
theorem grp_load (c : Dev nD) {α : Type} {Q : α → sProp 𝕄} (G : Memref sig .tc .vmem S2x32x8x5120 .i8) (A : DmaSems sig S2) (T : Memref sig .tc .hbm S37919x5120 .i8) (tk : ℕ) (m : Buf (Elt F) (T.view.loc (c : Thread nD τ)))
    (p : ℕ) (hp : p < 2) (r : ℕ) (hr : r < 32) (off : Fin 4 → ℕ) (ho : off = ![p, r, 0, 0]) (hi) (h)
    (k : ((Rect.unit (s := S2x32x8x5120) off S1x1x8x5120.size hi).toLoadRect.shape.Idx → Elt F .i8) → Prog (TpuEff nD τ sig (Elt F) Λ₀ .tc) α) :
    txtFree c G A T tk m p hp
      ⊢ iprop((∀ x, txtFree c G A T tk m p hp -∗ wp frame (wpE (defs₀ (F := F)) Variants.none (c : Thread nD τ) none) Set.univ (k x) Q) -∗ wp frame (wpE (defs₀ (F := F)) Variants.none (c : Thread nD τ) none) Set.univ (.op (.load G (Rect.unit (s := S2x32x8x5120) off S1x1x8x5120.size hi).toLoadRect h) k) Q) := by
  unfold txtFree
  rw [BI.bigSep_erase (Finset.mem_univ (⟨r, hr⟩ : Fin 32))]
  refine (show iprop((rowFree c G T tk m p hp ⟨r, hr⟩ ∗ bigSep (Finset.univ.erase ⟨r, hr⟩) (rowFree c G T tk m p hp)) ∗ semVal ((c : Thread nD τ), SemLoc.dma (cell A p hp)) 0)
    ⊢ iprop((((∃ g : Buf (Elt F) (G.view.loc (c : Thread nD τ)), G.view.loc (c : Thread nD τ) ↦[(rowM G p hp ⟨r, hr⟩).view.set]{fullShare} g)
    ∗ (T.view.loc (c : Thread nD τ) ↦[T.view.set]{Transfers.shareTokN fullShare (tk + r)} m)) ∗ bigSep (Finset.univ.erase ⟨r, hr⟩) (rowFree c G T tk m p hp))
    ∗ semVal ((c : Thread nD τ), SemLoc.dma (cell A p hp)) 0) from Entails.rfl).trans ?_
  iintro ⟨⟨⟨⟨%g, Hg⟩, HR⟩, HB⟩, HS⟩ Hk
  iapply (any_load c (M := G) (r := Rect.unit (s := S2x32x8x5120) off S1x1x8x5120.size hi) (g := g) (row_set G hp ⟨r, hr⟩ off ho hi).subset) $$ Hg
  iintro %x Hg
  iapply Hk
  iapply (show iprop((((∃ g : Buf (Elt F) (G.view.loc (c : Thread nD τ)), G.view.loc (c : Thread nD τ) ↦[(rowM G p hp ⟨r, hr⟩).view.set]{fullShare} g)
    ∗ (T.view.loc (c : Thread nD τ) ↦[T.view.set]{Transfers.shareTokN fullShare (tk + r)} m)) ∗ bigSep (Finset.univ.erase ⟨r, hr⟩) (rowFree c G T tk m p hp))
    ∗ semVal ((c : Thread nD τ), SemLoc.dma (cell A p hp)) 0)
    ⊢ iprop((rowFree c G T tk m p hp ⟨r, hr⟩ ∗ bigSep (Finset.univ.erase ⟨r, hr⟩) (rowFree c G T tk m p hp)) ∗ semVal ((c : Thread nD τ), SemLoc.dma (cell A p hp)) 0) from Entails.rfl)
  isplitr [HS]
  · isplitr [HB]
    · isplitl [Hg]; · iexists g; iexact Hg
      iexact HR
    iexact HB
  iexact HS

/-- What is waited for so far. -/
abbrev waited (c : Dev nD) : sProp 𝕄 := iprop(∃ W, owes (c : Thread nD τ) 0 W)

end Cert.AsmRun
-- ==== Proof.AsmShares.lean ====
/-
Proof/AsmShares.lean — the scratch buffers cut in halves and rows, the two arrays the copies read cut in read shares; and
both put together again.
-/
module

public import proofs.«01_k».proof.Proof.AsmWalk
public import proofs.«01_k».proof.Proof.AsmAccess
public import Idealize.ShloMosaic.Lib.Ring.AtN

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

/-! ## The halves of a window buffer -/

theorem slot_disjoint (M : Memref sig .tc .vmem S2x40x5120 .f32) (p p' : Fin 2) (h : p ≠ p') :
    Disjoint (α := Finset M.view.ty.Idx) (slotM M p.val p.isLt).view.set (slotM M p'.val p'.isLt).view.set := by
  rw [← slot_set M p.isLt _ rfl (slot_inb p.isLt), ← slot_set M p'.isLt _ rfl (slot_inb p'.isLt)]
  rw [show (M.access (Rect.unit (s := S2x40x5120) ![p.val, 0, 0] S1x40x5120.size (slot_inb p.isLt))).set = _ from View.set_slice _ _,
    show (M.access (Rect.unit (s := S2x40x5120) ![p'.val, 0, 0] S1x40x5120.size (slot_inb p'.isLt))).set = _ from View.set_slice _ _]
  refine (Finset.disjoint_map _).mpr (Rect.unit_disjoint 0 ?_)
  have : p.val ≠ p'.val := fun e => h (Fin.ext e)
  simp
  omega

theorem slot_mem (M : Memref sig .tc .vmem S2x40x5120 .f32) (y : M.view.ty.Idx) :
    (∃ p ∈ (Finset.univ : Finset (Fin 2)), y ∈ ((slotM M p.val p.isLt).view.set : Finset M.view.ty.Idx)) ↔ y ∈ M.view.set := by
  constructor
  · rintro ⟨p, -, hy⟩
    rw [← slot_set M p.isLt _ rfl (slot_inb p.isLt)] at hy
    exact View.set_slice_subset _ _ hy
  · intro hy
    obtain ⟨i, -, rfl⟩ := Finset.mem_map.mp hy
    have h0 : (i 0).val < 2 := (i 0).isLt
    refine ⟨⟨(i 0).val, h0⟩, Finset.mem_univ _, ?_⟩
    rw [← slot_set M h0 _ rfl (slot_inb h0),
      show (M.access (Rect.unit (s := S2x40x5120) ![(i 0).val, 0, 0] S1x40x5120.size (slot_inb h0))).set = _ from View.set_slice _ _]
    refine Finset.mem_map_of_mem _ (Rect.mem_set_unit.mpr fun a => ?_)
    have := (i a).isLt
    fin_cases a <;> simp at this ⊢ <;> omega

/-! ## The rows of the group buffer -/

theorem rows_disjoint (G : Memref sig .tc .vmem S2x32x8x5120 .i8) (b b' : Fin 2 × Fin 32) (h : b ≠ b') :
    Disjoint (α := Finset G.view.ty.Idx) (rowM G b.1.val b.1.isLt b.2).view.set (rowM G b'.1.val b'.1.isLt b'.2).view.set := by
  rw [← row_set G b.1.isLt b.2 _ rfl (row_inb b.1.isLt b.2.isLt), ← row_set G b'.1.isLt b'.2 _ rfl (row_inb b'.1.isLt b'.2.isLt)]
  rw [show (G.access (Rect.unit (s := S2x32x8x5120) ![b.1.val, b.2.val, 0, 0] S1x1x8x5120.size (row_inb b.1.isLt b.2.isLt))).set = _ from View.set_slice _ _,
    show (G.access (Rect.unit (s := S2x32x8x5120) ![b'.1.val, b'.2.val, 0, 0] S1x1x8x5120.size (row_inb b'.1.isLt b'.2.isLt))).set = _ from View.set_slice _ _]
  refine (Finset.disjoint_map _).mpr ?_
  by_cases e : b.1 = b'.1
  · have : b.2.val ≠ b'.2.val := fun e' => h (Prod.ext e (Fin.ext e'))
    refine Rect.unit_disjoint 1 ?_
    simp
    omega
  · have : b.1.val ≠ b'.1.val := fun e' => e (Fin.ext e')
    refine Rect.unit_disjoint 0 ?_
    simp
    omega

theorem rows_mem (G : Memref sig .tc .vmem S2x32x8x5120 .i8) (y : G.view.ty.Idx) :
    (∃ b ∈ (Finset.univ : Finset (Fin 2 × Fin 32)), y ∈ ((rowM G b.1.val b.1.isLt b.2).view.set : Finset G.view.ty.Idx)) ↔ y ∈ G.view.set := by
  constructor
  · rintro ⟨b, -, hy⟩
    rw [← row_set G b.1.isLt b.2 _ rfl (row_inb b.1.isLt b.2.isLt)] at hy
    exact View.set_slice_subset _ _ hy
  · intro hy
    obtain ⟨i, -, rfl⟩ := Finset.mem_map.mp hy
    have h0 : (i 0).val < 2 := (i 0).isLt
    have h1 : (i 1).val < 32 := (i 1).isLt
    refine ⟨(⟨(i 0).val, h0⟩, ⟨(i 1).val, h1⟩), Finset.mem_univ _, ?_⟩
    rw [← row_set G h0 ⟨(i 1).val, h1⟩ _ rfl (row_inb h0 h1),
      show (G.access (Rect.unit (s := S2x32x8x5120) ![(i 0).val, (i 1).val, 0, 0] S1x1x8x5120.size (row_inb h0 h1))).set = _ from View.set_slice _ _]
    refine Finset.mem_map_of_mem _ (Rect.mem_set_unit.mpr fun a => ?_)
    have := (i a).isLt
    fin_cases a <;> simp at this ⊢ <;> omega

section Cut
variable (c : Dev nD)

/-- Half `p` of a window buffer, holding something. -/
abbrev slotAny (M : Memref sig .tc .vmem S2x40x5120 .f32) (p : Fin 2) : sProp 𝕄 :=
  iprop(∃ g, M.view.loc (c : Thread nD τ) ↦[(slotM M p.val p.isLt).view.set]{fullShare} g)
/-- Row `b` of the group buffer, holding something. -/
abbrev rowAny (G : Memref sig .tc .vmem S2x32x8x5120 .i8) (b : Fin 2 × Fin 32) : sProp 𝕄 :=
  iprop(∃ g, G.view.loc (c : Thread nD τ) ↦[(rowM G b.1.val b.1.isLt b.2).view.set]{fullShare} g)

theorem slotAny_intro (M : Memref sig .tc .vmem S2x40x5120 .f32) (p : Fin 2) (f : Buf (Elt F) (M.view.loc (c : Thread nD τ))) :
    (M.view.loc (c : Thread nD τ) ↦[(slotM M p.val p.isLt).view.set]{fullShare} f : sProp 𝕄) ⊢ slotAny c M p := by
  iintro H; iexists f; iexact H
theorem rowAny_intro (G : Memref sig .tc .vmem S2x32x8x5120 .i8) (b : Fin 2 × Fin 32) (f : Buf (Elt F) (G.view.loc (c : Thread nD τ))) :
    (G.view.loc (c : Thread nD τ) ↦[(rowM G b.1.val b.1.isLt b.2).view.set]{fullShare} f : sProp 𝕄) ⊢ rowAny c G b := by
  iintro H; iexists f; iexact H
theorem slots_two (M : Memref sig .tc .vmem S2x40x5120 .f32) :
    (bigSep Finset.univ (slotAny c M) : sProp 𝕄) = iprop(slotAny c M 0 ∗ slotAny c M 1) := BI.bigSep_fin_two _

theorem slots_cut (M : Memref sig .tc .vmem S2x40x5120 .f32) (f : Buf (Elt F) (M.view.loc (c : Thread nD τ))) :
    (M.view.loc (c : Thread nD τ) ↦[M.view.set]{fullShare} f : sProp 𝕄) ⊢ bigSep Finset.univ (slotAny c M) :=
  (Entails.of_eq (Ring.pointsTo_sub_blocks (ℓ := M.view.loc (c : Thread nD τ)) (fun p : Fin 2 => (slotM M p.val p.isLt).view.set) (slot_disjoint M) M.view.set
    (Finset.ext fun y => Finset.mem_biUnion.trans (slot_mem M y)) f)).trans (BI.bigSep_mono fun b _ => slotAny_intro c M b f)

theorem slots_join (M : Memref sig .tc .vmem S2x40x5120 .f32) (f : Buf (Elt F) (M.view.loc (c : Thread nD τ))) :
    bigSep Finset.univ (slotAny c M) ⊢ (iprop(∃ g, M.view.loc (c : Thread nD τ) ↦[M.view.set]{fullShare} g) : sProp 𝕄) :=
  Ring.pointsTo_sub_blocks_join_exists (ℓ := M.view.loc (c : Thread nD τ)) (fun p : Fin 2 => (slotM M p.val p.isLt).view.set) (slot_disjoint M) M.view.set
    (Finset.ext fun y => Finset.mem_biUnion.trans (slot_mem M y)) f

theorem rows_cut (G : Memref sig .tc .vmem S2x32x8x5120 .i8) (f : Buf (Elt F) (G.view.loc (c : Thread nD τ))) :
    (G.view.loc (c : Thread nD τ) ↦[G.view.set]{fullShare} f : sProp 𝕄) ⊢ bigSep Finset.univ (rowAny c G) :=
  (Entails.of_eq (Ring.pointsTo_sub_blocks (ℓ := G.view.loc (c : Thread nD τ)) (fun b : Fin 2 × Fin 32 => (rowM G b.1.val b.1.isLt b.2).view.set) (rows_disjoint G) G.view.set
    (Finset.ext fun y => Finset.mem_biUnion.trans (rows_mem G y)) f)).trans (BI.bigSep_mono fun b _ => rowAny_intro c G b f)

theorem rows_join (G : Memref sig .tc .vmem S2x32x8x5120 .i8) (f : Buf (Elt F) (G.view.loc (c : Thread nD τ))) :
    bigSep Finset.univ (rowAny c G) ⊢ (iprop(∃ g, G.view.loc (c : Thread nD τ) ↦[G.view.set]{fullShare} g) : sProp 𝕄) :=
  Ring.pointsTo_sub_blocks_join_exists (ℓ := G.view.loc (c : Thread nD τ)) (fun b : Fin 2 × Fin 32 => (rowM G b.1.val b.1.isLt b.2).view.set) (rows_disjoint G) G.view.set
    (Finset.ext fun y => Finset.mem_biUnion.trans (rows_mem G y)) f

/-! ## Read shares -/

/-- Four read shares and the rest. -/
theorem toks_four (R : Memref sig .tc .hbm S10752x5120 .f32) (e : Buf (Elt F) (R.view.loc (c : Thread nD τ))) :
    (R.view.loc (c : Thread nD τ) ↦[R.view.set]{fullShare} e : sProp 𝕄)
      ⊣⊢ iprop((R.view.loc (c : Thread nD τ) ↦[R.view.set]{Transfers.shareDrop fullShare 4} e)
        ∗ (R.view.loc (c : Thread nD τ) ↦[R.view.set]{Transfers.shareTokN fullShare 0} e) ∗ (R.view.loc (c : Thread nD τ) ↦[R.view.set]{Transfers.shareTokN fullShare 1} e)
        ∗ (R.view.loc (c : Thread nD τ) ↦[R.view.set]{Transfers.shareTokN fullShare 2} e) ∗ (R.view.loc (c : Thread nD τ) ↦[R.view.set]{Transfers.shareTokN fullShare 3} e)) := by
  have h := Transfers.pointsTo_toks (ℓ := R.view.loc (c : Thread nD τ)) (S := R.view.set) (f := e) (Ix := Unit) (Name := ℕ) (U := Pipeline.UD sig nD τ) (Lvl := ℕ) fullShare 4
  rw [show (Finset.univ : Finset (Fin 4)) = {0, 1, 2, 3} from by decide, BI.bigSep_insert (by decide), BI.bigSep_insert (by decide), BI.bigSep_insert (by decide), BI.bigSep_singleton] at h
  exact h

/-- Two times thirty-two read shares and the rest. -/
theorem toks_rows (T : Memref sig .tc .hbm S37919x5120 .i8) (m : Buf (Elt F) (T.view.loc (c : Thread nD τ))) :
    (T.view.loc (c : Thread nD τ) ↦[T.view.set]{fullShare} m : sProp 𝕄)
      ⊣⊢ iprop((T.view.loc (c : Thread nD τ) ↦[T.view.set]{Transfers.shareDrop fullShare 64} m)
        ∗ bigSep Finset.univ (fun b : Fin 2 × Fin 32 => iprop(T.view.loc (c : Thread nD τ) ↦[T.view.set]{Transfers.shareTokN fullShare (32 * b.1.val + b.2.val)} m))) := by
  have h := Transfers.pointsTo_toks (ℓ := T.view.loc (c : Thread nD τ)) (S := T.view.set) (f := m) (Ix := Unit) (Name := ℕ) (U := Pipeline.UD sig nD τ) (Lvl := ℕ) fullShare 64
  rw [show (Finset.univ : Finset (Fin 64)) = (Finset.univ : Finset (Fin 2 × Fin 32)).map (finProdFinEquiv (m := 2) (n := 32)).toEmbedding
    from (Finset.map_univ_equiv (finProdFinEquiv (m := 2) (n := 32))).symm, BI.bigSep_map] at h
  have e : (fun b : Fin 2 × Fin 32 => (iprop(T.view.loc (c : Thread nD τ) ↦[T.view.set]{Transfers.shareTok fullShare 64 ((finProdFinEquiv (m := 2) (n := 32)).toEmbedding b)} m) : sProp 𝕄))
      = fun b => iprop(T.view.loc (c : Thread nD τ) ↦[T.view.set]{Transfers.shareTokN fullShare (32 * b.1.val + b.2.val)} m) := by
    funext b
    show iprop(T.view.loc (c : Thread nD τ) ↦[T.view.set]{Transfers.shareTokN fullShare (b.2.val + 32 * b.1.val)} m) = _
    rw [Nat.add_comm]
  exact e ▸ h

/-- The rows of the group buffer with their shares, half by half. -/
theorem rows_fold (G : Memref sig .tc .vmem S2x32x8x5120 .i8) (T : Memref sig .tc .hbm S37919x5120 .i8) (m : Buf (Elt F) (T.view.loc (c : Thread nD τ))) :
    iprop(bigSep Finset.univ (rowAny c G)
        ∗ bigSep Finset.univ (fun b : Fin 2 × Fin 32 => iprop(T.view.loc (c : Thread nD τ) ↦[T.view.set]{Transfers.shareTokN fullShare (32 * b.1.val + b.2.val)} m)))
      = (iprop(bigSep Finset.univ (rowFree c G T (32 * 0) m 0 (by decide)) ∗ bigSep Finset.univ (rowFree c G T (32 * 1) m 1 (by decide))) : sProp 𝕄) := by
  exact (BI.bigSep_sep _ _ _).symm.trans ((BI.bigSep_univ_prod _).trans (BI.bigSep_fin_two _))

/-! ## Everything cut in two halves -/

section Halves
variable (M N : Memref sig .tc .vmem S2x40x5120 .f32) (G : Memref sig .tc .vmem S2x32x8x5120 .i8)
  (A B D : DmaSems sig S2) (R : Memref sig .tc .hbm S10752x5120 .f32) (T : Memref sig .tc .hbm S37919x5120 .i8)
  (e : Buf (Elt F) (R.view.loc (c : Thread nD τ))) (m : Buf (Elt F) (T.view.loc (c : Thread nD τ)))

/-- The three scratch buffers whole, holding something. -/
def scratchAny : sProp 𝕄 :=
  iprop((∃ g, M.view.loc (c : Thread nD τ) ↦[M.view.set]{fullShare} g) ∗ (∃ g, N.view.loc (c : Thread nD τ) ↦[N.view.set]{fullShare} g)
    ∗ (∃ g, G.view.loc (c : Thread nD τ) ↦[G.view.set]{fullShare} g))
/-- The six cells at rest. -/
def cells0 : sProp 𝕄 :=
  iprop(semVal ((c : Thread nD τ), SemLoc.dma (cell A 0 (by decide))) 0 ∗ semVal ((c : Thread nD τ), SemLoc.dma (cell A 1 (by decide))) 0
    ∗ semVal ((c : Thread nD τ), SemLoc.dma (cell B 0 (by decide))) 0 ∗ semVal ((c : Thread nD τ), SemLoc.dma (cell B 1 (by decide))) 0
    ∗ semVal ((c : Thread nD τ), SemLoc.dma (cell D 0 (by decide))) 0 ∗ semVal ((c : Thread nD τ), SemLoc.dma (cell D 1 (by decide))) 0)
/-- The two arrays the copies read. -/
def arrays : sProp 𝕄 :=
  iprop((R.view.loc (c : Thread nD τ) ↦[R.view.set]{fullShare} e) ∗ (T.view.loc (c : Thread nD τ) ↦[T.view.set]{fullShare} m))
/-- What no copy needs of them. -/
def arraysRest : sProp 𝕄 :=
  iprop((R.view.loc (c : Thread nD τ) ↦[R.view.set]{Transfers.shareDrop fullShare 4} e)
    ∗ (T.view.loc (c : Thread nD τ) ↦[T.view.set]{Transfers.shareDrop fullShare 64} m))

theorem halves_cut :
    iprop(scratchAny c M N G ∗ cells0 c A B D ∗ arrays c R T e m)
      ⊢ (iprop(halfFree c R e T m M N G A B D 0 (by decide) ∗ halfFree c R e T m M N G A B D 1 (by decide) ∗ arraysRest c R T e m) : sProp 𝕄) := by
  unfold scratchAny cells0 arrays arraysRest halfFree winFree txtFree
  iintro ⟨⟨⟨%f, HM⟩, ⟨%g, HN⟩, %h, HG⟩, ⟨HA0, HA1, HB0, HB1, HD0, HD1⟩, HR, HT⟩
  ihave HM := (slots_cut c M f).trans (Entails.of_eq (slots_two c M)) $$ HM
  ihave HN := (slots_cut c N g).trans (Entails.of_eq (slots_two c N)) $$ HN
  ihave HG := rows_cut c G h $$ HG
  ihave HR := (toks_four c R e).1 $$ HR
  ihave HT := (toks_rows c T m).1 $$ HT
  icases HM with ⟨HM0, HM1⟩
  icases HN with ⟨HN0, HN1⟩
  icases HR with ⟨HR, HR0, HR1, HR2, HR3⟩
  icases HT with ⟨HT, HTs⟩
  ihave HGT := Entails.of_eq (rows_fold c G T m) $$ [HG HTs]
  · isplitl [HG]
    · iexact HG
    · iexact HTs
  icases HGT with ⟨HG0, HG1⟩
  isplitl [HM0 HA0 HR0 HN0 HB0 HR2 HG0 HD0]
  · isplitl [HM0 HA0 HR0]
    · isplitl [HM0]
      · iexact HM0
      isplitl [HR0]
      · iexact HR0
      iexact HA0
    isplitl [HN0 HB0 HR2]
    · isplitl [HN0]
      · iexact HN0
      isplitl [HR2]
      · iexact HR2
      iexact HB0
    isplitl [HG0]
    · iexact HG0
    iexact HD0
  isplitl [HM1 HA1 HR1 HN1 HB1 HR3 HG1 HD1]
  · isplitl [HM1 HA1 HR1]
    · isplitl [HM1]
      · iexact HM1
      isplitl [HR1]
      · iexact HR1
      iexact HA1
    isplitl [HN1 HB1 HR3]
    · isplitl [HN1]
      · iexact HN1
      isplitl [HR3]
      · iexact HR3
      iexact HB1
    isplitl [HG1]
    · iexact HG1
    iexact HD1
  isplitl [HR]
  · iexact HR
  iexact HT

theorem halves_join :
    iprop(halfFree c R e T m M N G A B D 0 (by decide) ∗ halfFree c R e T m M N G A B D 1 (by decide) ∗ arraysRest c R T e m)
      ⊢ (iprop(scratchAny c M N G ∗ cells0 c A B D ∗ arrays c R T e m) : sProp 𝕄) := by
  unfold scratchAny cells0 arrays arraysRest halfFree winFree txtFree
  iintro ⟨⟨⟨HM0, HR0, HA0⟩, ⟨HN0, HR2, HB0⟩, HG0, HD0⟩, ⟨⟨HM1, HR1, HA1⟩, ⟨HN1, HR3, HB1⟩, HG1, HD1⟩, HR, HT⟩
  icases HM0 with ⟨%f, HM0⟩
  icases HN0 with ⟨%g, HN0⟩
  ihave HM := (Entails.of_eq (slots_two c M).symm).trans (slots_join c M f) $$ [HM0 HM1]
  · isplitl [HM0]
    · iexists f; iexact HM0
    iexact HM1
  ihave HN := (Entails.of_eq (slots_two c N).symm).trans (slots_join c N g) $$ [HN0 HN1]
  · isplitl [HN0]
    · iexists g; iexact HN0
    iexact HN1
  ihave HGT := Entails.of_eq (rows_fold c G T m).symm $$ [HG0 HG1]
  · isplitl [HG0]
    · iexact HG0
    iexact HG1
  icases HGT with ⟨HG, HTs⟩
  ihave HT := (toks_rows c T m).2 $$ [HT HTs]
  · isplitl [HT]
    · iexact HT
    iexact HTs
  ihave HR := (toks_four c R e).2 $$ [HR HR0 HR1 HR2 HR3]
  · isplitl [HR]
    · iexact HR
    isplitl [HR0]
    · iexact HR0
    isplitl [HR1]
    · iexact HR1
    isplitl [HR2]
    · iexact HR2
    iexact HR3
  isplitl [HM HN HG]
  · isplitl [HM]
    · iexact HM
    isplitl [HN]
    · iexact HN
    iapply (rows_join c G (fun _ => default)) $$ HG
  isplitl [HA0 HA1 HB0 HB1 HD0 HD1]
  · isplitl [HA0]
    · iexact HA0
    isplitl [HA1]
    · iexact HA1
    isplitl [HB0]
    · iexact HB0
    isplitl [HB1]
    · iexact HB1
    isplitl [HD0]
    · iexact HD0
    iexact HD1
  isplitl [HR]
  · iexact HR
  iexact HT

end Halves

end Cut

end Cert.AsmRun

end
-- ==== Proof.AsmWait.lean ====
/-
Proof/AsmWait.lean — the end of the second part of the assembly's body: a frame's two windows are waited for.
-/
module

public import proofs.«01_k».proof.Proof.AsmAccess

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Body
variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))

set_option maxHeartbeats 4000000 in
/-- The end of the second part: the frame's two windows are waited for. -/
theorem part4 (q1 q2 : PosShare TreeShare) (arg0 v0 h9 h10 v20 v27 v29 v30) {K : sProp 𝕄} {Q : _ → sProp 𝕄}
    (hQ : ∀ x, iprop(tabs c arg1 arg2 f1 f2 q1 q2 ∗ winFree c arg10 arg13 arg3 ((i 0).val % 2) e ((i 0).val % 2) (par_lt _) ∗ winFree c arg11 arg14 arg3 (2 + ((i 0).val % 2)) e ((i 0).val % 2) (par_lt _) ∗ waited c ∗ K) ⊢ Q x) :
    iprop((if 0 < na (vAt arg1 c f1 (i 0).val) then winFly c arg10 arg13 arg3 ((i 0).val % 2) e ((i 0).val % 2) (par_lt _) (aW (vAt arg1 c f1 (i 0).val)) else winFree c arg10 arg13 arg3 ((i 0).val % 2) e ((i 0).val % 2) (par_lt _)) ∗ (if 0 < nb (vAt arg1 c f1 (i 0).val) (wAt arg1 c f1 (i 0).val) then winFly c arg11 arg14 arg3 (2 + ((i 0).val % 2)) e ((i 0).val % 2) (par_lt _) (bW (wAt arg1 c f1 (i 0).val)) else winFree c arg11 arg14 arg3 (2 + ((i 0).val % 2)) e ((i 0).val % 2) (par_lt _)) ∗ tabs c arg1 arg2 f1 f2 q1 q2 ∗ waited c ∗ K)
      ⊢ wp frame (wpE (defs₀ (F := F)) Variants.none (c : Thread nD τ) none) Set.univ
          (k0_part4 (F := F) i arg1 harg1 arg2 harg2 arg3 harg3 arg4 harg4 arg5 harg5 arg6 harg6 arg7 harg7 arg8 harg8 arg9 harg9 arg10 harg10 arg11 harg11 arg12 harg12 arg13 arg14 arg15 arg0 v0 (vAt arg1 c f1 (i 0).val) h9 (wAt arg1 c f1 (i 0).val) h10 v20 v27 v29 v30) Q := by
  unfold k0_part4
  simp only [Prog.lift]
  refine dite_wp c (S' := iprop(winFree c arg10 arg13 arg3 ((i 0).val % 2) e ((i 0).val % 2) (par_lt _) ∗ (if 0 < nb (vAt arg1 c f1 (i 0).val) (wAt arg1 c f1 (i 0).val) then winFly c arg11 arg14 arg3 (2 + ((i 0).val % 2)) e ((i 0).val % 2) (par_lt _) (bW (wAt arg1 c f1 (i 0).val)) else winFree c arg11 arg14 arg3 (2 + ((i 0).val % 2)) e ((i 0).val % 2) (par_lt _)) ∗ tabs c arg1 arg2 f1 f2 q1 q2 ∗ waited c ∗ K)) ?_ ?_ ?_
  · refine dite_wp c (S' := iprop(winFree c arg10 arg13 arg3 ((i 0).val % 2) e ((i 0).val % 2) (par_lt _) ∗ winFree c arg11 arg14 arg3 (2 + ((i 0).val % 2)) e ((i 0).val % 2) (par_lt _) ∗ tabs c arg1 arg2 f1 f2 q1 q2 ∗ waited c ∗ K)) ?_ ?_ ?_
    · iintro ⟨Ha, Hb, ⟨H1, H2⟩, HO, HK⟩
      rw [wp_bind]
      iapply (tab_load c arg1 f1 (32 * (i 0).val) _ (off41_eq i) _ _ _) $$ H1
      iintro H1
      rw [wp_bind]
      iapply (wp_assume Variants.none (c : Thread nD τ) none Set.univ (chk11 _))
      rw [wp_ret]
      imodintro
      rw [wp_bind]
      iapply (tab_load c arg1 f1 (32 * (i 0).val + 31) _ (off42_eq i) _ _ _) $$ H1
      iintro H1
      rw [wp_bind]
      iapply (wp_assume Variants.none (c : Thread nD τ) none Set.univ (chk12 _))
      rw [wp_ret]
      imodintro
      rw [wp_bind]
      iapply (win_load c arg10 arg13 arg3 ((i 0).val % 2) e ((i 0).val % 2) (par_lt _) 0 40 (by decide) _ (off43_eq i) _ rfl _ _ _) $$ Ha
      iintro %x Ha
      rw [wp_ret]
      imodintro
      rw [wp_pure]
      imodintro
      iapply hQ
      isplitl [H1 H2]
      · isplitl [H1]; · iexact H1
        iexact H2
      isplitl [Ha]; · iexact Ha
      isplitl [Hb]; · iexact Hb
      isplitl [HO]; · iexact HO
      iexact HK
    · intro h hR
      rw [cond8_eq, cond3_eq, ofBool_iff] at h
      rw [if_pos h]
      iintro ⟨Ha, Hb, Ht, ⟨%W, HO⟩, HK⟩
      rw [wp_bind]
      iapply (win_wait c arg11 arg14 arg3 _ e _ (par_lt _) (bW (wAt arg1 c f1 (i 0).val)) _ (off38_eq i) _ _ (off39_eq i) _ _ _ _ _ W) $$ [Hb HO]
      · isplitl [Hb]; · iexact Hb
        iexact HO
      iintro ⟨Hb, HO⟩
      ihave Hb := (winHas_free c arg11 arg14 arg3 _ e _ (par_lt _) (bW (wAt arg1 c f1 (i 0).val))) $$ Hb
      rw [wp_ret]
      imodintro
      iapply hR
      isplitl [Ha]; · iexact Ha
      isplitl [Hb]; · iexact Hb
      isplitl [Ht]; · iexact Ht
      isplitl [HO]; · iexists _; iexact HO
      iexact HK
    · intro h
      rw [cond8_eq, cond3_eq, ofBool_iff] at h
      rw [if_neg h]
  · intro h hR
    rw [cond7_eq, cond2_eq, ofBool_iff] at h
    rw [if_pos h]
    iintro ⟨Ha, Hb, Ht, ⟨%W, HO⟩, HK⟩
    rw [wp_bind]
    iapply (win_wait c arg10 arg13 arg3 _ e _ (par_lt _) (aW (vAt arg1 c f1 (i 0).val)) _ (off35_eq i) _ _ (off36_eq i) _ _ _ _ _ W) $$ [Ha HO]
    · isplitl [Ha]; · iexact Ha
      iexact HO
    iintro ⟨Ha, HO⟩
    ihave Ha := (winHas_free c arg10 arg13 arg3 _ e _ (par_lt _) (aW (vAt arg1 c f1 (i 0).val))) $$ Ha
    rw [wp_ret]
    imodintro
    iapply hR
    isplitl [Ha]; · iexact Ha
    isplitl [Hb]; · iexact Hb
    isplitl [Ht]; · iexact Ht
    isplitl [HO]; · iexists _; iexact HO
    iexact HK
  · intro h
    rw [cond7_eq, cond2_eq, ofBool_iff] at h
    rw [if_neg h]

end Body

end Cert.AsmRun
-- ==== Proof.AsmRows.lean ====
/-
Proof/AsmRows.lean — the third part of the assembly's body: the two windows are merged, and the text rows waited for.
-/
module

public import proofs.«01_k».proof.Proof.AsmAccess

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Body
variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))

set_option maxHeartbeats 4000000 in
/-- The two windows merged, and the text rows waited for. -/
theorem part5 (q1 q2 : PosShare TreeShare) (hk : ToksOk c arg1 arg2 f1 f2 (i 0).val) (arg0 v0 h10 v20 v27 v53 v54 v61 v64) {K : sProp 𝕄} {Q : _ → sProp 𝕄}
    (hQ : ∀ x, iprop(tabs c arg1 arg2 f1 f2 q1 q2 ∗ winFree c arg10 arg13 arg3 ((i 0).val % 2) e ((i 0).val % 2) (par_lt _) ∗ winFree c arg11 arg14 arg3 (2 + ((i 0).val % 2)) e ((i 0).val % 2) (par_lt _) ∗ txtFree c arg12 arg15 arg4 (32 * ((i 0).val % 2)) m ((i 0).val % 2) (par_lt _) ∗ waited c ∗ K) ⊢ Q x) :
    iprop(tabs c arg1 arg2 f1 f2 q1 q2 ∗ winFree c arg10 arg13 arg3 ((i 0).val % 2) e ((i 0).val % 2) (par_lt _) ∗ winFree c arg11 arg14 arg3 (2 + ((i 0).val % 2)) e ((i 0).val % 2) (par_lt _) ∗ txtRun c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) (txt (vAt arg1 c f1 (i 0).val) (wAt arg1 c f1 (i 0).val)) 0 ∗ waited c ∗ K)
      ⊢ wp frame (wpE (defs₀ (F := F)) Variants.none (c : Thread nD τ) none) Set.univ
          (k0_part5 (F := F) i arg1 harg1 arg2 harg2 arg3 harg3 arg4 harg4 arg5 harg5 arg6 harg6 arg7 harg7 arg8 harg8 arg9 harg9 arg10 harg10 arg11 harg11 arg12 harg12 arg13 arg14 arg15 arg0 v0 (vAt arg1 c f1 (i 0).val) (wAt arg1 c f1 (i 0).val) h10 v20 v27 v53 v54 v61 v64) Q := by
  unfold k0_part5
  simp only [wp_bind, Prog.lift]
  iintro ⟨⟨H1, H2⟩, Ha, Hb, Ht, HO, HK⟩
  iapply (win_load c arg11 arg14 arg3 (2 + ((i 0).val % 2)) e ((i 0).val % 2) (par_lt _) 0 40 (by decide) _ (off44_eq i) _ rfl _ _ _) $$ Hb
  iintro %x Hb
  rw [wp_ret]
  imodintro
  iapply (win_load c arg10 arg13 arg3 ((i 0).val % 2) e ((i 0).val % 2) (par_lt _) 0 32 (by decide) _ (off45_eq i) _ rfl _ _ _) $$ Ha
  iintro %y Ha
  rw [wp_ret]
  imodintro
  iapply (win_store c arg10 arg13 arg3 ((i 0).val % 2) e ((i 0).val % 2) (par_lt _) 0 32 (by decide) _ (off45_eq i) _ rfl _ _ _ _ _) $$ Ha
  iintro Ha
  rw [wp_ret]
  imodintro
  iapply (loop_wp c (k0_t5_loop (vAt arg1 c f1 (i 0).val) (wAt arg1 c f1 (i 0).val)) _ _ (fun k => iprop(txtRun c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) (txt (vAt arg1 c f1 (i 0).val) (wAt arg1 c f1 (i 0).val)) (grpCredit arg12 ((i 0).val % 2) (par_lt _) * k) ∗ waited c
    ∗ (arg2.view.loc (c : Thread nD τ) ↦[arg2.view.set]{q2} f2))) ?_) $$ [Ht HO H2]
  · intro k
    have hkt : k.val < txt (vAt arg1 c f1 (i 0).val) (wAt arg1 c f1 (i 0).val) := lt_of_lt_of_eq k.isLt (lp_trips _ _)
    have hr : na (vAt arg1 c f1 (i 0).val) + k.val < 32 := by have := na_txt (vAt arg1 c f1 (i 0).val) (wAt arg1 c f1 (i 0).val); omega
    iintro ⟨Ht, ⟨%W, HO⟩, H2⟩
    simp only [wp_bind]
    iapply (tab_load c arg2 f2 (32 * (i 0).val + (na (vAt arg1 c f1 (i 0).val) + k.val)) _ (off46_eq i _ _ k) _ _ _) $$ H2
    iintro H2
    iapply (wp_assume Variants.none (c : Thread nD τ) none Set.univ (chk13 (hk k.val hkt)))
    rw [wp_ret]
    imodintro
    iapply (txt_wait c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) k.val hkt (na (vAt arg1 c f1 (i 0).val) + k.val) hr
      _ (off47_eq i) _ _ (off48_eq i _ _ k) _ _ _ _ _ W) $$ [Ht HO]
    · isplitl [Ht]; · iexact Ht
      iexact HO
    iintro ⟨Ht, HO⟩
    rw [wp_ret]
    imodintro
    rw [wp_pure]
    imodintro
    isplitl [Ht]; · iexact Ht
    isplitl [HO]; · iexists _; iexact HO
    iexact H2
  · isplitl [Ht]
    · rw [Nat.mul_zero]; iexact Ht
    isplitl [HO]; · iexact HO
    iexact H2
  rw [show (k0_t5_loop (vAt arg1 c f1 (i 0).val) (wAt arg1 c f1 (i 0).val)).trips = txt (vAt arg1 c f1 (i 0).val) (wAt arg1 c f1 (i 0).val) from lp_trips _ _]
  iintro ⟨Ht, HO, H2⟩
  imod (txt_close c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _)) $$ Ht with Ht
  ihave Ht := (txtHas_free c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _)) $$ Ht
  iapply (loop_zero c (k0_t6_loop (vAt arg1 c f1 (i 0).val) (wAt arg1 c f1 (i 0).val)) (t6_trips _ _))
  rw [wp_pure]
  imodintro
  iapply hQ
  isplitl [H1 H2]
  · isplitl [H1]; · iexact H1
    iexact H2
  isplitl [Ha]; · iexact Ha
  isplitl [Hb]; · iexact Hb
  isplitl [Ht]; · iexact Ht
  isplitl [HO]; · iexact HO
  iexact HK

end Body

end Cert.AsmRun
-- ==== Proof.AsmFill.lean ====
/-
Proof/AsmFill.lean — the fourth part of the assembly's body: the text rows are filled in, and the embeddings written.
-/
module

public import proofs.«01_k».proof.Proof.AsmAccess

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Body
variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))

set_option maxHeartbeats 4000000 in
/-- The text rows filled in, and the embeddings written. -/
theorem part6 (q2 : PosShare TreeShare) (arg0 v0 h10 v20 v27 v54 v99 v100) {K : sProp 𝕄} {Q : _ → sProp 𝕄}
    (hQ : ∀ x, iprop((arg2.view.loc (c : Thread nD τ) ↦[arg2.view.set]{q2} f2) ∗ winFree c arg10 arg13 arg3 ((i 0).val % 2) e ((i 0).val % 2) (par_lt _) ∗ txtFree c arg12 arg15 arg4 (32 * ((i 0).val % 2)) m ((i 0).val % 2) (par_lt _) ∗ (∃ g, arg5.view.loc (c : Thread nD τ) ↦[arg5.view.set]{fullShare} g) ∗ (∃ g, arg8.view.loc (c : Thread nD τ) ↦[arg8.view.set]{fullShare} g) ∗ K) ⊢ Q x) :
    iprop((arg2.view.loc (c : Thread nD τ) ↦[arg2.view.set]{q2} f2) ∗ winFree c arg10 arg13 arg3 ((i 0).val % 2) e ((i 0).val % 2) (par_lt _) ∗ txtFree c arg12 arg15 arg4 (32 * ((i 0).val % 2)) m ((i 0).val % 2) (par_lt _) ∗ (∃ g, arg5.view.loc (c : Thread nD τ) ↦[arg5.view.set]{fullShare} g) ∗ (∃ g, arg8.view.loc (c : Thread nD τ) ↦[arg8.view.set]{fullShare} g) ∗ K)
      ⊢ wp frame (wpE (defs₀ (F := F)) Variants.none (c : Thread nD τ) none) Set.univ
          (k0_part6 (F := F) i arg1 harg1 arg2 harg2 arg3 harg3 arg4 harg4 arg5 harg5 arg6 harg6 arg7 harg7 arg8 harg8 arg9 harg9 arg10 harg10 arg11 harg11 arg12 harg12 arg13 arg14 arg15 arg0 v0 (vAt arg1 c f1 (i 0).val) (wAt arg1 c f1 (i 0).val) h10 v20 v27 v54 v99 v100) Q := by
  unfold k0_part6
  simp only [wp_bind, Prog.lift]
  iintro ⟨H2, Ha, Ht, ⟨%g5, H5⟩, ⟨%g8, H8⟩, HK⟩
  iapply (loop_wp c (k0_t7_loop (vAt arg1 c f1 (i 0).val) (wAt arg1 c f1 (i 0).val)) _ _ (fun k => iprop((arg2.view.loc (c : Thread nD τ) ↦[arg2.view.set]{q2} f2) ∗ winFree c arg10 arg13 arg3 ((i 0).val % 2) e ((i 0).val % 2) (par_lt _) ∗ txtFree c arg12 arg15 arg4 (32 * ((i 0).val % 2)) m ((i 0).val % 2) (par_lt _))) ?_) $$ [H2 Ha Ht]
  · intro k
    have hkt : k.val < txt (vAt arg1 c f1 (i 0).val) (wAt arg1 c f1 (i 0).val) := lt_of_lt_of_eq k.isLt (lp_trips _ _)
    have hr : na (vAt arg1 c f1 (i 0).val) + k.val < 32 := by have := na_txt (vAt arg1 c f1 (i 0).val) (wAt arg1 c f1 (i 0).val); omega
    iintro ⟨H2, Ha, Ht⟩
    simp only [wp_bind]
    iapply (tab_load c arg2 f2 (32 * (i 0).val + (na (vAt arg1 c f1 (i 0).val) + k.val)) _ (off54_eq i _ _ k) _ _ _) $$ H2
    iintro H2
    iapply (grp_load c arg12 arg15 arg4 (32 * ((i 0).val % 2)) m ((i 0).val % 2) (par_lt _) (na (vAt arg1 c f1 (i 0).val) + k.val) hr _ (off55_eq i _ _ k) _ _ _) $$ Ht
    iintro %x Ht
    rw [wp_ret]
    imodintro
    iapply (win_load c arg10 arg13 arg3 ((i 0).val % 2) e ((i 0).val % 2) (par_lt _) (na (vAt arg1 c f1 (i 0).val) + k.val) 1 (by omega) _ (off56_eq i _ _ k) _ rfl _ _ _) $$ Ha
    iintro %y Ha
    rw [wp_ret]
    imodintro
    iapply (win_store c arg10 arg13 arg3 ((i 0).val % 2) e ((i 0).val % 2) (par_lt _) (na (vAt arg1 c f1 (i 0).val) + k.val) 1 (by omega) _ (off56_eq i _ _ k) _ rfl _ _ _ _ _) $$ Ha
    iintro Ha
    rw [wp_ret]
    imodintro
    rw [wp_pure]
    imodintro
    isplitl [H2]; · iexact H2
    isplitl [Ha]; · iexact Ha
    iexact Ht
  · isplitl [H2]; · iexact H2
    isplitl [Ha]; · iexact Ha
    iexact Ht
  iintro ⟨H2, Ha, Ht⟩
  iapply (loop_zero c (k0_t8_loop (vAt arg1 c f1 (i 0).val) (wAt arg1 c f1 (i 0).val)) (t8_trips _ _))
  iapply (any_load c (M := arg5) (g := g5) (View.set_slice_subset _ _)) $$ H5
  iintro %y5 H5
  rw [wp_ret]
  imodintro
  iapply (win_load c arg10 arg13 arg3 ((i 0).val % 2) e ((i 0).val % 2) (par_lt _) 0 32 (by decide) _ (off45_eq i) _ rfl _ _ _) $$ Ha
  iintro %y Ha
  rw [wp_ret]
  imodintro
  iapply (any_load c (M := arg8) (g := g8) (View.set_slice_subset _ _)) $$ H8
  iintro %y8 H8
  rw [wp_ret]
  imodintro
  iapply (any_store c (M := arg8) (g := g8) (View.set_slice_subset _ _)) $$ H8
  iintro H8
  rw [wp_ret]
  imodintro
  rw [wp_pure]
  imodintro
  iapply hQ
  isplitl [H2]; · iexact H2
  isplitl [Ha]; · iexact Ha
  isplitl [Ht]; · iexact Ht
  isplitl [H5]; · iexists g5; iexact H5
  isplitl [H8]; · iexact H8
  iexact HK

end Body

end Cert.AsmRun
-- ==== Proof.AsmCodes.lean ====
/-
Proof/AsmCodes.lean — the last parts of the assembly's body: the codes are written, and the scales.
-/
module

public import proofs.«01_k».proof.Proof.AsmAccess

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Body
variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))

set_option maxHeartbeats 4000000 in
/-- The codes written. -/
theorem part7 (arg0 v54 v131 v138) {K : sProp 𝕄} {Q : _ → sProp 𝕄}
    (hQ : ∀ x, iprop((∃ g, arg6.view.loc (c : Thread nD τ) ↦[arg6.view.set]{fullShare} g) ∗ (∃ g, arg7.view.loc (c : Thread nD τ) ↦[arg7.view.set]{fullShare} g) ∗ K) ⊢ Q x) :
    iprop((∃ g, arg6.view.loc (c : Thread nD τ) ↦[arg6.view.set]{fullShare} g) ∗ (∃ g, arg7.view.loc (c : Thread nD τ) ↦[arg7.view.set]{fullShare} g) ∗ K)
      ⊢ wp frame (wpE (defs₀ (F := F)) Variants.none (c : Thread nD τ) none) Set.univ
          (k0_part7 (F := F) i arg1 harg1 arg2 harg2 arg3 harg3 arg4 harg4 arg5 harg5 arg6 harg6 arg7 harg7 arg8 harg8 arg9 harg9 arg10 harg10 arg11 harg11 arg12 harg12 arg13 arg14 arg15 arg0 v54 v131 v138) Q := by
  unfold k0_part7
  simp only [wp_bind, Prog.lift]
  iintro ⟨⟨%g6, H6⟩, ⟨%g7, H7⟩, HK⟩
  iapply (any_load c (M := arg6) (g := g6) (View.set_slice_subset _ _)) $$ H6
  iintro %y6 H6
  rw [wp_ret]
  imodintro
  iapply (any_load c (M := arg7) (g := g7) (View.set_slice_subset _ _)) $$ H7
  iintro %y7 H7
  rw [wp_ret]
  imodintro
  iapply (any_store c (M := arg7) (g := g7) (View.set_slice_subset _ _)) $$ H7
  iintro H7
  rw [wp_ret]
  imodintro
  rw [wp_pure]
  imodintro
  iapply hQ
  isplitl [H6]; · iexists g6; iexact H6
  isplitl [H7]; · iexact H7
  iexact HK

end Body

end Cert.AsmRun
-- ==== Proof.AsmBody.lean ====
/-
Proof/AsmBody.lean — the assembly's body at one grid point.
-/
module

public import proofs.«01_k».proof.Proof.AsmWait
public import proofs.«01_k».proof.Proof.AsmRows
public import proofs.«01_k».proof.Proof.AsmFill
public import proofs.«01_k».proof.Proof.AsmCodes

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Body
variable (c : Dev nD) (i : grid0.Coords)
  (arg1 : Memref sig .tc .smem S12288 .i32) (harg1 : arg1.IsWhole) (arg2 : Memref sig .tc .smem S12288 .i32) (harg2 : arg2.IsWhole)
  (arg3 : Memref sig .tc .hbm S10752x5120 .f32) (harg3 : arg3.IsWhole) (arg4 : Memref sig .tc .hbm S37919x5120 .i8) (harg4 : arg4.IsWhole)
  (arg5 : Memref sig .tc .vmem S1x1x32 .f32) (harg5 : arg5.IsWhole) (arg6 : Memref sig .tc .vmem S1x5120 .f32) (harg6 : arg6.IsWhole)
  (arg7 : Memref sig .tc .vmem S32x5120 .fp8e4m3) (harg7 : arg7.IsWhole) (arg8 : Memref sig .tc .vmem S32x5120 .bf16) (harg8 : arg8.IsWhole)
  (arg9 : Memref sig .tc .vmem S96x128 .f32) (harg9 : arg9.IsWhole) (arg10 : Memref sig .tc .vmem S2x40x5120 .f32) (harg10 : arg10.IsWhole)
  (arg11 : Memref sig .tc .vmem S2x40x5120 .f32) (harg11 : arg11.IsWhole) (arg12 : Memref sig .tc .vmem S2x32x8x5120 .i8) (harg12 : arg12.IsWhole)
  (arg13 arg14 arg15 : DmaSems sig S2)
  (f1 : Buf (Elt F) (arg1.view.loc (c : Thread nD τ))) (f2 : Buf (Elt F) (arg2.view.loc (c : Thread nD τ)))
  (e : Buf (Elt F) (arg3.view.loc (c : Thread nD τ))) (m : Buf (Elt F) (arg4.view.loc (c : Thread nD τ)))

set_option maxHeartbeats 4000000 in
/-- One grid point: its frame's copies are waited for, the next frame's are started. -/
theorem body_wp (q1 q2 : PosShare TreeShare) (hk : ∀ t, t < 384 → ToksOk c arg1 arg2 f1 f2 t) :
    iprop(tabs c arg1 arg2 f1 f2 q1 q2 ∗ (if (i 0).val = 0 then free c arg3 arg4 arg10 arg11 arg12 arg13 arg14 arg15 e m ((i 0).val % 2) (par_lt _) else fly c arg1 arg2 arg3 arg4 arg10 arg11 arg12 arg13 arg14 arg15 f1 f2 e m ((i 0).val % 2) (par_lt _) (i 0).val) ∗ free c arg3 arg4 arg10 arg11 arg12 arg13 arg14 arg15 e m (1 - (i 0).val % 2) (npar_lt _) ∗ waited c ∗ (∃ g, arg5.view.loc (c : Thread nD τ) ↦[arg5.view.set]{fullShare} g) ∗ (∃ g, arg6.view.loc (c : Thread nD τ) ↦[arg6.view.set]{fullShare} g) ∗ (∃ g, arg7.view.loc (c : Thread nD τ) ↦[arg7.view.set]{fullShare} g) ∗ (∃ g, arg8.view.loc (c : Thread nD τ) ↦[arg8.view.set]{fullShare} g) ∗ (∃ g, arg9.view.loc (c : Thread nD τ) ↦[arg9.view.set]{fullShare} g))
      ⊢ wp frame (wpE (defs₀ (F := F)) Variants.none (c : Thread nD τ) none) Set.univ
          (cc0_assemble (F := F) i arg1 harg1 arg2 harg2 arg3 harg3 arg4 harg4 arg5 harg5 arg6 harg6 arg7 harg7 arg8 harg8 arg9 harg9 arg10 harg10 arg11 harg11 arg12 harg12 arg13 arg14 arg15)
          (fun _ => iprop(tabs c arg1 arg2 f1 f2 q1 q2 ∗ free c arg3 arg4 arg10 arg11 arg12 arg13 arg14 arg15 e m ((i 0).val % 2) (par_lt _) ∗ (if (i 0).val + 1 < 384 then fly c arg1 arg2 arg3 arg4 arg10 arg11 arg12 arg13 arg14 arg15 f1 f2 e m (1 - (i 0).val % 2) (npar_lt _) ((i 0).val + 1) else free c arg3 arg4 arg10 arg11 arg12 arg13 arg14 arg15 e m (1 - (i 0).val % 2) (npar_lt _)) ∗ waited c ∗ (∃ g, arg5.view.loc (c : Thread nD τ) ↦[arg5.view.set]{fullShare} g) ∗ (∃ g, arg6.view.loc (c : Thread nD τ) ↦[arg6.view.set]{fullShare} g) ∗ (∃ g, arg7.view.loc (c : Thread nD τ) ↦[arg7.view.set]{fullShare} g) ∗ (∃ g, arg8.view.loc (c : Thread nD τ) ↦[arg8.view.set]{fullShare} g) ∗ (∃ g, arg9.view.loc (c : Thread nD τ) ↦[arg9.view.set]{fullShare} g))) := by
  unfold cc0_assemble
  have hi : (i 0).val < 384 := (i 0).isLt
  rw [wp_bind]
  refine part3 c i arg1 harg1 arg2 harg2 arg3 harg3 arg4 harg4 arg5 harg5 arg6 harg6 arg7 harg7 arg8 harg8 arg9 harg9 arg10 harg10 arg11 harg11 arg12 harg12 arg13 arg14 arg15 f1 f2 e m q1 q2 hk ?_
  refine Entails.trans (Q := iprop((if 0 < na (vAt arg1 c f1 (i 0).val) then winFly c arg10 arg13 arg3 ((i 0).val % 2) e ((i 0).val % 2) (par_lt _) (aW (vAt arg1 c f1 (i 0).val)) else winFree c arg10 arg13 arg3 ((i 0).val % 2) e ((i 0).val % 2) (par_lt _)) ∗ (if 0 < nb (vAt arg1 c f1 (i 0).val) (wAt arg1 c f1 (i 0).val) then winFly c arg11 arg14 arg3 (2 + ((i 0).val % 2)) e ((i 0).val % 2) (par_lt _) (bW (wAt arg1 c f1 (i 0).val)) else winFree c arg11 arg14 arg3 (2 + ((i 0).val % 2)) e ((i 0).val % 2) (par_lt _)) ∗ tabs c arg1 arg2 f1 f2 q1 q2 ∗ waited c ∗ (txtRun c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) (txt (vAt arg1 c f1 (i 0).val) (wAt arg1 c f1 (i 0).val)) 0 ∗ (if (i 0).val + 1 < 384 then fly c arg1 arg2 arg3 arg4 arg10 arg11 arg12 arg13 arg14 arg15 f1 f2 e m (1 - (i 0).val % 2) (npar_lt _) ((i 0).val + 1) else free c arg3 arg4 arg10 arg11 arg12 arg13 arg14 arg15 e m (1 - (i 0).val % 2) (npar_lt _)) ∗ (∃ g, arg5.view.loc (c : Thread nD τ) ↦[arg5.view.set]{fullShare} g) ∗ (∃ g, arg6.view.loc (c : Thread nD τ) ↦[arg6.view.set]{fullShare} g) ∗ (∃ g, arg7.view.loc (c : Thread nD τ) ↦[arg7.view.set]{fullShare} g) ∗ (∃ g, arg8.view.loc (c : Thread nD τ) ↦[arg8.view.set]{fullShare} g) ∗ (∃ g, arg9.view.loc (c : Thread nD τ) ↦[arg9.view.set]{fullShare} g)))) ?_ ?_
  · iintro ⟨HT, Hf, Hn, HO, HS⟩
    ihave Hf := (show fly c arg1 arg2 arg3 arg4 arg10 arg11 arg12 arg13 arg14 arg15 f1 f2 e m ((i 0).val % 2) (par_lt _) (i 0).val ⊢ iprop((if 0 < na (vAt arg1 c f1 (i 0).val) then winFly c arg10 arg13 arg3 ((i 0).val % 2) e ((i 0).val % 2) (par_lt _) (aW (vAt arg1 c f1 (i 0).val)) else winFree c arg10 arg13 arg3 ((i 0).val % 2) e ((i 0).val % 2) (par_lt _)) ∗ (if 0 < nb (vAt arg1 c f1 (i 0).val) (wAt arg1 c f1 (i 0).val) then winFly c arg11 arg14 arg3 (2 + ((i 0).val % 2)) e ((i 0).val % 2) (par_lt _) (bW (wAt arg1 c f1 (i 0).val)) else winFree c arg11 arg14 arg3 (2 + ((i 0).val % 2)) e ((i 0).val % 2) (par_lt _)) ∗ txtRun c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) (txt (vAt arg1 c f1 (i 0).val) (wAt arg1 c f1 (i 0).val)) 0) from Entails.rfl) $$ Hf
    icases Hf with ⟨Ha, Hb, Ht⟩
    isplitl [Ha]; · iexact Ha
    isplitl [Hb]; · iexact Hb
    isplitl [HT]; · iexact HT
    isplitl [HO]; · iexact HO
    isplitl [Ht]; · iexact Ht
    isplitl [Hn]; · iexact Hn
    iexact HS
  dsimp only
  rw [wp_bind]
  refine part4 c i arg1 harg1 arg2 harg2 arg3 harg3 arg4 harg4 arg5 harg5 arg6 harg6 arg7 harg7 arg8 harg8 arg9 harg9 arg10 harg10 arg11 harg11 arg12 harg12 arg13 arg14 arg15 f1 f2 e q1 q2 _ _ _ _ _ _ _ _ ?_
  rintro ⟨v53, v54, v61, v64⟩
  dsimp only
  refine Entails.trans (Q := iprop(tabs c arg1 arg2 f1 f2 q1 q2 ∗ winFree c arg10 arg13 arg3 ((i 0).val % 2) e ((i 0).val % 2) (par_lt _) ∗ winFree c arg11 arg14 arg3 (2 + ((i 0).val % 2)) e ((i 0).val % 2) (par_lt _) ∗ txtRun c arg12 arg15 arg4 (32 * ((i 0).val % 2)) m ((i 0).val % 2) (par_lt _) (xAt arg2 c f2 (i 0).val) (na (vAt arg1 c f1 (i 0).val)) (txt (vAt arg1 c f1 (i 0).val) (wAt arg1 c f1 (i 0).val)) (na_txt _ _) (txt (vAt arg1 c f1 (i 0).val) (wAt arg1 c f1 (i 0).val)) 0 ∗ waited c ∗ ((if (i 0).val + 1 < 384 then fly c arg1 arg2 arg3 arg4 arg10 arg11 arg12 arg13 arg14 arg15 f1 f2 e m (1 - (i 0).val % 2) (npar_lt _) ((i 0).val + 1) else free c arg3 arg4 arg10 arg11 arg12 arg13 arg14 arg15 e m (1 - (i 0).val % 2) (npar_lt _)) ∗ (∃ g, arg5.view.loc (c : Thread nD τ) ↦[arg5.view.set]{fullShare} g) ∗ (∃ g, arg6.view.loc (c : Thread nD τ) ↦[arg6.view.set]{fullShare} g) ∗ (∃ g, arg7.view.loc (c : Thread nD τ) ↦[arg7.view.set]{fullShare} g) ∗ (∃ g, arg8.view.loc (c : Thread nD τ) ↦[arg8.view.set]{fullShare} g) ∗ (∃ g, arg9.view.loc (c : Thread nD τ) ↦[arg9.view.set]{fullShare} g)))) ?_ ?_
  · iintro ⟨HT, Ha, Hb, HO, Ht, HS⟩
    isplitl [HT]; · iexact HT
    isplitl [Ha]; · iexact Ha
    isplitl [Hb]; · iexact Hb
    isplitl [Ht]; · iexact Ht
    isplitl [HO]; · iexact HO
    iexact HS
  rw [wp_bind]
  refine part5 c i arg1 harg1 arg2 harg2 arg3 harg3 arg4 harg4 arg5 harg5 arg6 harg6 arg7 harg7 arg8 harg8 arg9 harg9 arg10 harg10 arg11 harg11 arg12 harg12 arg13 arg14 arg15 f1 f2 e m q1 q2 (hk _ hi) _ _ _ _ _ _ _ _ _ ?_
  rintro ⟨v99, v100⟩
  dsimp only
  refine Entails.trans (Q := iprop((arg2.view.loc (c : Thread nD τ) ↦[arg2.view.set]{q2} f2) ∗ winFree c arg10 arg13 arg3 ((i 0).val % 2) e ((i 0).val % 2) (par_lt _) ∗ txtFree c arg12 arg15 arg4 (32 * ((i 0).val % 2)) m ((i 0).val % 2) (par_lt _) ∗ (∃ g, arg5.view.loc (c : Thread nD τ) ↦[arg5.view.set]{fullShare} g) ∗ (∃ g, arg8.view.loc (c : Thread nD τ) ↦[arg8.view.set]{fullShare} g)
    ∗ ((arg1.view.loc (c : Thread nD τ) ↦[arg1.view.set]{q1} f1) ∗ winFree c arg11 arg14 arg3 (2 + ((i 0).val % 2)) e ((i 0).val % 2) (par_lt _) ∗ waited c ∗ (if (i 0).val + 1 < 384 then fly c arg1 arg2 arg3 arg4 arg10 arg11 arg12 arg13 arg14 arg15 f1 f2 e m (1 - (i 0).val % 2) (npar_lt _) ((i 0).val + 1) else free c arg3 arg4 arg10 arg11 arg12 arg13 arg14 arg15 e m (1 - (i 0).val % 2) (npar_lt _)) ∗ (∃ g, arg6.view.loc (c : Thread nD τ) ↦[arg6.view.set]{fullShare} g) ∗ (∃ g, arg7.view.loc (c : Thread nD τ) ↦[arg7.view.set]{fullShare} g) ∗ (∃ g, arg9.view.loc (c : Thread nD τ) ↦[arg9.view.set]{fullShare} g)))) ?_ ?_
  · iintro ⟨⟨H1, H2⟩, Ha, Hb, Ht, HO, Hn, H5, H6, H7, H8, H9⟩
    isplitl [H2]; · iexact H2
    isplitl [Ha]; · iexact Ha
    isplitl [Ht]; · iexact Ht
    isplitl [H5]; · iexact H5
    isplitl [H8]; · iexact H8
    isplitl [H1]; · iexact H1
    isplitl [Hb]; · iexact Hb
    isplitl [HO]; · iexact HO
    isplitl [Hn]; · iexact Hn
    isplitl [H6]; · iexact H6
    isplitl [H7]; · iexact H7
    iexact H9
  rw [wp_bind]
  refine part6 c i arg1 harg1 arg2 harg2 arg3 harg3 arg4 harg4 arg5 harg5 arg6 harg6 arg7 harg7 arg8 harg8 arg9 harg9 arg10 harg10 arg11 harg11 arg12 harg12 arg13 arg14 arg15 f1 f2 e m q2 _ _ _ _ _ _ _ _ ?_
  rintro ⟨v131, v138⟩
  dsimp only
  refine Entails.trans (Q := iprop((∃ g, arg6.view.loc (c : Thread nD τ) ↦[arg6.view.set]{fullShare} g) ∗ (∃ g, arg7.view.loc (c : Thread nD τ) ↦[arg7.view.set]{fullShare} g) ∗ (tabs c arg1 arg2 f1 f2 q1 q2 ∗ free c arg3 arg4 arg10 arg11 arg12 arg13 arg14 arg15 e m ((i 0).val % 2) (par_lt _) ∗ (if (i 0).val + 1 < 384 then fly c arg1 arg2 arg3 arg4 arg10 arg11 arg12 arg13 arg14 arg15 f1 f2 e m (1 - (i 0).val % 2) (npar_lt _) ((i 0).val + 1) else free c arg3 arg4 arg10 arg11 arg12 arg13 arg14 arg15 e m (1 - (i 0).val % 2) (npar_lt _)) ∗ waited c ∗ (∃ g, arg5.view.loc (c : Thread nD τ) ↦[arg5.view.set]{fullShare} g) ∗ (∃ g, arg8.view.loc (c : Thread nD τ) ↦[arg8.view.set]{fullShare} g) ∗ (∃ g, arg9.view.loc (c : Thread nD τ) ↦[arg9.view.set]{fullShare} g)))) ?_ ?_
  · iintro ⟨H2, Ha, Ht, H5, H8, H1, Hb, HO, Hn, H6, H7, H9⟩
    isplitl [H6]; · iexact H6
    isplitl [H7]; · iexact H7
    isplitl [H1 H2]
    · isplitl [H1]; · iexact H1
      iexact H2
    isplitl [Ha Hb Ht]
    · iapply (show iprop(winFree c arg10 arg13 arg3 ((i 0).val % 2) e ((i 0).val % 2) (par_lt _) ∗ winFree c arg11 arg14 arg3 (2 + ((i 0).val % 2)) e ((i 0).val % 2) (par_lt _) ∗ txtFree c arg12 arg15 arg4 (32 * ((i 0).val % 2)) m ((i 0).val % 2) (par_lt _)) ⊢ free c arg3 arg4 arg10 arg11 arg12 arg13 arg14 arg15 e m ((i 0).val % 2) (par_lt _) from Entails.rfl)
      isplitl [Ha]; · iexact Ha
      isplitl [Hb]; · iexact Hb
      iexact Ht
    isplitl [Hn]; · iexact Hn
    isplitl [HO]; · iexact HO
    isplitl [H5]; · iexact H5
    isplitl [H8]; · iexact H8
    iexact H9
  rw [wp_bind]
  refine part7 c i arg1 harg1 arg2 harg2 arg3 harg3 arg4 harg4 arg5 harg5 arg6 harg6 arg7 harg7 arg8 harg8 arg9 harg9 arg10 harg10 arg11 harg11 arg12 harg12 arg13 arg14 arg15 _ _ _ _ ?_
  rintro ⟨v166, v176, v177, v178, v180, c32⟩
  simp only [wp_bind, Prog.lift]
  iintro ⟨H6, H7, HT, Hf, Hn, HO, H5, H8, ⟨%g9, H9⟩⟩
  iapply (any_load c (M := arg9) (g := g9) (View.set_slice_subset _ _)) $$ H9
  iintro %y9 H9
  rw [wp_ret]
  imodintro
  iapply (any_load c (M := arg9) (g := g9) (View.set_slice_subset _ _)) $$ H9
  iintro %z9 H9
  rw [wp_ret]
  imodintro
  iapply (any_store c (M := arg9) (g := g9) (View.set_slice_subset _ _)) $$ H9
  iintro H9
  rw [wp_ret]
  imodintro
  rw [wp_pure]
  imodintro
  isplitl [HT]; · iexact HT
  isplitl [Hf]; · iexact Hf
  isplitl [Hn]; · iexact Hn
  isplitl [HO]; · iexact HO
  isplitl [H5]; · iexact H5
  isplitl [H6]; · iexact H6
  isplitl [H7]; · iexact H7
  isplitl [H8]; · iexact H8
  iexact H9

end Body

end Cert.AsmRun
-- ==== Proof.AsmRun.lean ====
/-
Proof/AsmRun.lean — the assembly's pipeline from launch to return: what holds between two grid points, the body's
triple at every one, and the run.
-/
module

public import proofs.«01_k».proof.Proof.AsmShares
public import proofs.«01_k».proof.Proof.AsmBody
public import proofs.«01_k».proof.Proof.Gen.AsmIdeal.Launch
public import Idealize.ShloMosaic.Lib.Pipeline.Frame
public import Idealize.ShloMosaic.Lib.Pipeline.FrameBody

@[expose] public section

noncomputable section

namespace Cert.AsmRun

open Idealize.ShloMosaic Idealize.ShloMosaic.TcCoe Idealize.ShloMosaic.Tactic Cert.AsmIdeal Cert.AsmIdeal.Gen Cert.AsmPlan
open Idealize.SL
open Idealize.SL.BI (sProp bigSep)
open scoped Idealize.SL.BI
open Idealize.SL.BI.BIBase Idealize.SL.BI.Laws Idealize.SL.Sem Idealize.SL.ProofMode
open Idealize.SL.RA

variable {F : FTy → Type} [FloatOps F] [Named F]

local notation "𝕄" => MT nD τ sig Unit (Elt F) ℕ (Pipeline.UD sig nD τ) ℕ

section Run
variable (m : (ℓ : Loc nD τ sig) → Buf (Elt F) ℓ) (c : Dev nD)

/-- A buffer's contents at launch. -/
abbrev V (c : Dev nD) (b : Ref sig .tc) : Buf (Elt F) ((c.tc : Thread nD τ).loc b) := m ((c.tc : Thread nD τ).loc b)

/-- The tables, at a half share. -/
abbrev tabs0 : sProp 𝕄 :=
  tabs c (Memref.whole main_arg0) (Memref.whole main_arg1) (V m c main_arg0) (V m c main_arg1) fullShare.right fullShare.right
/-- Half `p` of the scratch buffers with no copy under way, and with frame `t`'s. -/
abbrev free0 (p : ℕ) (hp : p < 2) : sProp 𝕄 :=
  free c (Memref.whole main_arg2) (Memref.whole main_arg3) (Memref.whole cc0_scratch0) (Memref.whole cc0_scratch1) (Memref.whole cc0_scratch2)
    cc0_scratch3 cc0_scratch4 cc0_scratch5 (V m c main_arg2) (V m c main_arg3) p hp
abbrev fly0 (p : ℕ) (hp : p < 2) (t : ℕ) : sProp 𝕄 :=
  fly c (Memref.whole main_arg0) (Memref.whole main_arg1) (Memref.whole main_arg2) (Memref.whole main_arg3) (Memref.whole cc0_scratch0)
    (Memref.whole cc0_scratch1) (Memref.whole cc0_scratch2) cc0_scratch3 cc0_scratch4 cc0_scratch5 (V m c main_arg0) (V m c main_arg1)
    (V m c main_arg2) (V m c main_arg3) p hp t

/-- The half of frame `k` before grid point `k`. -/
def turn (k : ℕ) : sProp 𝕄 := if 0 < k ∧ k < 384 then fly0 m c (k % 2) (par_lt k) k else free0 m c (k % 2) (par_lt k)

/-- What no grid point touches. -/
def still : sProp 𝕄 :=
  iprop((∃ r, prngReg c r) ∗ arraysRest c (Memref.whole main_arg2) (Memref.whole main_arg3) (V m c main_arg2) (V m c main_arg3))

/-- What holds before grid point `k`. -/
def inv (k : ℕ) : sProp 𝕄 :=
  iprop((tabs0 m c ∗ turn m c k ∗ free0 m c (1 - k % 2) (npar_lt k)) ∗ still m c)

theorem free0_congr {p p' : ℕ} (h : p = p') (hp : p < 2) (hp' : p' < 2) : free0 m c p hp = free0 m c p' hp' := by
  subst h; rfl
theorem fly0_congr {p p' : ℕ} (h : p = p') (hp : p < 2) (hp' : p' < 2) (t : ℕ) : fly0 m c p hp t = fly0 m c p' hp' t := by
  subst h; rfl

theorem turn_now (k : ℕ) (hk : k < 384) :
    turn m c k = if k = 0 then free0 m c (k % 2) (par_lt k) else fly0 m c (k % 2) (par_lt k) k := by
  unfold turn
  by_cases h : k = 0
  · rw [if_neg (by omega), if_pos h]
  · rw [if_pos (by omega), if_neg h]

theorem turn_next (k : ℕ) (hk : k < 384) :
    turn m c (k + 1) = if k + 1 < 384 then fly0 m c (1 - k % 2) (npar_lt k) (k + 1) else free0 m c (1 - k % 2) (npar_lt k) := by
  unfold turn
  have e : (k + 1) % 2 = 1 - k % 2 := by omega
  by_cases h : k + 1 < 384
  · rw [if_pos (by omega), if_pos h, fly0_congr m c e]
  · rw [if_neg (by omega), if_neg h, free0_congr m c e]

/-- A window's buffer, holding something. -/
abbrev bufAny {sp : Space} {s : Shape} {e : EltTy} (a : Memref sig .tc sp s e) : sProp 𝕄 :=
  iprop(∃ g, a.view.loc (c : Thread nD τ) ↦[a.view.set]{fullShare} g)

/-- One grid point carries the invariant on. -/
theorem step (hk : ∀ t, t < 384 → ToksOk c (Memref.whole main_arg0) (Memref.whole main_arg1) (V m c main_arg0) (V m c main_arg1) t)
    (i : grid0.Coords)
    (arg5 : Memref sig .tc .vmem S1x1x32 .f32) (harg5 : arg5.IsWhole) (arg6 : Memref sig .tc .vmem S1x5120 .f32) (harg6 : arg6.IsWhole)
    (arg7 : Memref sig .tc .vmem S32x5120 .fp8e4m3) (harg7 : arg7.IsWhole) (arg8 : Memref sig .tc .vmem S32x5120 .bf16) (harg8 : arg8.IsWhole)
    (arg9 : Memref sig .tc .vmem S96x128 .f32) (harg9 : arg9.IsWhole) :
    iprop(inv m c (i 0).val ∗ waited c ∗ bufAny c arg5 ∗ bufAny c arg6 ∗ bufAny c arg7 ∗ bufAny c arg8 ∗ bufAny c arg9)
      ⊢ wp frame (wpE (defs₀ (F := F)) Variants.none (c : Thread nD τ) none) Set.univ
          (cc0_assemble (F := F) i (Memref.whole main_arg0) (Memref.isWhole_whole _) (Memref.whole main_arg1) (Memref.isWhole_whole _)
            (Memref.whole main_arg2) (Memref.isWhole_whole _) (Memref.whole main_arg3) (Memref.isWhole_whole _) arg5 harg5 arg6 harg6 arg7 harg7
            arg8 harg8 arg9 harg9 (Memref.whole cc0_scratch0) (Memref.isWhole_whole _) (Memref.whole cc0_scratch1) (Memref.isWhole_whole _)
            (Memref.whole cc0_scratch2) (Memref.isWhole_whole _) cc0_scratch3 cc0_scratch4 cc0_scratch5)
          (fun _ => iprop(inv m c ((i 0).val + 1) ∗ waited c ∗ bufAny c arg5 ∗ bufAny c arg6 ∗ bufAny c arg7 ∗ bufAny c arg8 ∗ bufAny c arg9)) := by
  have hi : (i 0).val < 384 := (i 0).isLt
  have e : 1 - ((i 0).val + 1) % 2 = (i 0).val % 2 := by omega
  refine Entails.trans ?_ (((sep_mono_left (body_wp c i (Memref.whole main_arg0) (Memref.isWhole_whole _) (Memref.whole main_arg1) (Memref.isWhole_whole _)
    (Memref.whole main_arg2) (Memref.isWhole_whole _) (Memref.whole main_arg3) (Memref.isWhole_whole _) arg5 harg5 arg6 harg6 arg7 harg7
    arg8 harg8 arg9 harg9 (Memref.whole cc0_scratch0) (Memref.isWhole_whole _) (Memref.whole cc0_scratch1) (Memref.isWhole_whole _)
    (Memref.whole cc0_scratch2) (Memref.isWhole_whole _) cc0_scratch3 cc0_scratch4 cc0_scratch5 (V m c main_arg0) (V m c main_arg1)
    (V m c main_arg2) (V m c main_arg3) fullShare.right fullShare.right hk)).trans (wp_frame_r _ _ _ (R := still m c))).trans (wp_mono _ _ _ fun _ => ?_))
  · unfold inv
    rw [turn_now m c _ hi]
    iintro ⟨⟨⟨HT, Hf, Hn⟩, HS⟩, HO, HB⟩
    isplitr [HS]
    · isplitl [HT]; · iexact HT
      isplitl [Hf]; · iexact Hf
      isplitl [Hn]; · iexact Hn
      isplitl [HO]; · iexact HO
      iexact HB
    iexact HS
  · unfold inv
    rw [turn_next m c _ hi, free0_congr m c e (npar_lt _) (par_lt _)]
    iintro ⟨⟨HT, Hf, Hn, HO, HB⟩, HS⟩
    isplitr [HO HB]
    · isplitr [HS]
      · isplitl [HT]; · iexact HT
        isplitl [Hn]; · iexact Hn
        iexact Hf
      iexact HS
    isplitl [HO]; · iexact HO
    iexact HB

/-! ## The proof data -/

/-- The tables' contents. -/
def tbl : pre0.Contents (Elt F) := fun j => V m (0 : Dev nD) (pre0.ref j)
/-- They meet the side condition, which asks nothing. -/
def adm : (pcfg0 (F := F)).Adm := ⟨tbl m, trivial⟩

/-- The pipeline's proof data: every window forgotten. -/
def dats (_ : Fin 1) (c : Dev nD) : Pipeline.Dat τ (Elt F) Unit ℕ (Pipeline.UD sig nD τ) ℕ (cfg0 (adm m)) c where
  A w := V m c (Pipeline.arrRef spec0 w)
  after := Pipeline.Dat.unnamed
  Φ t := inv m c t.val
  q _ := fullShare
  owed _ := 0

/-- The copies' six cells. -/
def osem : Fin 6 → SemLoc sig := fun k => .dma (⟨8 + k.val, by have := k.isLt; show 8 + k.val < 14; omega⟩ : Fin 14)
theorem ownSemFacts : Pipeline.OwnSemFacts spec0 osem := by decide
/-- The arrays the copies read. -/
def H : Finset (Ref sig .tc) := {main_arg2, main_arg3}
theorem H_sub : H ⊆ Pipeline.restRefsP sig pre0 spec0 := by decide

theorem owns_any {sp : Space} {s : Shape} {e : EltTy} (a : Memref sig .tc sp s e) :
    (iprop(∃ X, owns (c : Thread nD τ) a fullShare X) : sProp 𝕄) ⊢ bufAny c a := by
  unfold owns
  iintro ⟨%X, %f, -, H⟩; iexists f; iexact H
theorem any_owns {sp : Space} {s : Shape} {e : EltTy} (a : Memref sig .tc sp s e) :
    bufAny c a ⊢ (iprop(∃ X, owns (c : Thread nD τ) a fullShare X) : sProp 𝕄) := by
  unfold owns
  iintro ⟨%f, H⟩; iexists (a.view.read (Elt F) f); iexists f
  isplitr
  · ipureintro; rfl
  iexact H

theorem coords_eq (t : Fin grid0.N) : (grid0.coords t 0).val = t.val := by
  have h : t.val < 384 := N_0 ▸ t.isLt
  rw [Pipeline.Grid.coords_val t 0 (S := 1) (B := 384) (by decide) rfl]
  omega

theorem tabs0_of : Pipeline.ΦT pre0 (tbl m) c ⊢ tabs0 m c := by
  obtain rfl : c = 0 := Subsingleton.elim _ _
  unfold Pipeline.ΦT Pipeline.prefHeld
  rw [show (Finset.univ : Finset (Fin 2)) = insert 0 {1} from by decide, BI.bigSep_insert (by decide), BI.bigSep_singleton]
  simp only [tabs0, tabs, Memref.view_whole, View.set_whole]
  exact Entails.rfl

theorem cells_eq :
    (Pipeline.ownSems0 (Ix := Unit) (Name := ℕ) (U := Pipeline.UD sig nD τ) (Lvl := ℕ) (Val := Elt F) (τ := τ) osem c : sProp 𝕄)
      = cells0 c cc0_scratch3 cc0_scratch4 cc0_scratch5 := by
  rw [Pipeline.ownSems0_eq_of_list c osem [0, 1, 2, 3, 4, 5] (by decide) (by decide)]
  unfold cells0
  rw [show cell cc0_scratch3 0 (by decide) = (⟨8, by decide⟩ : Fin 14) from by decide, show cell cc0_scratch3 1 (by decide) = (⟨9, by decide⟩ : Fin 14) from by decide,
    show cell cc0_scratch4 0 (by decide) = (⟨10, by decide⟩ : Fin 14) from by decide, show cell cc0_scratch4 1 (by decide) = (⟨11, by decide⟩ : Fin 14) from by decide,
    show cell cc0_scratch5 0 (by decide) = (⟨12, by decide⟩ : Fin 14) from by decide, show cell cc0_scratch5 1 (by decide) = (⟨13, by decide⟩ : Fin 14) from by decide]
  rfl

/-- From the launch to the first grid point. -/
theorem inv_start : iprop(Pipeline.ΦD osem spec0 H (V m) c ∗ Pipeline.ΦT pre0 (tbl m) c) ⊢ inv m c 0 := by
  rw [Pipeline.ΦD_eq, scopedRest0_eq c, cells_eq c]
  rw [show H = insert main_arg2 {main_arg3} from rfl, BI.bigSep_insert (by decide), BI.bigSep_singleton]
  unfold inv still turn
  rw [if_neg (by decide)]
  iintro ⟨⟨HS, HP, HC, HR⟩, HT⟩
  ihave HT := tabs0_of m c $$ HT
  ihave HH := halves_cut c (Memref.whole cc0_scratch0) (Memref.whole cc0_scratch1) (Memref.whole cc0_scratch2) cc0_scratch3 cc0_scratch4 cc0_scratch5
    (Memref.whole main_arg2) (Memref.whole main_arg3) (V m c main_arg2) (V m c main_arg3) $$ [HS HC HR]
  · unfold scratchAny arrays
    simp only [Memref.view_whole, View.set_whole]
    isplitl [HS]; · iexact HS
    isplitl [HC]; · iexact HC
    iexact HR
  icases HH with ⟨H0, H1, HR⟩
  isplitr [HP HR]
  · isplitl [HT]; · iexact HT
    isplitl [H0]; · iexact H0
    iexact H1
  isplitl [HP]; · iexact HP
  iexact HR

/-- From the last grid point to the return. -/
theorem inv_end : inv m c 384 ⊢ Pipeline.ΦD osem spec0 H (V m) c := by
  rw [Pipeline.ΦD_eq, scopedRest0_eq c, cells_eq c]
  rw [show H = insert main_arg2 {main_arg3} from rfl, BI.bigSep_insert (by decide), BI.bigSep_singleton]
  unfold inv still turn
  rw [if_neg (by decide)]
  iintro ⟨⟨-, H0, H1⟩, HP, HR⟩
  ihave HH := halves_join c (Memref.whole cc0_scratch0) (Memref.whole cc0_scratch1) (Memref.whole cc0_scratch2) cc0_scratch3 cc0_scratch4 cc0_scratch5
    (Memref.whole main_arg2) (Memref.whole main_arg3) (V m c main_arg2) (V m c main_arg3) $$ [H0 H1 HR]
  · isplitl [H0]; · iexact H0
    isplitl [H1]; · iexact H1
    iexact HR
  unfold scratchAny arrays
  simp only [Memref.view_whole, View.set_whole]
  icases HH with ⟨HS, HC, HR⟩
  isplitl [HS]; · iexact HS
  isplitl [HP]; · iexact HP
  isplitl [HC]; · iexact HC
  iexact HR

/-! ## The launch -/

variable (hk : ∀ (c : Dev nD) t, t < 384 → ToksOk c (Memref.whole main_arg0) (Memref.whole main_arg1) (V m c main_arg0) (V m c main_arg1) t)

theorem defs₀_row (t : Fin (cfg0 (adm m)).N) :
    defs₀ (F := F) .tc (cfg0 (adm m)).body ((cfg0 (adm m)).bodyArgs t ((cfg0 (adm m)).slots t))
      = cc0_assemble (F := F) (grid0.coords t) (Memref.whole main_arg0) (Memref.isWhole_whole _) (Memref.whole main_arg1) (Memref.isWhole_whole _)
          (Memref.whole main_arg2) (Memref.isWhole_whole _) (Memref.whole main_arg3) (Memref.isWhole_whole _)
          (spec0_0.stage ((cfg0 (adm m)).slots t 0)) (hstage0_0 (((cfg0 (adm m)).slots t 0).cast nbuf0_0))
          (spec0_1.stage ((cfg0 (adm m)).slots t 1)) (hstage0_1 (((cfg0 (adm m)).slots t 1).cast nbuf0_1))
          (spec0_2.stage ((cfg0 (adm m)).slots t 2)) (hstage0_2 (((cfg0 (adm m)).slots t 2).cast nbuf0_2))
          (spec0_3.stage ((cfg0 (adm m)).slots t 3)) (hstage0_3 (((cfg0 (adm m)).slots t 3).cast nbuf0_3))
          (spec0_4.stage ((cfg0 (adm m)).slots t 4)) (hstage0_4 (((cfg0 (adm m)).slots t 4).cast nbuf0_4))
          (Memref.whole cc0_scratch0) (Memref.isWhole_whole _) (Memref.whole cc0_scratch1) (Memref.isWhole_whole _)
          (Memref.whole cc0_scratch2) (Memref.isWhole_whole _) cc0_scratch3 cc0_scratch4 cc0_scratch5 := by
  unfold defs₀; rw [Defs.onTc_tc]

set_option maxHeartbeats 2000000 in
set_option backward.isDefEq.respectTransparency.types false in
include hk in
/-- The library's body obligation, every window forgotten. -/
theorem body_obligation : Pipeline.BodyObligationLoose (dats m 0 c) (defs₀ (F := F)) Variants.none () Set.univ (fun _ => true) := fun t => by
  rw [bigSep_W0]
  have e : (grid0.coords t 0).val = t.val := coords_eq t
  have h := step m c (hk c) (grid0.coords t) (spec0_0.stage ((cfg0 (adm m)).slots t 0)) (hstage0_0 (((cfg0 (adm m)).slots t 0).cast nbuf0_0))
    (spec0_1.stage ((cfg0 (adm m)).slots t 1)) (hstage0_1 (((cfg0 (adm m)).slots t 1).cast nbuf0_1))
    (spec0_2.stage ((cfg0 (adm m)).slots t 2)) (hstage0_2 (((cfg0 (adm m)).slots t 2).cast nbuf0_2))
    (spec0_3.stage ((cfg0 (adm m)).slots t 3)) (hstage0_3 (((cfg0 (adm m)).slots t 3).cast nbuf0_3))
    (spec0_4.stage ((cfg0 (adm m)).slots t 4)) (hstage0_4 (((cfg0 (adm m)).slots t 4).cast nbuf0_4))
  rw [e] at h
  refine triple_restated h (congrArg (wp frame (wpE (defs₀ (F := F)) Variants.none (c : Thread nD τ) none) Set.univ) (defs₀_row m t).symm) ?_ fun _ => ?_
  · show iprop(inv m c t.val ∗ (∃ W, ⌜↑W ⊆ (dats m 0 c).bound () t.castSucc⌝ ∗ owes (c : Thread nD τ) 0 W) ∗ (∃ X, owns (c : Thread nD τ) (spec0_0.stage ((cfg0 (adm m)).slots t 0)) fullShare X)
      ∗ (∃ X, owns (c : Thread nD τ) (spec0_1.stage ((cfg0 (adm m)).slots t 1)) fullShare X) ∗ (∃ X, owns (c : Thread nD τ) (spec0_2.stage ((cfg0 (adm m)).slots t 2)) fullShare X)
      ∗ (∃ X, owns (c : Thread nD τ) (spec0_3.stage ((cfg0 (adm m)).slots t 3)) fullShare X) ∗ (∃ X, owns (c : Thread nD τ) (spec0_4.stage ((cfg0 (adm m)).slots t 4)) fullShare X)) ⊢ _
    iintro ⟨HI, ⟨%W, -, HO⟩, H0, H1, H2, H3, H4⟩
    isplitl [HI]; · iexact HI
    isplitl [HO]; · iexists W; iexact HO
    isplitl [H0]; · iapply (owns_any c _) $$ H0
    isplitl [H1]; · iapply (owns_any c _) $$ H1
    isplitl [H2]; · iapply (owns_any c _) $$ H2
    isplitl [H3]; · iapply (owns_any c _) $$ H3
    iapply (owns_any c _) $$ H4
  · show _ ⊢ iprop(inv m c (t.val + 1) ∗ (∃ W, ⌜↑W ⊆ (dats m 0 c).bound () t.succ⌝ ∗ owes (c : Thread nD τ) 0 W) ∗ (∃ X, owns (c : Thread nD τ) (spec0_0.stage ((cfg0 (adm m)).slots t 0)) fullShare X)
      ∗ (∃ X, owns (c : Thread nD τ) (spec0_1.stage ((cfg0 (adm m)).slots t 1)) fullShare X) ∗ (∃ X, owns (c : Thread nD τ) (spec0_2.stage ((cfg0 (adm m)).slots t 2)) fullShare X)
      ∗ (∃ X, owns (c : Thread nD τ) (spec0_3.stage ((cfg0 (adm m)).slots t 3)) fullShare X) ∗ (∃ X, owns (c : Thread nD τ) (spec0_4.stage ((cfg0 (adm m)).slots t 4)) fullShare X))
    iintro ⟨HI, ⟨%W, HO⟩, H0, H1, H2, H3, H4⟩
    isplitl [HI]; · iexact HI
    isplitl [HO]
    · iexists W
      isplitr
      · ipureintro; exact fun _ _ => Or.inl trivial
      iexact HO
    isplitl [H0]; · iapply (any_owns c _) $$ H0
    isplitl [H1]; · iapply (any_owns c _) $$ H1
    isplitl [H2]; · iapply (any_owns c _) $$ H2
    isplitl [H3]; · iapply (any_owns c _) $$ H3
    iapply (any_owns c _) $$ H4

/-- An input window's array ends as it was. -/
theorem arr_in (w : Fin 5) (hw : (spec0 w).isOut = false) (f : Buf (Elt F) ((spec0 w).arr.view.loc (c : Thread nD τ)))
    (h : ((dats m 0 c).toRForget fun _ => true).ArrAt w (cfg0 (adm m)).N f) : f = V m c (Pipeline.arrRef spec0 w) := by
  exact (congrFun (Pipeline.RDat.ArrAt_in (cfg := cfg0 (adm m)) ((dats m 0 c).toRForget fun _ => true) w hw (cfg0 (adm m)).N) f).mp h

variable (ρ : Dev nD → PrngReg)

set_option maxHeartbeats 2000000 in
set_option backward.isDefEq.respectTransparency.types false in
include hk in
/-- Every run of the assembly ends, with the six arrays it is given as they were and no semaphore raised. -/
theorem run : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  Pipeline.θ_run_frameP_dma_forget pcfgs (fun _ => adm m) (dats m) (0 : Fin 1) launch0 osem defs₀ Variants.none (fun _ => true) ownSemFacts H H_sub m ρ main
    (fun c => body_obligation m c hk) (fun c => (dats m 0 c).share_full fun _ => rfl) (fun _ _ => rfl) (V m)
    (Pipeline.hmainP_region _ _ _ _ _ _ fun c => rfl) (fun _ _ => rfl)
    (fun c k => by obtain rfl : c = 0 := Subsingleton.elim _ _; rfl)
    (fun c => inv_start m c) (fun c => inv_end m c) _
    fun r ⟨h, hs⟩ => ⟨fun c => ⟨(h c).2 _ (Pipeline.mem_restRefs_of main_arg0 (by decide) (show ∀ w, (spec0 w).arr.view.ref ≠ main_arg0 from by decide)),
      (h c).2 _ (Pipeline.mem_restRefs_of main_arg1 (by decide) (show ∀ w, (spec0 w).arr.view.ref ≠ main_arg1 from by decide)), (h c).2 _ (Pipeline.mem_restRefs_of main_arg2 (by decide) (show ∀ w, (spec0 w).arr.view.ref ≠ main_arg2 from by decide)),
      (h c).2 _ (Pipeline.mem_restRefs_of main_arg3 (by decide) (show ∀ w, (spec0 w).arr.view.ref ≠ main_arg3 from by decide)),
      arr_in m c 0 rfl _ ((h c).1 (0 : Fin 5)), arr_in m c 1 rfl _ ((h c).1 (1 : Fin 5))⟩, hs⟩

end Run

end Cert.AsmRun

end
-- ==== Proof.AsmWords.lean ====
/-
Proof/AsmWords.lean — the program before its constant is named is, on words, the program after it, the name read as the
word it stands for.
-/
module

public import proofs.«01_k».proof.Proof.Gen.AsmIdeal
public import proofs.«01_k».proof.Proof.Gen.Asm
public import Idealize.ShloMosaic.PureOps.BitExact

@[expose] public section

noncomputable section

namespace Cert.AsmWords

open Idealize.ShloMosaic Idealize.ShloMosaic.TcCoe

/-- A named constant read as its word. -/
@[reducible] def words : Named Bits := ⟨fun _ _ {φ} b => Scalar.ofBits φ b⟩

set_option maxHeartbeats 40000000 in
theorem main_eq : Cert.Asm.main (F := Bits) = (letI := words; Cert.AsmIdeal.main (F := Bits)) := rfl

set_option maxHeartbeats 40000000 in
theorem defs₀_eq : Cert.Asm.defs₀ (F := Bits) = (letI := words; Cert.AsmIdeal.defs₀ (F := Bits)) := by
  letI := words
  unfold Cert.Asm.defs₀ Cert.AsmIdeal.defs₀
  refine congrArg _ (funext fun l => funext fun x => ?_)
  match l, x with
  | 0, (t, s) => rfl
  | ⟨n + 1, h⟩, _ => exact absurd h (Nat.not_lt.2 (Nat.le_add_left _ _))

set_option maxHeartbeats 40000000 in
theorem defs_eq : Cert.Asm.defs (F := Bits) = (letI := words; Cert.AsmIdeal.defs (F := Bits)) := by
  letI := words
  unfold Cert.Asm.defs Cert.AsmIdeal.defs
  rw [defs₀_eq]
  rfl

end Cert.AsmWords

end
-- ==== Proof.AsmFrames.lean ====
/-
  The assembly's two frames: over the extended reals, and on words, where the program before its constant is
  named is the one after it with the name read as its word.
-/
module

public import proofs.«01_k».proof.Defs
public import proofs.«01_k».proof.Proof.AsmPre
public import proofs.«01_k».proof.Proof.AsmRun
public import proofs.«01_k».proof.Proof.AsmWords

@[expose] public section

noncomputable section

namespace Cert.AsmFrames

open Idealize.ShloMosaic Idealize.ShloMosaic.TcCoe Idealize.SL.Sem

theorem ideal : Cert.quiescent_AsmIdeal (hAsmIdeal := Cert.AsmIdeal.Gen.facts) (hPre_text_tokens_in_table := Cert.Pre_text_tokens_in_table.Gen.facts) :=
  fun m ρ h => AsmRun.run (F := Ideal) m (fun c t ht => AsmRun.toks_ok c _ _ _ _ _ _ (h c) t ht) ρ

theorem bits : Cert.quiescent_Asm (hAsm := Cert.Asm.Gen.facts) (hPre_text_tokens_in_table := Cert.Pre_text_tokens_in_table.Gen.facts) := by
  intro m ρ h
  letI := AsmWords.words
  rw [AsmWords.main_eq, AsmWords.defs_eq]
  exact AsmRun.run (F := Bits) m (fun c t ht => AsmRun.toks_ok c _ _ _ _ _ _ (h c) t ht) ρ

end Cert.AsmFrames

end
-- ==== Proof.VisRun.lean ====
/- Hand-written: WHAT THE RUN OF THE KERNEL LEAVES IN ITS RESULT. The generated frame shows every unscoped buffer at the
   last boundary's contents; here the same run is read at the result buffer as well as at the arguments. -/
module

public import proofs.«01_k».proof.Proof.Gen.VisIdeal.Frame

@[expose] public section

set_option maxRecDepth 16384

noncomputable section

namespace Cert.Awq.Kernel

open Cert.VisIdeal Cert.VisIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- the run theorem's implicit arguments are found by unifying its conclusion with this one
set_option backward.isDefEq.respectTransparency.types false in
/-- Every run ends with the result array as the second product's write-backs leave it, the arguments as launched and every
    counter at zero. -/
theorem run : θ_run defs (onTc (τ := τ) (main (F := F))) ⟨m, fun _ => 0, ρ⟩ (fun r => (∀ c : Dev nD,
      r.2.mem ((c.tc : Thread nD τ).loc main_v9) = (dat4 (V9 m ρ) c).arrAt 3 cfg4.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz => ⟨(fun c =>
      ⟨(h c _ (mem_uc main_v9 (by decide))).trans (W10_arr m ρ c 3),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c)⟩), funext fun g => hz g (.inr (no_unscoped g.2))⟩)

end Cert.Awq.Kernel

end
-- ==== Proof.Spec.lean ====
/- Hand-written: THE PROJECTOR IN MATHEMATICS, over extended reals and 32-bit words, with no program in sight. A packed
   weight word holds eight 4-bit numbers (`nib`); a weight is its number less its group's zero point, times its group's
   scale (`deq`); a linear layer is a product with the weights and a bias (`lin`); between the two layers stands the
   exact GELU (`gelu`). -/
module

public import Idealize.ShloMosaic.Lib.Pointwise
public import Idealize.ShloMosaic.PureOps.Ideal
public import Idealize.ShloMosaic.PureOps.Ideal.Laws

@[expose] public section

noncomputable section

namespace Cert.Awq

open Idealize.ShloMosaic

/-- An array of extended reals with two axes. -/
abbrev Mat (a b : ℕ) : Type := (⟨2, ![a, b]⟩ : Shape).Idx → EReal
/-- An array of packed words with two axes. -/
abbrev Words (a b : ℕ) : Type := (⟨2, ![a, b]⟩ : Shape).Idx → BitVec 32

/-- How far the 4-bit number of column `c` (of the eight that one word holds) stands from the word's low end. The packing
    interleaves the columns: 0, 2, 4, 6 stand in the low half, 1, 3, 5, 7 in the high half. -/
def shift (c : ℕ) : ℕ := 4 * (c / 2 + 4 * (c % 2))

/-- The 4-bit number of column `c` of a packed word. -/
def nib (w : BitVec 32) (c : ℕ) : EReal := ((((w >>> shift c) &&& 15#32).toInt : ℝ) : EReal)

/-- The weights, from the packed numbers `q` (eight columns to a word), the packed zero points `z` and the scales `s`, one
    of each to a group of 128 rows and a column. -/
def deq {K G : ℕ} (h : K = 128 * G) (q : Words K 640) (s : Mat G 5120) (z : Words G 640) : Mat K 5120 := fun i =>
  (nib (q (ix2 (i 0) ⟨(i 1).val / 8, by have := (i 1).isLt; change _ < 5120 at this; omega⟩)) ((i 1).val % 8)
    - nib (z (ix2 ⟨(i 0).val / 128, by have := (i 0).isLt; change _ < K at this; omega⟩
        ⟨(i 1).val / 8, by have := (i 1).isLt; change _ < 5120 at this; omega⟩)) ((i 1).val % 8))
    * s (ix2 ⟨(i 0).val / 128, by have := (i 0).isLt; change _ < K at this; omega⟩ (i 1))

/-- A linear layer: the rows of `a` against the columns of `w`, plus the bias. -/
def lin {M K N : ℕ} (a : Mat M K) (w : Mat K N) (b : Fin N → EReal) : Mat M N := fun i =>
  (∑ k : Fin K, a (ix2 (i 0) k) * w (ix2 k (i 1))) + b (i 1)

/-- The exact GELU, the half and the reciprocal of the square root of two as binary32 holds them. -/
def gelu (h : EReal) : EReal :=
  (Ideal.ofBits .f32 0x3F000000#32 * h) * (1 + Ideal.erf (h * Ideal.ofBits .f32 0x3F3504F3#32))

/-- The same through the complementary error function. -/
theorem gelu_erfc (h : EReal) :
    (Ideal.ofBits .f32 0x3F000000#32 * h) * Ideal.erfc (-h * Ideal.ofBits .f32 0x3F3504F3#32) = gelu h := by
  unfold gelu
  rw [neg_mul, Ideal.erfc_neg]

/-! ## The layer norm and the rows it is taken over -/

/-- The mean over the 12800 entries of a row. -/
def mean (f : Fin 12800 → EReal) : EReal := (∑ k, f k) * ((1 / 12800 : ℝ) : EReal)

/-- The layer norm of a row with gains `g` and offsets `b`; the 1e-5 under the root is the binary32 number. -/
def layerNorm (f g b : Fin 12800 → EReal) (k : Fin 12800) : EReal :=
  (f k - mean f) * Ideal.rsqrt (mean (fun j => (f j - mean f) * (f j - mean f)) + Ideal.ofBits .f32 0x3727C5AC#32) * g k + b k

/-- Row `r` of the pixel shuffle of `x` (42 tiles, at least 1025 tokens of which the first is dropped, 3200 channels): the
    2 × 2 patch at `(i, j)` of tile `n`, where `r = 256 n + 16 i + j`; its four tokens' channels one after another. -/
def patch {R : ℕ} (hR : 1025 ≤ R) (x : (⟨3, ![42, R, 3200]⟩ : Shape).Idx → EReal) (r : Fin 10752) (k : Fin 12800) : EReal :=
  x (ix3 ⟨r.val / 256, by omega⟩ ⟨1 + 64 * (r.val / 16 % 16) + 32 * (k.val / 6400) + 2 * (r.val % 16) + k.val / 3200 % 2, by omega⟩
    ⟨k.val % 3200, by omega⟩)

/-- A row's sum is the sum over its four tokens of the sums over the channels. -/
theorem sum_tokens (f : Fin 12800 → EReal) : ∑ k, f k = (∑ c : Fin 3200, f ⟨c.val, by omega⟩) + (∑ c : Fin 3200, f ⟨3200 + c.val, by omega⟩)
    + (∑ c : Fin 3200, f ⟨6400 + c.val, by omega⟩) + ∑ c : Fin 3200, f ⟨9600 + c.val, by omega⟩ := by
  rw [Fin.sum_univ_two_halves 6400 6400 rfl f, Fin.sum_univ_two_halves 3200 3200 rfl, Fin.sum_univ_two_halves 3200 3200 rfl, ← add_assoc]
  refine congrArg₂ (· + ·) (congrArg₂ (· + ·) rfl ?_) ?_ <;>
  · refine Finset.sum_congr rfl fun c _ => congrArg f (Fin.ext ?_)
    simp only [] <;> omega

/-! ## The connector -/

/-- The projected vision rows: layer norm over the shuffled rows, the first AWQ linear layer and its GELU, the second. -/
def vis (x : (⟨3, ![42, 1025, 3200]⟩ : Shape).Idx → EReal) (g b : Fin 12800 → EReal)
    (q1 : Words 12800 640) (s1 : Mat 100 5120) (z1 : Words 100 640) (b1 : Fin 5120 → EReal)
    (q2 : Words 5120 640) (s2 : Mat 40 5120) (z2 : Words 40 640) (b2 : Fin 5120 → EReal) : Mat 10752 5120 :=
  lin (M := 10752) (K := 5120) (N := 5120)
    (fun i => gelu (lin (M := 10752) (K := 12800) (N := 5120)
      (fun i => layerNorm (patch le_rfl x (i 0)) g b (i 1)) (deq (K := 12800) (G := 100) rfl q1 s1 z1) b1 i))
    (deq (K := 5120) (G := 40) rfl q2 s2 z2) b2

end Cert.Awq

end
-- ==== Proof.Products.lean ====
/- Hand-written: THE TWO MATRIX PRODUCTS. A grid point of either product multiplies 768 rows of activations by 256 columns
   of weights over the whole contracted axis and adds the bias (`pay2_apply`; the first product applies the GELU as well,
   `pay1_apply`); its block is written to its own place, and the blocks cover the array (`arr1`, `arr2`). -/
module

public import proofs.«01_k».proof.Proof.Gen.VisIdeal.Frame
public import proofs.«01_k».proof.Proof.Spec
public import Idealize.ShloMosaic.Lib.Pipeline.ValueKit
public import Idealize.ShloMosaic.Lib.Pointwise

@[expose] public section

set_option maxRecDepth 16384

noncomputable section

namespace Cert.Awq.Kernel

open Cert.VisIdeal Cert.VisIdeal.Gen
open Idealize.ShloMosaic Idealize.ShloMosaic.TcCoe

/-- The second product's block at an element. -/
theorem pay2_apply (a : Vec Ideal S768x5120 .bf16) (w : Vec Ideal S5120x256 .bf16) (b : Vec Ideal S1x256 .f32)
    (r : Fin 768) (l : Fin 256) :
    k4_pay1 (F := Ideal) a w b (ix2 r l) = (∑ k : Fin 5120, a (ix2 r k) * w (ix2 k l)) + b (ix2 0 l) := by
  pointwise [k4_pay1]

/-- The first product's block at an element. -/
theorem pay1_apply (a : Vec Ideal S768x12800 .bf16) (w : Vec Ideal S12800x256 .bf16) (b : Vec Ideal S1x256 .f32)
    (r : Fin 768) (l : Fin 256) :
    k3_pay1 (F := Ideal) a w b (ix2 r l) = gelu ((∑ k : Fin 12800, a (ix2 r k) * w (ix2 k l)) + b (ix2 0 l)) := by
  pointwise [k3_pay1]
  rfl

variable (V : (c : Dev nD) → (b : Ref sig .tc) → Buf (Elt Ideal) ((c : Thread nD τ).loc b)) (c : Dev nD)

theorem idx4 : ∀ t : Fin cfg4.N, win4_0.index t = ![(grid4.coords t 0).val, 0] ∧ win4_1.index t = ![0, (grid4.coords t 1).val]
    ∧ win4_2.index t = ![0, (grid4.coords t 1).val] ∧ win4_3.index t = ![(grid4.coords t 0).val, (grid4.coords t 1).val] :=
  (by decide +kernel : ∀ t : Fin grid4.N, _)

/-- The array that the second product leaves. -/
theorem arr2 : (dat4 V c).arrAt 3 cfg4.N
    = lin (M := 10752) (K := 5120) (N := 5120) (V c main_v7) (V c main_v1) (fun n => V c main_v8 (ix2 0 n)) := by
  refine (dat4 V c).arrAt_eq_of_covers 3 _ (by decide +kernel) fun t hf y => ?_
  blk_simp
  rw [after4_3]; frame_out
  obtain ⟨r, l, rfl⟩ : ∃ (r : Fin 768) (l : Fin 256), y = ix2 r l := ⟨y 0, y 1, eq_ix2 y⟩
  rw [pay2_apply]
  unfold lin
  refine congrArg₂ (· + ·) (Finset.sum_congr rfl fun k _ => congrArg₂ (· * ·) ?_ ?_) ?_ <;> blk_ext [iblk4, idx4 t]

theorem idx3 : ∀ t : Fin cfg3.N, win3_0.index t = ![(grid3.coords t 0).val, 0] ∧ win3_1.index t = ![0, (grid3.coords t 1).val]
    ∧ win3_2.index t = ![0, (grid3.coords t 1).val] ∧ win3_3.index t = ![(grid3.coords t 0).val, (grid3.coords t 1).val] :=
  (by decide +kernel : ∀ t : Fin grid3.N, _)

/-- The array that the first product leaves. -/
theorem arr1 : (dat3 V c).arrAt 3 cfg3.N
    = fun i => gelu (lin (M := 10752) (K := 12800) (N := 5120) (V c main_v5) (V c main_v0) (fun n => V c main_v6 (ix2 0 n)) i) := by
  refine (dat3 V c).arrAt_eq_of_covers 3 _ (by decide +kernel) fun t hf y => ?_
  blk_simp
  rw [after3_3]; frame_out
  obtain ⟨r, l, rfl⟩ : ∃ (r : Fin 768) (l : Fin 256), y = ix2 r l := ⟨y 0, y 1, eq_ix2 y⟩
  rw [pay1_apply]
  unfold lin
  refine congrArg gelu (congrArg₂ (· + ·) (Finset.sum_congr rfl fun k _ => congrArg₂ (· * ·) ?_ ?_) ?_) <;> blk_ext [iblk3, idx3 t]

end Cert.Awq.Kernel

end
-- ==== Proof.Norm.lean ====
/- Hand-written: THE LAYER NORM'S BLOCKS. A grid point holds 64 consecutive rows of the tokens, and the row that follows
   them. Row `r` of its 16 patches is made of four tokens (`blkRow`): the programs' four slices of 16 rows by parity are
   these (`seg0_apply` … `seg3_apply`), so that their four sums are the sum over the patch (`mean_apply`, `scale_apply`),
   and the four stores leave the layer norm of each patch (`norm_apply`). -/
module

public import proofs.«01_k».proof.Proof.Gen.VisIdeal.Frame
public import proofs.«01_k».proof.Proof.Spec
public import Idealize.ShloMosaic.Lib.Pipeline.ValueKit
public import Idealize.ShloMosaic.Lib.Pointwise

@[expose] public section

set_option maxRecDepth 16384

noncomputable section

namespace Cert.Awq.Kernel

open Cert.VisIdeal Cert.VisIdeal.Gen
open Idealize.ShloMosaic Idealize.ShloMosaic.TcCoe

/-- The programs' named constant is the reciprocal of 12800. -/
theorem named_inv : (Named.named κ "inv_k1" 950261514#32 : Ideal .f32) = ((1 / 12800 : ℝ) : EReal) :=
  IdealRules.named_const.ideal_named_scalar _ _ _ _ rfl

/-- Entry `k` of patch `r` of a block: rows 1, 2, 33, 34 of the block, for `r = 0`, and two rows on for each further patch;
    the last patch's last token is the row after the block. -/
def blkRow (x0 : Vec Ideal S1x64x3200 .bf16) (x1 : Vec Ideal S1x16x3200 .bf16) (r : Fin 16) (k : Fin 12800) : EReal :=
  if h : 1 + 32 * (k.val / 6400) + 2 * r.val + k.val / 3200 % 2 < 64 then
    x0 (ix3 0 ⟨1 + 32 * (k.val / 6400) + 2 * r.val + k.val / 3200 % 2, h⟩ ⟨k.val % 3200, by omega⟩)
  else x1 (ix3 0 0 ⟨k.val % 3200, by omega⟩)

variable (x0 : Vec Ideal S1x64x3200 .bf16) (x1 : Vec Ideal S1x16x3200 .bf16)

theorem seg0_apply (r : Fin 16) (ch : Fin 3200) :
    k2_pay7 (F := Ideal) (View.ld x0 r2_0) (ix2 r ch) = blkRow x0 x1 r ⟨ch.val, by omega⟩ := by
  unfold blkRow
  rw [dif_pos (by simp only []; omega)]
  pointwise [k2_pay7, k2_pay5, k2_pay4]
  blk_ext []

theorem seg1_apply (r : Fin 16) (ch : Fin 3200) :
    k2_pay8 (F := Ideal) (View.ld x0 r2_0) (View.ld x1 r2_1) (ix2 r ch) = blkRow x0 x1 r ⟨3200 + ch.val, by omega⟩ := by
  unfold blkRow
  rw [dif_pos (by simp only []; omega)]
  pointwise [k2_pay8, k2_pay6, k2_pay4]
  rw [dif_pos (by omega)]
  blk_ext []

theorem seg2_apply (r : Fin 16) (ch : Fin 3200) :
    k2_pay9 (F := Ideal) (View.ld x0 r2_0) (ix2 r ch) = blkRow x0 x1 r ⟨6400 + ch.val, by omega⟩ := by
  unfold blkRow
  rw [dif_pos (by simp only []; omega)]
  pointwise [k2_pay9, k2_pay5, k2_pay4]
  blk_ext []

theorem seg3_apply (r : Fin 16) (ch : Fin 3200) :
    k2_pay10 (F := Ideal) (View.ld x0 r2_0) (View.ld x1 r2_1) (ix2 r ch) = blkRow x0 x1 r ⟨9600 + ch.val, by omega⟩ := by
  unfold blkRow
  pointwise [k2_pay10, k2_pay6, k2_pay4]
  by_cases h : 16 + r.val < 31
  · rw [dif_pos h, dif_pos (by omega)]
    blk_ext []
  · rw [dif_neg h, dif_neg (by omega)]
    blk_ext []

/-- The block's means. -/
theorem mean_apply (r : Fin 16) :
    k2_pay11 (F := Ideal) (View.ld x0 r2_0) (View.ld x1 r2_1) (ix2 r 0) = mean (blkRow x0 x1 r) := by
  pointwise [k2_pay11]
  simp only [seg0_apply x0 x1, seg1_apply, seg2_apply x0 x1, seg3_apply, named_inv]
  unfold mean
  rw [sum_tokens]

/-- The block's reciprocal standard deviations. -/
theorem scale_apply (x2 x3 : Vec Ideal S1x12800 .f32) (r : Fin 16) : k2_pay23 (F := Ideal) x0 x1 x2 x3 (ix2 r 0)
    = Ideal.rsqrt (mean (fun j => (blkRow x0 x1 r j - mean (blkRow x0 x1 r)) * (blkRow x0 x1 r j - mean (blkRow x0 x1 r)))
      + Ideal.ofBits .f32 0x3727C5AC#32) := by
  pointwise [k2_pay23, k2_pay22, k2_pay21, k2_pay20, k2_pay19, k2_pay18, k2_pay17, k2_pay14, k2_pay13, k2_pay12]
  simp only [mean_apply, seg0_apply x0 x1, seg1_apply, seg2_apply x0 x1, seg3_apply, named_inv]
  generalize mean (blkRow x0 x1 r) = μ
  rw [mean, sum_tokens]

/-- What a grid point leaves: the layer norm of each of its patches. -/
theorem norm_apply (x2 x3 : Vec Ideal S1x12800 .f32) (j : S16x12800.Idx) :
    out2_4 x0 x1 x2 x3 j
      = layerNorm (blkRow x0 x1 (j 0)) (fun k => x2 (ix2 0 k)) (fun k => x3 (ix2 0 k)) (j 1) := by
  obtain ⟨r', k, rfl⟩ : ∃ (r' : Fin 16) (k : Fin 12800), j = ix2 r' k := ⟨j 0, j 1, eq_ix2 j⟩
  show _ = layerNorm (blkRow x0 x1 r') (fun k => x2 (ix2 0 k)) (fun k => x3 (ix2 0 k)) k
  have hs := scale_apply x0 x1 x2 x3
  unfold out2_4
  obtain ⟨k, hk⟩ := k
  canon_tiles i h
  all_goals
    obtain ⟨r, l, rfl⟩ : ∃ (r : Fin 16) (l : Fin 3200), i = ix2 r l := ⟨i 0, i 1, eq_ix2 i⟩
    obtain rfl : r' = r := Fin.ext h0
    unfold layerNorm
    pointwise [k2_pay1, k2_pay2, k2_pay3, k2_pay15, k2_pay16]
  case piece0 =>
    obtain rfl : k = 9600 + l.val := h1
    exact congrArg₂ (· + ·) (congrArg₂ (· * ·) (congrArg₂ (· * ·) (congrArg₂ (· - ·) (seg3_apply x0 x1 r' l) (mean_apply x0 x1 r')) (hs r')) rfl) rfl
  case piece1 =>
    obtain rfl : k = 6400 + l.val := h1
    exact congrArg₂ (· + ·) (congrArg₂ (· * ·) (congrArg₂ (· * ·) (congrArg₂ (· - ·) (seg2_apply x0 x1 r' l) (mean_apply x0 x1 r')) (hs r')) rfl) rfl
  case piece2 =>
    obtain rfl : k = 3200 + l.val := h1
    exact congrArg₂ (· + ·) (congrArg₂ (· * ·) (congrArg₂ (· * ·) (congrArg₂ (· - ·) (seg1_apply x0 x1 r' l) (mean_apply x0 x1 r')) (hs r')) rfl) rfl
  case piece3 =>
    obtain rfl : k = l.val := h1
    exact congrArg₂ (· + ·) (congrArg₂ (· * ·) (congrArg₂ (· * ·) (congrArg₂ (· - ·) (seg0_apply x0 x1 r' l) (mean_apply x0 x1 r')) (hs r')) rfl) rfl

variable (V : (c : Dev nD) → (b : Ref sig .tc) → Buf (Elt Ideal) ((c : Thread nD τ).loc b)) (c : Dev nD)

theorem idx2 : ∀ t : Fin cfg2.N, win2_0.index t = ![(grid2.coords t 0).val, (grid2.coords t 1).val, 0]
    ∧ win2_1.index t = ![(grid2.coords t 0).val, 4 * ((grid2.coords t 1).val + 1), 0] ∧ win2_2.index t = ![0, 0] ∧ win2_3.index t = ![0, 0]
    ∧ win2_4.index t = ![(grid2.coords t 0).val * 16 + (grid2.coords t 1).val, 0]
    ∧ (grid2.coords t 0).val < 42 ∧ (grid2.coords t 1).val < 16 :=
  (by decide +kernel : ∀ t : Fin grid2.N, _)

/-- A block's patches are the array's. -/
theorem blkRow_patch (t : Fin cfg2.N) (r : Fin 16) (R : Fin 10752) (hR : R.val = ((grid2.coords t 0).val * 16 + (grid2.coords t 1).val) * 16 + r.val) :
    blkRow (iblk2 V c 0 t) (iblk2 V c 1 t) r = patch (R := 1088) (by decide) (V c main_v2) R := by
  funext k
  obtain ⟨e0, e1, -, -, -, hn, hi⟩ := idx2 t
  unfold blkRow patch
  split
  · blk_ext [iblk2, e0]
  · blk_ext [iblk2, e1]

/-- The array that the layer norm leaves. -/
theorem arrN : (dat2 V c).arrAt 4 cfg2.N
    = fun i => layerNorm (patch (R := 1088) (by decide) (V c main_v2) (i 0)) (fun k => V c main_v3 (ix2 0 k)) (fun k => V c main_v4 (ix2 0 k)) (i 1) := by
  refine (dat2 V c).arrAt_eq_of_covers 4 _ (by decide +kernel) fun t hf y => ?_
  blk_simp
  rw [after2_4, norm_apply]
  obtain ⟨r, k, rfl⟩ : ∃ (r : Fin 16) (k : Fin 12800), y = ix2 r k := ⟨y 0, y 1, eq_ix2 y⟩
  obtain ⟨-, -, e2, e3, e4, -, -⟩ := idx2 t
  have e : (((View.whole main_v5).slice (win2_4.rect t)).emb (ix2 r k) : S10752x12800.Idx)
      = ix2 ⟨((grid2.coords t 0).val * 16 + (grid2.coords t 1).val) * 16 + r.val, by have := idx2 t; omega⟩ k := by
    blk_ext [e4]
  rw [e]
  show layerNorm (blkRow (iblk2 V c 0 t) (iblk2 V c 1 t) r) (fun k => iblk2 V c 2 t (ix2 0 k)) (fun k => iblk2 V c 3 t (ix2 0 k)) k
    = layerNorm (patch _ (V c main_v2) _) (fun k => V c main_v3 (ix2 0 k)) (fun k => V c main_v4 (ix2 0 k)) k
  rw [blkRow_patch V c t r ⟨((grid2.coords t 0).val * 16 + (grid2.coords t 1).val) * 16 + r.val, by have := idx2 t; omega⟩ rfl]
  congr 1 <;> funext k <;> blk_ext [iblk2, e2, e3]

end Cert.Awq.Kernel

end
-- ==== Proof.Unpack.lean ====
/- Hand-written: ONE TILE OF UNPACKED WEIGHTS. The dequantising kernel unpacks 128 columns at a time: lane `l` of tile `t`
   gathers word `16 t + l / 8` of its row, shifts it by the place of column `l % 8` and masks four bits. -/
module

public import proofs.«01_k».proof.Proof.Gen.VisIdeal.Skeleton
public import proofs.«01_k».proof.Proof.Spec
public import Idealize.ShloMosaic.Lib.Pipeline.ValueKit
public import Idealize.ShloMosaic.Lib.Pointwise

@[expose] public section

set_option maxRecDepth 16384

noncomputable section

namespace Cert.Awq.Kernel

open Cert.VisIdeal Cert.VisIdeal.Gen
open Idealize.ShloMosaic Idealize.ShloMosaic.TcCoe

/-- The word that lane `l` gathers, as the kernel computes it with `o` words skipped: `l` shifted right by three, plus `o`,
    a negative number wrapped. -/
def laneWord (o : BitVec 32) (l : Fin 128) : BitVec 32 :=
  Scalar.select
    (IntOp.cmpi CmpIPredicate.slt (IntOp.addi (IntOp.shrsi ArithUnit.vector (BitVec.ofNat 32 l.val) 3#32) o) 0#32)
    (IntOp.addi (IntOp.addi (IntOp.shrsi ArithUnit.vector (BitVec.ofNat 32 l.val) 3#32) o) 128#32)
    (IntOp.addi (IntOp.shrsi ArithUnit.vector (BitVec.ofNat 32 l.val) 3#32) o)

/-- How far lane `l` shifts its word, as the kernel computes it. -/
def shiftWord (l : Fin 128) : BitVec 32 :=
  IntOp.muli (4#32)
    (IntOp.addi (IntOp.shrsi ArithUnit.vector (IntOp.andi (BitVec.ofNat 32 l.val) 7#32) 1#32)
      (IntOp.muli (4#32) (IntOp.andi (IntOp.andi (BitVec.ofNat 32 l.val) 7#32) 1#32)))

theorem laneWord_eq (t : Fin 8) (l : Fin 128) : (laneWord (BitVec.ofNat 32 (16 * t.val)) l).toNat % 128 = 16 * t.val + l.val / 8 :=
  (by decide +kernel : ∀ (t : Fin 8) (l : Fin 128), (laneWord (BitVec.ofNat 32 (16 * t.val)) l).toNat % 128 = 16 * t.val + l.val / 8) t l

theorem shiftWord_eq (l : Fin 128) : shiftWord l = BitVec.ofNat 32 (shift (l.val % 8)) :=
  (by decide +kernel : ∀ l : Fin 128, shiftWord l = BitVec.ofNat 32 (shift (l.val % 8))) l

theorem shift_lt (c : ℕ) (h : c < 8) : shift c < 32 := by unfold shift; omega

/-- The four bits that a lane takes out of a word, as a number. -/
theorem nib_word (x : BitVec 32) (l : Fin 128) :
    (FloatOps.sitofp FTy.f32 (IntOp.andi (IntOp.shrui ArithUnit.vector x (shiftWord l)) 15#32) : Ideal .f32) = nib x (l.val % 8) := by
  have hs : shift (l.val % 8) < 32 := shift_lt _ (by omega)
  have e : (BitVec.ofNat 32 (shift (l.val % 8))).toNat = shift (l.val % 8) := by
    rw [BitVec.toNat_ofNat]; omega
  rw [shiftWord_eq]
  unfold IntOp.shrui nib
  rw [if_pos (by rw [e]; exact hs), BitVec.ushiftRight_eq', e]
  rfl

/-- Lane `l` of row `r` of tile `t`: a weight, from a group's 128 rows of packed words `Q`, its packed zero points `Z` and
    its scales `S`. -/
def tileVal (S : Vec Ideal S1x1024 .f32) (Q : Vec Ideal S128x128 .i32) (Z : Vec Ideal S1x128 .i32) (t : Fin 8) (r l : Fin 128) : EReal :=
  (nib (Q (ix2 r ⟨16 * t.val + l.val / 8, by omega⟩)) (l.val % 8) - nib (Z (ix2 0 ⟨16 * t.val + l.val / 8, by omega⟩)) (l.val % 8))
    * S (ix2 0 ⟨128 * t.val + l.val, by omega⟩)

/-- The kernel's expression for a lane is the weight. -/
theorem tile_eq (S : Vec Ideal S1x1024 .f32) (Q : Vec Ideal S128x128 .i32) (Z : Vec Ideal S1x128 .i32) (t : Fin 8) (r l : Fin 128)
    (o : BitVec 32) (ho : o = BitVec.ofNat 32 (16 * t.val)) (b b') (n : Fin 1024) (hn : n.val = 128 * t.val + l.val) :
    (FloatOps.sitofp FTy.f32 (IntOp.andi (IntOp.shrui ArithUnit.vector (Q (ix2 r ⟨(laneWord o l).toNat % 128, b⟩)) (shiftWord l)) 15#32)
        - FloatOps.sitofp FTy.f32 (IntOp.andi (IntOp.shrui ArithUnit.vector (Z (ix2 0 ⟨(laneWord o l).toNat % 128, b'⟩)) (shiftWord l)) 15#32) : Ideal .f32)
      * S (ix2 0 n) = tileVal S Q Z t r l := by
  subst ho
  rw [nib_word, nib_word]
  unfold tileVal
  simp only [laneWord_eq]
  rw [show n = ⟨128 * t.val + l.val, by omega⟩ from Fin.ext hn]

variable (S : Vec Ideal S1x1024 .f32) (Q : Vec Ideal S128x128 .i32) (Z : Vec Ideal S1x128 .i32)

theorem tile0 (r l : Fin 128) : k0_pay5 (F := Ideal) (k0_pay2 S) Q (k0_pay4 Z) (ix2 r l) = tileVal S Q Z 0 r l := by
  pointwise [k0_pay5, k0_pay2, k0_pay4, k0_pay3]
  exact tile_eq S Q Z 0 r l _ rfl _ _ _ (by simp)
theorem tile1 (r l : Fin 128) : k0_pay12 (F := Ideal) (k0_pay2 S) (k0_pay7 (k0_pay3 Z) k0_pay6) (k0_pay8 Q) k0_pay9 k0_pay10 k0_pay11 (ix2 r l)
    = tileVal S Q Z 1 r l := by
  pointwise [k0_pay12, k0_pay2, k0_pay3, k0_pay7, k0_pay6, k0_pay8, k0_pay9, k0_pay10, k0_pay11]
  exact tile_eq S Q Z 1 r l _ rfl _ _ _ rfl
theorem tile2 (r l : Fin 128) : k0_pay14 (F := Ideal) (k0_pay2 S) Q (k0_pay13 (k0_pay3 Z)) (ix2 r l) = tileVal S Q Z 2 r l := by
  pointwise [k0_pay14, k0_pay2, k0_pay3, k0_pay13]
  exact tile_eq S Q Z 2 r l _ rfl _ _ _ rfl

theorem tile3 (r l : Fin 128) :
    k0_pay19 (F := Ideal) (k0_pay2 S) (k0_pay16 (k0_pay3 Z) (iota .tc S8x128 32 [1] iota_S8x128_d1_w32) k0_pay15) (k0_pay17 Q) k0_pay18 1#32 (ix2 r l)
      = tileVal S Q Z 3 r l := by
  pointwise [k0_pay19, k0_pay2, k0_pay3, k0_pay16, k0_pay15, k0_pay17, k0_pay18]
  exact tile_eq S Q Z 3 r l _ rfl _ _ _ rfl
theorem tile4 (r l : Fin 128) : k0_pay22 (F := Ideal) (k0_pay2 S) Q (k0_pay20 (k0_pay3 Z)) k0_pay21 (ix2 r l) = tileVal S Q Z 4 r l := by
  pointwise [k0_pay22, k0_pay2, k0_pay3, k0_pay20, k0_pay21]
  exact tile_eq S Q Z 4 r l _ rfl _ _ _ rfl
theorem tile5 (r l : Fin 128) :
    k0_pay25 (F := Ideal) (k0_pay2 S) (k0_pay23 (k0_pay3 Z)) (k0_pay24 Q) (iota .tc S128x128 32 [1] iota_S128x128_d1_w32) (ix2 r l)
      = tileVal S Q Z 5 r l := by
  pointwise [k0_pay25, k0_pay2, k0_pay3, k0_pay23, k0_pay24]
  exact tile_eq S Q Z 5 r l _ rfl _ _ _ rfl
theorem tile6 (r l : Fin 128) : k0_pay30 (F := Ideal) (k0_pay2 S) Q (k0_pay26 (k0_pay3 Z)) k0_pay28 k0_pay29 (ix2 r l) = tileVal S Q Z 6 r l := by
  pointwise [k0_pay30, k0_pay2, k0_pay3, k0_pay26, k0_pay27, k0_pay28, k0_pay29]
  exact tile_eq S Q Z 6 r l _ rfl _ _ _ rfl
theorem tile7 (r l : Fin 128) : k0_pay1 (F := Ideal) (k0_pay2 S) Q (k0_pay31 (k0_pay3 Z)) k0_pay32 (ix2 r l) = tileVal S Q Z 7 r l := by
  pointwise [k0_pay1, k0_pay2, k0_pay3, k0_pay31, k0_pay32]
  exact tile_eq S Q Z 7 r l _ rfl _ _ _ rfl

/-- A grid point's block of weights: 2560 rows of 1024 columns, from the rows' packed words and from the 20 groups of zero
    points and scales that begin at group `g`. -/
def blkVal {A : ℕ} (g : ℕ) (hg : g + 20 ≤ A) (x0 : Vec Ideal S2560x128 .i32) (x1 : Mat A 1024) (x2 : Words A 128) (y : S2560x1024.Idx) : EReal :=
  (nib (x0 (ix2 (y 0) ⟨(y 1).val / 8, by have : (y 1).val < 1024 := (y 1).isLt; omega⟩)) ((y 1).val % 8)
      - nib (x2 (ix2 ⟨g + (y 0).val / 128, by have : (y 0).val < 2560 := (y 0).isLt; omega⟩ ⟨(y 1).val / 8, by have : (y 1).val < 1024 := (y 1).isLt; omega⟩)) ((y 1).val % 8))
    * x1 (ix2 ⟨g + (y 0).val / 128, by have : (y 0).val < 2560 := (y 0).isLt; omega⟩ (y 1))

/-- Tile `t` of the block's group `k`, placed at row `128 k` and column `128 t`, is a part of the block. -/
theorem tile_place {A : ℕ} (g : ℕ) (hg : g + 20 ≤ A) (x0 : Vec Ideal S2560x128 .i32) (x1 : Mat A 1024) (x2 : Words A 128) (k : ℕ) (hk : k < 20)
    (hS : ∀ n, S (ix2 0 n) = x1 (ix2 ⟨g + k, by omega⟩ n)) (hQ : ∀ r w, Q (ix2 r w) = x0 (ix2 ⟨128 * k + r.val, by omega⟩ w))
    (hZ : ∀ w, Z (ix2 0 w) = x2 (ix2 ⟨g + k, by omega⟩ w)) (t : Fin 8) (r l : Fin 128) (y : S2560x1024.Idx)
    (h0 : (y 0).val = 128 * k + r.val) (h1 : (y 1).val = 128 * t.val + l.val) :
    tileVal S Q Z t r l = blkVal g hg x0 x1 x2 y := by
  unfold tileVal blkVal
  rw [hS, hQ, hZ]
  have e0 : (⟨128 * k + r.val, by omega⟩ : Fin 2560) = y 0 := Fin.ext h0.symm
  have e1 : (⟨128 * t.val + l.val, by omega⟩ : Fin 1024) = y 1 := Fin.ext h1.symm
  have ew : 16 * t.val + l.val / 8 = (y 1).val / 8 := by omega
  have ec : l.val % 8 = (y 1).val % 8 := by omega
  have eg : g + k = g + (y 0).val / 128 := by omega
  rw [e0, e1]
  simp only [ew, ec, eg]

end Cert.Awq.Kernel
-- ==== Proof.Dequant.lean ====
/- Hand-written: THE WEIGHTS. What the two dequantising calls leave in their arrays: every packed column unpacked, its group's
   zero point taken off and its group's scale applied. -/
module

public import proofs.«01_k».proof.Proof.Gen.VisIdeal.Frame
public import proofs.«01_k».proof.Proof.Unpack
public import proofs.«01_k».proof.Proof.Spec
public import Idealize.ShloMosaic.Lib.Pipeline.ValueKit
public import Idealize.ShloMosaic.Lib.Pointwise
public import Idealize.ShloMosaic.Lib.Pipeline.ReadBack
@[expose] public section

set_option maxRecDepth 16384

noncomputable section

namespace Cert.Awq.Kernel

open Cert.VisIdeal Cert.VisIdeal.Gen
open Idealize.ShloMosaic Idealize.ShloMosaic.TcCoe

/-- A load through a rectangle at offset `![a, b]`, at an element. -/
theorem ld_at {A B p q : ℕ} {e : EltTy} (X : (⟨2, ![A, B]⟩ : Shape).Idx → Elt Ideal e) (off : Fin 2 → ℕ) {a b : ℕ} (ho : off = ![a, b])
    (inb) (x : (⟨2, ![p, q]⟩ : Shape).Idx) (m : Fin A) (n : Fin B) (h0 : m.val = a + (x 0).val) (h1 : n.val = b + (x 1).val) :
    View.ld X (Rect.unit (s := ⟨2, ![A, B]⟩) off ![p, q] inb) x = X (ix2 m n) := by
  subst ho
  refine View.ld_unit_apply_of _ _ _ _ _ _ fun d => ?_
  fin_cases d
  · exact h0
  · exact h1

theorem groups0 (i : grid0.Coords) : 20 * (i 1).val + 20 ≤ 100 := by
  have := (i 1).isLt; simp [grid0] at this; omega

/-- One trip of the loop over groups stores eight tiles, each a part of the block. -/
theorem trip0 (𝒱 : Variants) (bd : Option 𝒱.V) (v0 : BitVec 32) (c : Dev nD) (i : grid0.Coords) (arg2 : Memref sig .tc .vmem S2560x128 .i32) (harg2 : arg2.IsWhole)
    (arg3 : Memref sig .tc .vmem S100x1024 .f32) (harg3 : arg3.IsWhole) (arg4 : Memref sig .tc .vmem S100x128 .i32) (harg4 : arg4.IsWhole)
    (arg5 : Memref sig .tc .vmem S2560x1024 .bf16) (harg5 : arg5.IsWhole)
    (x0 : Vec Ideal S2560x128 .i32) (x1 : Vec Ideal S100x1024 .f32) (x2 : Vec Ideal S100x128 .i32) (k : Fin k0_t1_loop.trips) :
    View.PiecesOf (blkVal (20 * (i 1).val) (groups0 i) x0 x1 x2)
      (tripL_k0_t1 (F := Ideal) 𝒱 c bd i arg2 harg2 arg3 harg3 arg4 harg4 arg5 harg5 v0 (harg2.unread x0) (harg3.unread x1) (harg4.unread x2) k) := by
  have hk : k.val < 20 := Nat.lt_of_lt_of_le k.isLt k0_t1_abs.2.1
  have hS : ∀ n, View.readAt (Elt Ideal) arg3.view (Rect.unit (s := S100x1024) (k0_off2 i k) S1x1024.size (k0_off2_inb i k)).toLoadRect (harg3.unread x1) (ix2 0 n)
      = x1 (ix2 ⟨20 * (i 1).val + k.val, by have := groups0 i; omega⟩ n) := fun n => by
    rw [View.readAt_eq_ld, harg3.read_unread]
    exact ld_at _ _ (k0_off2_eq _ _) _ _ _ _ (by simp) (by simp)
  have hQ : ∀ r w, View.readAt (Elt Ideal) arg2.view (Rect.unit (s := S2560x128) (k0_off3 k) S128x128.size (k0_off3_inb k)).toLoadRect (harg2.unread x0) (ix2 r w)
      = x0 (ix2 ⟨128 * k.val + r.val, by omega⟩ w) := fun r w => by
    rw [View.readAt_eq_ld, harg2.read_unread]
    exact ld_at _ _ (k0_off3_eq _) _ _ _ _ (by simp) (by simp)
  have hZ : ∀ w, View.readAt (Elt Ideal) arg4.view (Rect.unit (s := S100x128) (k0_off1 i k) S1x128.size (k0_off1_inb i k)).toLoadRect (harg4.unread x2) (ix2 0 w)
      = x2 (ix2 ⟨20 * (i 1).val + k.val, by have := groups0 i; omega⟩ w) := fun w => by
    rw [View.readAt_eq_ld, harg4.read_unread]
    exact ld_at _ _ (k0_off1_eq _ _) _ _ _ _ (by simp) (by simp)
  have place : ∀ (t : Fin 8) (x : S128x128.Idx) (off : Fin 2 → ℕ) (inb) (_ : off = ![128 * k.val, 128 * t.val]), tileVal _ _ _ t (x 0) (x 1)
      = blkVal (20 * (i 1).val) (groups0 i) x0 x1 x2 ((Rect.unit (s := S2560x1024) off S128x128.size inb).emb x) := fun t x off inb ho => by
    subst ho
    exact tile_place _ _ _ (20 * (i 1).val) (groups0 i) x0 x1 x2 k.val hk hS hQ hZ t (x 0) (x 1) _
      (Rect.idx_unit_val _ _ inb x 0) (Rect.idx_unit_val _ _ inb x 1)
  unfold tripL_k0_t1 trip_k0_t1
  dsimp only
  refine ⟨fun x => ?_, fun x => ?_, fun x => ?_, fun x => ?_, fun x => ?_, fun x => ?_, fun x => ?_, fun x => ?_, trivial⟩
  · exact ((congrArg _ (eq_ix2 x)).trans (tile7 _ _ _ _ _)).trans (place 7 x _ (k0_off11_inb k) (k0_off11_eq k))
  · exact ((congrArg _ (eq_ix2 x)).trans (tile6 _ _ _ _ _)).trans (place 6 x _ (k0_off10_inb k) (k0_off10_eq k))
  · exact ((congrArg _ (eq_ix2 x)).trans (tile5 _ _ _ _ _)).trans (place 5 x _ (k0_off9_inb k) (k0_off9_eq k))
  · exact ((congrArg _ (eq_ix2 x)).trans (tile4 _ _ _ _ _)).trans (place 4 x _ (k0_off8_inb k) (k0_off8_eq k))
  · exact ((congrArg _ (eq_ix2 x)).trans (tile3 _ _ _ _ _)).trans (place 3 x _ (k0_off7_inb k) (k0_off7_eq k))
  · exact ((congrArg _ (eq_ix2 x)).trans (tile2 _ _ _ _ _)).trans (place 2 x _ (k0_off6_inb k) (k0_off6_eq k))
  · exact ((congrArg _ (eq_ix2 x)).trans (tile1 _ _ _ _ _)).trans (place 1 x _ (k0_off5_inb k) (k0_off5_eq k))
  · exact ((congrArg _ (eq_ix2 x)).trans (tile0 _ _ _ _ _)).trans (place 0 x _ (k0_off4_inb k) (k0_off4_eq k))

/-- So does the loop, however many trips it has made. -/
theorem trips0 (𝒱 : Variants) (bd : Option 𝒱.V) (v0 : BitVec 32) (c : Dev nD) (i : grid0.Coords) (arg2 : Memref sig .tc .vmem S2560x128 .i32) (harg2 : arg2.IsWhole)
    (arg3 : Memref sig .tc .vmem S100x1024 .f32) (harg3 : arg3.IsWhole) (arg4 : Memref sig .tc .vmem S100x128 .i32) (harg4 : arg4.IsWhole)
    (arg5 : Memref sig .tc .vmem S2560x1024 .bf16) (harg5 : arg5.IsWhole)
    (x0 : Vec Ideal S2560x128 .i32) (x1 : Vec Ideal S100x1024 .f32) (x2 : Vec Ideal S100x128 .i32) : ∀ n ≤ k0_t1_loop.trips,
    ∀ p ∈ pb_k0_t1 (F := Ideal) 𝒱 c bd i arg2 harg2 arg3 harg3 arg4 harg4 arg5 harg5 v0 (harg2.unread x0) (harg3.unread x1) (harg4.unread x2) n,
      ∀ x : p.1.shape.Idx, p.2 x = blkVal (20 * (i 1).val) (groups0 i) x0 x1 x2 (p.1.emb x)
  | 0, _, p, hp => absurd hp List.not_mem_nil
  | n + 1, hn, p, hp => by
    rw [pb_k0_t1_succ 𝒱 c bd i arg2 harg2 arg3 harg3 arg4 harg4 arg5 harg5 v0 _ _ _ ⟨n, hn⟩] at hp
    rcases List.mem_append.mp hp with hp | hp
    · exact (trip0 𝒱 bd v0 c i arg2 harg2 arg3 harg3 arg4 harg4 arg5 harg5 x0 x1 x2 ⟨n, hn⟩).mem p hp
    · exact trips0 𝒱 bd v0 c i arg2 harg2 arg3 harg3 arg4 harg4 arg5 harg5 x0 x1 x2 n (by omega) p hp

/-- What a grid point leaves in its output block. -/
theorem out0 (c : Dev nD) (i : grid0.Coords) (arg2 : Memref sig .tc .vmem S2560x128 .i32) (harg2 : arg2.IsWhole)
    (arg3 : Memref sig .tc .vmem S100x1024 .f32) (harg3 : arg3.IsWhole) (arg4 : Memref sig .tc .vmem S100x128 .i32) (harg4 : arg4.IsWhole)
    (arg5 : Memref sig .tc .vmem S2560x1024 .bf16) (harg5 : arg5.IsWhole)
    (x0 : Vec Ideal S2560x128 .i32) (x1 : Vec Ideal S100x1024 .f32) (x2 : Vec Ideal S100x128 .i32) :
    out0_A_3 (F := Ideal) c i arg2 harg2 arg3 harg3 arg4 harg4 arg5 harg5 x0 x1 x2 = blkVal (20 * (i 1).val) (groups0 i) x0 x1 x2 := by
  unfold out0_A_3
  rw [View.read_writes_eq_canon _ _ _ (cover0_A_3 c i arg2 harg2 arg3 harg3 arg4 harg4 arg5 harg5 x0 x1 x2)]
  funext y
  have hc := cover0_A_3 (F := Ideal) c i arg2 harg2 arg3 harg3 arg4 harg4 arg5 harg5 x0 x1 x2 y
  rw [← List.append_nil (kernelRun0_A c i arg2 harg2 arg3 harg3 arg4 harg4 arg5 harg5 x0 x1 x2).1]
  exact View.canon_append_of_pieces _ [] _ (trips0 _ _ _ c i arg2 harg2 arg3 harg3 arg4 harg4 arg5 harg5 x0 x1 x2 _ le_rfl) y hc

theorem groups1 (i : grid1.Coords) : 20 * (i 1).val + 20 ≤ 40 := by
  have := (i 1).isLt; simp [grid1] at this; omega

/-- One trip of the loop over groups stores eight tiles, each a part of the block. -/
theorem trip1 (𝒱 : Variants) (bd : Option 𝒱.V) (v0 : BitVec 32) (c : Dev nD) (i : grid1.Coords) (arg2 : Memref sig .tc .vmem S2560x128 .i32) (harg2 : arg2.IsWhole)
    (arg3 : Memref sig .tc .vmem S40x1024 .f32) (harg3 : arg3.IsWhole) (arg4 : Memref sig .tc .vmem S40x128 .i32) (harg4 : arg4.IsWhole)
    (arg5 : Memref sig .tc .vmem S2560x1024 .bf16) (harg5 : arg5.IsWhole)
    (x0 : Vec Ideal S2560x128 .i32) (x1 : Vec Ideal S40x1024 .f32) (x2 : Vec Ideal S40x128 .i32) (k : Fin k1_t1_loop.trips) :
    View.PiecesOf (blkVal (20 * (i 1).val) (groups1 i) x0 x1 x2)
      (tripL_k1_t1 (F := Ideal) 𝒱 c bd i arg2 harg2 arg3 harg3 arg4 harg4 arg5 harg5 v0 (harg2.unread x0) (harg3.unread x1) (harg4.unread x2) k) := by
  have hk : k.val < 20 := Nat.lt_of_lt_of_le k.isLt k1_t1_abs.2.1
  have hS : ∀ n, View.readAt (Elt Ideal) arg3.view (Rect.unit (s := S40x1024) (k1_off2 i k) S1x1024.size (k1_off2_inb i k)).toLoadRect (harg3.unread x1) (ix2 0 n)
      = x1 (ix2 ⟨20 * (i 1).val + k.val, by have := groups1 i; omega⟩ n) := fun n => by
    rw [View.readAt_eq_ld, harg3.read_unread]
    exact ld_at _ _ (k1_off2_eq _ _) _ _ _ _ (by simp) (by simp)
  have hQ : ∀ r w, View.readAt (Elt Ideal) arg2.view (Rect.unit (s := S2560x128) (k1_off3 k) S128x128.size (k1_off3_inb k)).toLoadRect (harg2.unread x0) (ix2 r w)
      = x0 (ix2 ⟨128 * k.val + r.val, by omega⟩ w) := fun r w => by
    rw [View.readAt_eq_ld, harg2.read_unread]
    exact ld_at _ _ (k1_off3_eq _) _ _ _ _ (by simp) (by simp)
  have hZ : ∀ w, View.readAt (Elt Ideal) arg4.view (Rect.unit (s := S40x128) (k1_off1 i k) S1x128.size (k1_off1_inb i k)).toLoadRect (harg4.unread x2) (ix2 0 w)
      = x2 (ix2 ⟨20 * (i 1).val + k.val, by have := groups1 i; omega⟩ w) := fun w => by
    rw [View.readAt_eq_ld, harg4.read_unread]
    exact ld_at _ _ (k1_off1_eq _ _) _ _ _ _ (by simp) (by simp)
  have place : ∀ (t : Fin 8) (x : S128x128.Idx) (off : Fin 2 → ℕ) (inb) (_ : off = ![128 * k.val, 128 * t.val]), tileVal _ _ _ t (x 0) (x 1)
      = blkVal (20 * (i 1).val) (groups1 i) x0 x1 x2 ((Rect.unit (s := S2560x1024) off S128x128.size inb).emb x) := fun t x off inb ho => by
    subst ho
    exact tile_place _ _ _ (20 * (i 1).val) (groups1 i) x0 x1 x2 k.val hk hS hQ hZ t (x 0) (x 1) _
      (Rect.idx_unit_val _ _ inb x 0) (Rect.idx_unit_val _ _ inb x 1)
  unfold tripL_k1_t1 trip_k1_t1
  dsimp only
  refine ⟨fun x => ?_, fun x => ?_, fun x => ?_, fun x => ?_, fun x => ?_, fun x => ?_, fun x => ?_, fun x => ?_, trivial⟩
  · exact ((congrArg _ (eq_ix2 x)).trans (tile7 _ _ _ _ _)).trans (place 7 x _ (k1_off11_inb k) (k1_off11_eq k))
  · exact ((congrArg _ (eq_ix2 x)).trans (tile6 _ _ _ _ _)).trans (place 6 x _ (k1_off10_inb k) (k1_off10_eq k))
  · exact ((congrArg _ (eq_ix2 x)).trans (tile5 _ _ _ _ _)).trans (place 5 x _ (k1_off9_inb k) (k1_off9_eq k))
  · exact ((congrArg _ (eq_ix2 x)).trans (tile4 _ _ _ _ _)).trans (place 4 x _ (k1_off8_inb k) (k1_off8_eq k))
  · exact ((congrArg _ (eq_ix2 x)).trans (tile3 _ _ _ _ _)).trans (place 3 x _ (k1_off7_inb k) (k1_off7_eq k))
  · exact ((congrArg _ (eq_ix2 x)).trans (tile2 _ _ _ _ _)).trans (place 2 x _ (k1_off6_inb k) (k1_off6_eq k))
  · exact ((congrArg _ (eq_ix2 x)).trans (tile1 _ _ _ _ _)).trans (place 1 x _ (k1_off5_inb k) (k1_off5_eq k))
  · exact ((congrArg _ (eq_ix2 x)).trans (tile0 _ _ _ _ _)).trans (place 0 x _ (k1_off4_inb k) (k1_off4_eq k))

/-- So does the loop, however many trips it has made. -/
theorem trips1 (𝒱 : Variants) (bd : Option 𝒱.V) (v0 : BitVec 32) (c : Dev nD) (i : grid1.Coords) (arg2 : Memref sig .tc .vmem S2560x128 .i32) (harg2 : arg2.IsWhole)
    (arg3 : Memref sig .tc .vmem S40x1024 .f32) (harg3 : arg3.IsWhole) (arg4 : Memref sig .tc .vmem S40x128 .i32) (harg4 : arg4.IsWhole)
    (arg5 : Memref sig .tc .vmem S2560x1024 .bf16) (harg5 : arg5.IsWhole)
    (x0 : Vec Ideal S2560x128 .i32) (x1 : Vec Ideal S40x1024 .f32) (x2 : Vec Ideal S40x128 .i32) : ∀ n ≤ k1_t1_loop.trips,
    ∀ p ∈ pb_k1_t1 (F := Ideal) 𝒱 c bd i arg2 harg2 arg3 harg3 arg4 harg4 arg5 harg5 v0 (harg2.unread x0) (harg3.unread x1) (harg4.unread x2) n,
      ∀ x : p.1.shape.Idx, p.2 x = blkVal (20 * (i 1).val) (groups1 i) x0 x1 x2 (p.1.emb x)
  | 0, _, p, hp => absurd hp List.not_mem_nil
  | n + 1, hn, p, hp => by
    rw [pb_k1_t1_succ 𝒱 c bd i arg2 harg2 arg3 harg3 arg4 harg4 arg5 harg5 v0 _ _ _ ⟨n, hn⟩] at hp
    rcases List.mem_append.mp hp with hp | hp
    · exact (trip1 𝒱 bd v0 c i arg2 harg2 arg3 harg3 arg4 harg4 arg5 harg5 x0 x1 x2 ⟨n, hn⟩).mem p hp
    · exact trips1 𝒱 bd v0 c i arg2 harg2 arg3 harg3 arg4 harg4 arg5 harg5 x0 x1 x2 n (by omega) p hp

/-- What a grid point leaves in its output block. -/
theorem out1 (c : Dev nD) (i : grid1.Coords) (arg2 : Memref sig .tc .vmem S2560x128 .i32) (harg2 : arg2.IsWhole)
    (arg3 : Memref sig .tc .vmem S40x1024 .f32) (harg3 : arg3.IsWhole) (arg4 : Memref sig .tc .vmem S40x128 .i32) (harg4 : arg4.IsWhole)
    (arg5 : Memref sig .tc .vmem S2560x1024 .bf16) (harg5 : arg5.IsWhole)
    (x0 : Vec Ideal S2560x128 .i32) (x1 : Vec Ideal S40x1024 .f32) (x2 : Vec Ideal S40x128 .i32) :
    out1_A_3 (F := Ideal) c i arg2 harg2 arg3 harg3 arg4 harg4 arg5 harg5 x0 x1 x2 = blkVal (20 * (i 1).val) (groups1 i) x0 x1 x2 := by
  unfold out1_A_3
  rw [View.read_writes_eq_canon _ _ _ (cover1_A_3 c i arg2 harg2 arg3 harg3 arg4 harg4 arg5 harg5 x0 x1 x2)]
  funext y
  have hc := cover1_A_3 (F := Ideal) c i arg2 harg2 arg3 harg3 arg4 harg4 arg5 harg5 x0 x1 x2 y
  rw [← List.append_nil (kernelRun1_A c i arg2 harg2 arg3 harg3 arg4 harg4 arg5 harg5 x0 x1 x2).1]
  exact View.canon_append_of_pieces _ [] _ (trips1 _ _ _ c i arg2 harg2 arg3 harg3 arg4 harg4 arg5 harg5 x0 x1 x2 _ le_rfl) y hc

variable (V : (c : Dev nD) → (b : Ref sig .tc) → Buf (Elt Ideal) ((c : Thread nD τ).loc b)) (c : Dev nD)

theorem idx0 : ∀ t : Fin cfg0.N, win0_0.index t = ![(grid0.coords t 1).val, (grid0.coords t 0).val] ∧ win0_1.index t = ![0, (grid0.coords t 0).val]
    ∧ win0_2.index t = ![0, (grid0.coords t 0).val] ∧ win0_3.index t = ![(grid0.coords t 1).val, (grid0.coords t 0).val] :=
  (by decide +kernel : ∀ t : Fin grid0.N, _)

/-- The first weight matrix. -/
theorem arrW1 : (dat0 V c).arrAt 3 cfg0.N = deq (K := 12800) (G := 100) rfl (V c main_arg3) (V c main_arg4) (V c main_arg5) := by
  refine (dat0 V c).arrAt_eq_of_covers 3 _ (by decide +kernel) fun t hf y => ?_
  blk_simp
  rw [after0_3]
  unfold outsAt0
  rw [out0]
  obtain ⟨r, l, rfl⟩ : ∃ (r : Fin 2560) (l : Fin 1024), y = ix2 r l := ⟨y 0, y 1, eq_ix2 y⟩
  unfold blkVal deq
  refine congrArg₂ (· * ·) (congrArg₂ (· - ·) (congrArg₂ nib ?_ ?_) (congrArg₂ nib ?_ ?_)) ?_
  · blk_ext [iblk0, idx0 t]
  · blk_simp [idx0 t]
    omega
  · blk_ext [iblk0, idx0 t]
  · blk_simp [idx0 t]
    omega
  · blk_ext [iblk0, idx0 t]

theorem idx1 : ∀ t : Fin cfg1.N, win1_0.index t = ![(grid1.coords t 1).val, (grid1.coords t 0).val] ∧ win1_1.index t = ![0, (grid1.coords t 0).val]
    ∧ win1_2.index t = ![0, (grid1.coords t 0).val] ∧ win1_3.index t = ![(grid1.coords t 1).val, (grid1.coords t 0).val] :=
  (by decide +kernel : ∀ t : Fin grid1.N, _)

/-- The second weight matrix. -/
theorem arrW2 : (dat1 V c).arrAt 3 cfg1.N = deq (K := 5120) (G := 40) rfl (V c main_arg7) (V c main_arg8) (V c main_arg9) := by
  refine (dat1 V c).arrAt_eq_of_covers 3 _ (by decide +kernel) fun t hf y => ?_
  blk_simp
  rw [after1_3]
  unfold outsAt1
  rw [out1]
  obtain ⟨r, l, rfl⟩ : ∃ (r : Fin 2560) (l : Fin 1024), y = ix2 r l := ⟨y 0, y 1, eq_ix2 y⟩
  unfold blkVal deq
  refine congrArg₂ (· * ·) (congrArg₂ (· - ·) (congrArg₂ nib ?_ ?_) (congrArg₂ nib ?_ ?_)) ?_
  · blk_ext [iblk1, idx1 t]
  · blk_simp [idx1 t]
    omega
  · blk_ext [iblk1, idx1 t]
  · blk_simp [idx1 t]
    omega
  · blk_ext [iblk1, idx1 t]

end Cert.Awq.Kernel
-- ==== Proof.Compose.lean ====
/- Hand-written: WHAT THE KERNEL COMPUTES. The five calls one after another, each reading what the calls before it left, from
   the launch memory to the result. -/
module

public import proofs.«01_k».proof.Proof.Products
public import proofs.«01_k».proof.Proof.Norm
public import proofs.«01_k».proof.Proof.Dequant

@[expose] public section

set_option maxRecDepth 16384

noncomputable section

namespace Cert.Awq.Kernel

open Cert.VisIdeal Cert.VisIdeal.Gen
open Idealize.ShloMosaic Idealize.ShloMosaic.TcCoe

variable (m : (ℓ : Loc nD τ sig) → Buf (Elt Ideal) ℓ) (ρ : Dev nD → PrngReg) (c : Dev nD)

/-! ## The host lines between the calls -/

/-- The second bias, laid out as a row. -/
theorem row_b2 (n : Fin 5120) : V9 m ρ c main_v8 (ix2 0 n) = m ((c : Thread nD τ).loc main_arg10) (ix1 n) := by
  have e : V9 m ρ c main_v8 = shapeCast S1x5120 (W8 m ρ c (Proc.devRef .tc main_arg10)) shapeCasts_S5120_S1x5120 := by
    show StableHlo.after hostOps4 (W8 m ρ c) (Proc.devRef .tc main_v8) = _
    after_results
    rfl
  rw [e, W8_args m ρ c main_arg10 (by decide)]
  pointwise

/-- The first bias, laid out as a row. -/
theorem row_b1 (n : Fin 5120) : V7 m ρ c main_v6 (ix2 0 n) = m ((c : Thread nD τ).loc main_arg6) (ix1 n) := by
  have e : V7 m ρ c main_v6 = shapeCast S1x5120 (W6 m ρ c (Proc.devRef .tc main_arg6)) shapeCasts_S5120_S1x5120 := by
    show StableHlo.after hostOps3 (W6 m ρ c) (Proc.devRef .tc main_v6) = _
    after_results
    rfl
  rw [e, W6_args m ρ c main_arg6 (by decide)]
  pointwise

/-- The norm's gains, laid out as a row. -/
theorem row_g (n : Fin 12800) : V5 m ρ c main_v3 (ix2 0 n) = m ((c : Thread nD τ).loc main_arg1) (ix1 n) := by
  have e : V5 m ρ c main_v3 = shapeCast S1x12800 (W4 m ρ c (Proc.devRef .tc main_arg1)) shapeCasts_S12800_S1x12800 := by
    show StableHlo.after hostOps2_2 (W4 m ρ c) (Proc.devRef .tc main_v3) = _
    after_results
    rfl
  rw [e, W4_args m ρ c main_arg1 (by decide)]
  pointwise

/-- The norm's offsets, laid out as a row. -/
theorem row_b (n : Fin 12800) : V5 m ρ c main_v4 (ix2 0 n) = m ((c : Thread nD τ).loc main_arg2) (ix1 n) := by
  have e : V5 m ρ c main_v4 = shapeCast S1x12800 (W4 m ρ c (Proc.devRef .tc main_arg2)) shapeCasts_S12800_S1x12800 := by
    show StableHlo.after hostOps2_2 (W4 m ρ c) (Proc.devRef .tc main_v4) = _
    after_results
    rfl
  rw [e, W4_args m ρ c main_arg2 (by decide)]
  pointwise

/-- The tokens the norm reads are the argument's: the padding lies below the last token. -/
theorem patch_pad (r : Fin 10752) : patch (R := 1088) (by decide) (V5 m ρ c main_v2) r = patch le_rfl (m ((c : Thread nD τ).loc main_arg0)) r := by
  have e : V5 m ρ c main_v2 = pad S42x1088x3200 ![0, 0, 0] ![0, 63, 0] ![0, 0, 0] (W3 m ρ c (Proc.devRef .tc main_arg0))
      (sitofp (F := Ideal) .bf16 (W3 m ρ c (Proc.devRef .tc main_c))) pads_S42x1025x3200_S42x1088x3200_000_0630_000 h_S_ := by
    refine (W5_of m ρ c main_v2 (by decide +kernel)).trans ?_
    show StableHlo.after hostOps2_1 (W3 m ρ c) (Proc.devRef .tc main_v2) = _
    after_results
    rfl
  rw [e, W3_args m ρ c main_arg0 (by decide)]
  generalize (sitofp (F := Ideal) .bf16 (W3 m ρ c (Proc.devRef .tc main_c)) : FVec Ideal S_ .bf16) = v
  funext k
  unfold patch
  pointwise
  refine dif_pos fun a => ?_
  match a with
  | ⟨0, _⟩ =>
    show 0 ≤ r.val / 256 ∧ (r.val / 256 - 0) % (0 + 1) = 0 ∧ (r.val / 256 - 0) / (0 + 1) < 42
    omega
  | ⟨1, _⟩ =>
    show 0 ≤ 1 + 64 * (r.val / 16 % 16) + 32 * (k.val / 6400) + 2 * (r.val % 16) + k.val / 3200 % 2
      ∧ (1 + 64 * (r.val / 16 % 16) + 32 * (k.val / 6400) + 2 * (r.val % 16) + k.val / 3200 % 2 - 0) % (0 + 1) = 0
      ∧ (1 + 64 * (r.val / 16 % 16) + 32 * (k.val / 6400) + 2 * (r.val % 16) + k.val / 3200 % 2 - 0) / (0 + 1) < 1025
    omega
  | ⟨2, _⟩ =>
    show 0 ≤ k.val % 3200 ∧ (k.val % 3200 - 0) % (0 + 1) = 0 ∧ (k.val % 3200 - 0) / (0 + 1) < 3200
    omega

/-! ## The calls -/

/-- What the launch memory holds at the kernel's arguments, as the connector takes it. -/
def visOf : Mat 10752 5120 :=
  vis (m ((c : Thread nD τ).loc main_arg0)) (fun n => m ((c : Thread nD τ).loc main_arg1) (ix1 n)) (fun n => m ((c : Thread nD τ).loc main_arg2) (ix1 n))
    (m ((c : Thread nD τ).loc main_arg3)) (m ((c : Thread nD τ).loc main_arg4)) (m ((c : Thread nD τ).loc main_arg5))
    (fun n => m ((c : Thread nD τ).loc main_arg6) (ix1 n))
    (m ((c : Thread nD τ).loc main_arg7)) (m ((c : Thread nD τ).loc main_arg8)) (m ((c : Thread nD τ).loc main_arg9))
    (fun n => m ((c : Thread nD τ).loc main_arg10) (ix1 n))

/-- The first weights, at the first product. -/
theorem at_w1 : V7 m ρ c main_v0 = deq (K := 12800) (G := 100) rfl (m ((c : Thread nD τ).loc main_arg3)) (m ((c : Thread nD τ).loc main_arg4))
    (m ((c : Thread nD τ).loc main_arg5)) := by
  refine (W7_of m ρ c main_v0 (by decide +kernel)).trans ?_
  refine (W6_of m ρ c main_v0 (by decide +kernel)).trans ?_
  refine (W5_of m ρ c main_v0 (by decide +kernel)).trans ?_
  refine (W4_of m ρ c main_v0 (by decide +kernel)).trans ?_
  refine (W3_of m ρ c main_v0 (by decide +kernel)).trans ?_
  refine (W2_of m ρ c main_v0 (by decide +kernel)).trans ?_
  refine (W1_arr m ρ c 3).trans ?_
  exact arrW1 (V0 m ρ) c

/-- The second weights, at the second product. -/
theorem at_w2 : V9 m ρ c main_v1 = deq (K := 5120) (G := 40) rfl (m ((c : Thread nD τ).loc main_arg7)) (m ((c : Thread nD τ).loc main_arg8))
    (m ((c : Thread nD τ).loc main_arg9)) := by
  refine (W9_of m ρ c main_v1 (by decide +kernel)).trans ?_
  refine (W8_of m ρ c main_v1 (by decide +kernel)).trans ?_
  refine (W7_of m ρ c main_v1 (by decide +kernel)).trans ?_
  refine (W6_of m ρ c main_v1 (by decide +kernel)).trans ?_
  refine (W5_of m ρ c main_v1 (by decide +kernel)).trans ?_
  refine (W4_of m ρ c main_v1 (by decide +kernel)).trans ?_
  refine (W3_of m ρ c main_v1 (by decide +kernel)).trans ?_
  refine (W2_arr m ρ c 3).trans ?_
  refine (arrW2 (V1 m ρ) c).trans ?_
  rw [show V1 m ρ c main_arg7 = _ from W1_args m ρ c main_arg7 (by decide), show V1 m ρ c main_arg8 = _ from W1_args m ρ c main_arg8 (by decide),
    show V1 m ρ c main_arg9 = _ from W1_args m ρ c main_arg9 (by decide)]

/-- The normed rows, at the first product. -/
theorem at_norm : V7 m ρ c main_v5 = fun i => layerNorm (patch le_rfl (m ((c : Thread nD τ).loc main_arg0)) (i 0))
    (fun n => m ((c : Thread nD τ).loc main_arg1) (ix1 n)) (fun n => m ((c : Thread nD τ).loc main_arg2) (ix1 n)) (i 1) := by
  refine (W7_of m ρ c main_v5 (by decide +kernel)).trans ?_
  refine (W6_arr m ρ c 4).trans ?_
  refine (arrN (V5 m ρ) c).trans ?_
  have h : ∀ (r : Fin 10752) (k : Fin 12800),
      layerNorm (patch (R := 1088) (by decide) (V5 m ρ c main_v2) r) (fun k => V5 m ρ c main_v3 (ix2 0 k)) (fun k => V5 m ρ c main_v4 (ix2 0 k)) k
      = layerNorm (patch le_rfl (m ((c : Thread nD τ).loc main_arg0)) r)
        (fun n => m ((c : Thread nD τ).loc main_arg1) (ix1 n)) (fun n => m ((c : Thread nD τ).loc main_arg2) (ix1 n)) k := fun r k => by
    rw [patch_pad, funext (row_g m ρ c), funext (row_b m ρ c)]
  exact funext fun i => h (i 0) (i 1)

/-- The first layer, at the second product. -/
theorem at_hidden : V9 m ρ c main_v7 = fun i => gelu (lin (M := 10752) (K := 12800) (N := 5120)
      (fun i => layerNorm (patch le_rfl (m ((c : Thread nD τ).loc main_arg0)) (i 0))
        (fun n => m ((c : Thread nD τ).loc main_arg1) (ix1 n)) (fun n => m ((c : Thread nD τ).loc main_arg2) (ix1 n)) (i 1))
      (deq (K := 12800) (G := 100) rfl (m ((c : Thread nD τ).loc main_arg3)) (m ((c : Thread nD τ).loc main_arg4)) (m ((c : Thread nD τ).loc main_arg5)))
      (fun n => m ((c : Thread nD τ).loc main_arg6) (ix1 n)) i) := by
  refine (W9_of m ρ c main_v7 (by decide +kernel)).trans ?_
  refine (W8_arr m ρ c 3).trans ?_
  refine (arr1 (V7 m ρ) c).trans ?_
  rw [at_norm, at_w1, funext (row_b1 m ρ c)]
  rfl

/-- THE KERNEL'S RESULT. -/
theorem result : (dat4 (V9 m ρ) c).arrAt 3 cfg4.N = visOf m c := by
  refine (arr2 (V9 m ρ) c).trans ?_
  rw [at_hidden, at_w2, funext (row_b2 m ρ c)]
  rfl

end Cert.Awq.Kernel
-- ==== Proof.RefWeights.lean ====
/- Hand-written: THE REFERENCE'S WEIGHTS. Every packed column unpacked by its shift, its group's zero point taken off and its
   group's scale applied. -/
module

public import proofs.«01_k».proof.Proof.Gen.VisRefIdeal.Read
public import proofs.«01_k».proof.Proof.Spec
public import Idealize.ShloMosaic.Lib.Pointwise

@[expose] public section

set_option maxRecDepth 16384

noncomputable section

namespace Cert.Awq.Reference

open Cert.VisRefIdeal Cert.VisRefIdeal.Read
open Idealize.ShloMosaic Idealize.ShloMosaic.TcCoe

/-- The first weights' packed columns, unpacked. -/
theorem cols1 (q : Words 12800 640) (r : Fin 12800) (w : Fin 640) (c : Fin 8) :
    val_main_v68 (F := Ideal) q (ix3 r w c) = (q (ix2 r w)).sshiftRight (shift c.val) &&& 15#32 := by
  unfold val_main_v68
  pointwise [val_main_c, val_main_v28, val_main_v29, val_main_c_4, val_main_v30, val_main_v31, val_main_c_5, val_main_v32, val_main_v33, val_main_c_6,
    val_main_v34, val_main_v35, val_main_c_7, val_main_v36, val_main_v37, val_main_c_8, val_main_v38, val_main_v39, val_main_c_9, val_main_v40,
    val_main_v41, val_main_c_10, val_main_v42, val_main_v43, val_main_c_11, val_main_v44, val_main_v45, val_main_c_12, val_main_v46, val_main_v47,
    val_main_c_13, val_main_v48, val_main_v49, val_main_c_14, val_main_v50, val_main_v51, val_main_c_15, val_main_v52, val_main_v53, val_main_c_16,
    val_main_v54, val_main_v55, val_main_c_17, val_main_v56, val_main_v57, val_main_c_18, val_main_v58, val_main_v59, val_main_v60, val_main_v61,
    val_main_v62, val_main_v63, val_main_v64, val_main_v65, val_main_v66, val_main_v67]
  fin_cases c <;> rfl

/-- The first zero points', unpacked. -/
theorem zcols1 (q : Words 100 640) (r : Fin 100) (w : Fin 640) (c : Fin 8) :
    val_main_v112 (F := Ideal) q (ix3 r w c) = (q (ix2 r w)).sshiftRight (shift c.val) &&& 15#32 := by
  unfold val_main_v112
  pointwise [val_main_c_19, val_main_v72, val_main_v73, val_main_c_20, val_main_v74, val_main_v75, val_main_c_21, val_main_v76, val_main_v77, val_main_c_22,
    val_main_v78, val_main_v79, val_main_c_23, val_main_v80, val_main_v81, val_main_c_24, val_main_v82, val_main_v83, val_main_c_25, val_main_v84,
    val_main_v85, val_main_c_26, val_main_v86, val_main_v87, val_main_c_27, val_main_v88, val_main_v89, val_main_c_28, val_main_v90, val_main_v91,
    val_main_c_29, val_main_v92, val_main_v93, val_main_c_30, val_main_v94, val_main_v95, val_main_c_31, val_main_v96, val_main_v97, val_main_c_32,
    val_main_v98, val_main_v99, val_main_c_33, val_main_v100, val_main_v101, val_main_c_34, val_main_v102, val_main_v103, val_main_v104,
    val_main_v105, val_main_v106, val_main_v107, val_main_v108, val_main_v109, val_main_v110, val_main_v111]
  fin_cases c <;> rfl

/-- The second weights'. -/
theorem cols2 (q : Words 5120 640) (r : Fin 5120) (w : Fin 640) (c : Fin 8) :
    val_main_v175 (F := Ideal) q (ix3 r w c) = (q (ix2 r w)).sshiftRight (shift c.val) &&& 15#32 := by
  unfold val_main_v175
  pointwise [val_main_c_37, val_main_v135, val_main_v136, val_main_c_38, val_main_v137, val_main_v138, val_main_c_39, val_main_v139, val_main_v140, val_main_c_40,
    val_main_v141, val_main_v142, val_main_c_41, val_main_v143, val_main_v144, val_main_c_42, val_main_v145, val_main_v146, val_main_c_43,
    val_main_v147, val_main_v148, val_main_c_44, val_main_v149, val_main_v150, val_main_c_45, val_main_v151, val_main_v152, val_main_c_46,
    val_main_v153, val_main_v154, val_main_c_47, val_main_v155, val_main_v156, val_main_c_48, val_main_v157, val_main_v158, val_main_c_49,
    val_main_v159, val_main_v160, val_main_c_50, val_main_v161, val_main_v162, val_main_c_51, val_main_v163, val_main_v164, val_main_c_52,
    val_main_v165, val_main_v166, val_main_v167, val_main_v168, val_main_v169, val_main_v170, val_main_v171, val_main_v172, val_main_v173,
    val_main_v174]
  fin_cases c <;> rfl

/-- The second zero points'. -/
theorem zcols2 (q : Words 40 640) (r : Fin 40) (w : Fin 640) (c : Fin 8) :
    val_main_v219 (F := Ideal) q (ix3 r w c) = (q (ix2 r w)).sshiftRight (shift c.val) &&& 15#32 := by
  unfold val_main_v219
  pointwise [val_main_c_53, val_main_v179, val_main_v180, val_main_c_54, val_main_v181, val_main_v182, val_main_c_55, val_main_v183, val_main_v184, val_main_c_56,
    val_main_v185, val_main_v186, val_main_c_57, val_main_v187, val_main_v188, val_main_c_58, val_main_v189, val_main_v190, val_main_c_59,
    val_main_v191, val_main_v192, val_main_c_60, val_main_v193, val_main_v194, val_main_c_61, val_main_v195, val_main_v196, val_main_c_62,
    val_main_v197, val_main_v198, val_main_c_63, val_main_v199, val_main_v200, val_main_c_64, val_main_v201, val_main_v202, val_main_c_65,
    val_main_v203, val_main_v204, val_main_c_66, val_main_v205, val_main_v206, val_main_c_67, val_main_v207, val_main_v208, val_main_c_68,
    val_main_v209, val_main_v210, val_main_v211, val_main_v212, val_main_v213, val_main_v214, val_main_v215, val_main_v216, val_main_v217,
    val_main_v218]
  fin_cases c <;> rfl

/-- The bits a column takes out of a word, shifted with the sign or without it. -/
theorem nib_sshift (x : BitVec 32) (c : ℕ) (h : c < 8) : ((((x.sshiftRight (shift c) &&& 15#32).toInt : ℝ)) : EReal) = nib x c := by
  unfold nib
  congr 3
  have hs : shift c + 3 < 32 := by interval_cases c <;> decide
  refine BitVec.eq_of_getLsbD_eq fun i hi => ?_
  rw [BitVec.getLsbD_and, BitVec.getLsbD_and, BitVec.getLsbD_sshiftRight, BitVec.getLsbD_ushiftRight]
  by_cases h4 : i < 4
  · have : shift c + i < 32 := by omega
    have h32 : ¬ 32 ≤ i := by omega
    simp [this, h32]
  · have : BitVec.getLsbD 15#32 i = false := by
      interval_cases i <;> first | omega | rfl
    rw [this, Bool.and_false, Bool.and_false]

/-- The first weight matrix. -/
theorem weights1 (q : Words 12800 640) (s : Mat 100 5120) (z : Words 100 640) : val_main_v122 (F := Ideal) q s z = deq rfl q s z := by
  funext i
  obtain ⟨r, n, rfl⟩ : ∃ (r : Fin 12800) (n : Fin 5120), i = ix2 r n := ⟨i 0, i 1, eq_ix2 i⟩
  pointwise [val_main_v122, val_main_v121, val_main_v120, val_main_v119, val_main_v118, val_main_v117, val_main_v116, val_main_v115, val_main_v114,
    val_main_v113, val_main_v71, val_main_v70, val_main_v69]
  rw [cols1, zcols1]
  exact congrArg₂ (· * ·) (congrArg₂ (· - ·) (nib_sshift _ (n.val % 8) (by omega)) (nib_sshift _ (n.val % 8) (by omega))) rfl

/-- The second weight matrix. -/
theorem weights2 (q : Words 5120 640) (s : Mat 40 5120) (z : Words 40 640) : val_main_v229 (F := Ideal) q s z = deq rfl q s z := by
  funext i
  obtain ⟨r, n, rfl⟩ : ∃ (r : Fin 5120) (n : Fin 5120), i = ix2 r n := ⟨i 0, i 1, eq_ix2 i⟩
  pointwise [val_main_v229, val_main_v228, val_main_v227, val_main_v226, val_main_v225, val_main_v224, val_main_v223, val_main_v222, val_main_v221,
    val_main_v220, val_main_v178, val_main_v177, val_main_v176]
  rw [cols2, zcols2]
  exact congrArg₂ (· * ·) (congrArg₂ (· - ·) (nib_sshift _ (n.val % 8) (by omega)) (nib_sshift _ (n.val % 8) (by omega))) rfl

end Cert.Awq.Reference
-- ==== Proof.RefNorm.lean ====
/- Hand-written: THE REFERENCE'S LAYER NORM. The rows it shuffles the pixels into, and each row normed. -/
module

public import proofs.«01_k».proof.Proof.Gen.VisRefIdeal.Read
public import proofs.«01_k».proof.Proof.Spec
public import Idealize.ShloMosaic.Lib.Pointwise

@[expose] public section

set_option maxRecDepth 16384

noncomputable section

namespace Cert.Awq.Reference

open Cert.VisRefIdeal Cert.VisRefIdeal.Read
open Idealize.ShloMosaic Idealize.ShloMosaic.TcCoe

variable (x : (⟨3, ![42, 1025, 3200]⟩ : Shape).Idx → EReal) (g b : (⟨1, ![12800]⟩ : Shape).Idx → EReal)

theorem shuffled (r : Fin 10752) (k : Fin 12800) : val_main_v4 (F := Ideal) x (ix2 r k) = patch le_rfl x r k := by
  pointwise [val_main_v4, val_main_v3, val_main_v2, val_main_v1, val_main_v0]
  unfold patch
  refine congrArg x (congrArg (fun t => ix3 _ t _) (Fin.ext ?_))
  show 1 + (r.val / 16 % 16 * 64 + k.val / 6400 * 32 + r.val % 16 * 2 + k.val / 3200 % 2)
    = 1 + 64 * (r.val / 16 % 16) + 32 * (k.val / 6400) + 2 * (r.val % 16) + k.val / 3200 % 2
  omega

/-- A row's mean is its sum over 12800. -/
theorem div_12800 (a : EReal) : Ideal.div a (Ideal.ofBits .f32 1179123712#32) = a * ((1 / 12800 : ℝ) : EReal) := by
  have e : Ideal.ofBits .f32 1179123712#32 = ((12800 : ℝ) : EReal) := by
    simp [Ideal.ofBits, Ideal.ieee, -EReal.coe_mul]
    norm_num
  rw [e, Ideal.div_coe (by norm_num)]

theorem normed (r : Fin 10752) (k : Fin 12800) : val_main_v27 (F := Ideal) x g b (ix2 r k)
    = layerNorm (patch le_rfl x r) (fun n => g (ix1 n)) (fun n => b (ix1 n)) k := by
  pointwise [val_main_v27, val_main_v26, val_main_v25, val_main_v24, val_main_v23, val_main_v22, val_main_v21, val_main_v20, val_main_v19, val_main_v18,
    val_main_v17, val_main_v16, val_main_cst_3, val_main_v15, val_main_v14, val_main_cst_2, val_main_v13, val_main_v12, val_main_cst_1, val_main_v11,
    val_main_v10, val_main_v9, val_main_v8, val_main_v7, val_main_cst_0, val_main_v6, val_main_v5, val_main_cst]
  simp only [shuffled, div_12800]
  rfl

end Cert.Awq.Reference
-- ==== Proof.RefResult.lean ====
/- Hand-written: WHAT THE REFERENCE COMPUTES. Its result is the connector of its arguments. -/
module

public import proofs.«01_k».proof.Proof.RefWeights
public import proofs.«01_k».proof.Proof.RefNorm

@[expose] public section

set_option maxRecDepth 16384

noncomputable section

namespace Cert.Awq.Reference

open Cert.VisRefIdeal Cert.VisRefIdeal.Read
open Idealize.ShloMosaic Idealize.ShloMosaic.TcCoe

variable (x : (⟨3, ![42, 1025, 3200]⟩ : Shape).Idx → EReal) (g b : (⟨1, ![12800]⟩ : Shape).Idx → EReal)
  (q1 : Words 12800 640) (s1 : Mat 100 5120) (z1 : Words 100 640) (b1 : (⟨1, ![5120]⟩ : Shape).Idx → EReal)
  (q2 : Words 5120 640) (s2 : Mat 40 5120) (z2 : Words 40 640) (b2 : (⟨1, ![5120]⟩ : Shape).Idx → EReal)

/-- The first layer. -/
theorem hidden (r : Fin 10752) (n : Fin 5120) : val_main_v134 (F := Ideal) x g b q1 s1 z1 b1 (ix2 r n)
    = gelu (lin (M := 10752) (K := 12800) (N := 5120) (fun i => layerNorm (patch le_rfl x (i 0)) (fun n => g (ix1 n)) (fun n => b (ix1 n)) (i 1))
        (deq (K := 12800) (G := 100) rfl q1 s1 z1) (fun n => b1 (ix1 n)) (ix2 r n)) := by
  rw [← gelu_erfc]
  pointwise [val_main_v134, val_main_v133, val_main_v132, val_main_v131, val_main_v130, val_main_v129, val_main_v128, val_main_v127, val_main_v126,
    val_main_v125, val_main_v124, val_main_v123, val_main_cst_35, val_main_cst_36]
  simp only [normed, weights1]
  rfl

/-- THE REFERENCE'S RESULT. -/
theorem result : val_main_v233 (F := Ideal) x g b q1 s1 z1 b1 q2 s2 z2 b2
    = vis x (fun n => g (ix1 n)) (fun n => b (ix1 n)) q1 s1 z1 (fun n => b1 (ix1 n)) q2 s2 z2 (fun n => b2 (ix1 n)) := by
  funext i
  obtain ⟨r, n, rfl⟩ : ∃ (r : Fin 10752) (n : Fin 5120), i = ix2 r n := ⟨i 0, i 1, eq_ix2 i⟩
  pointwise [val_main_v233, val_main_v232, val_main_v231, val_main_v230]
  simp only [hidden, weights2]
  rfl

end Cert.Awq.Reference
-- ==== Proof.lean ====
module

public import proofs.«01_k».proof.Defs
public import proofs.«01_k».proof.Proof.Gen.Vis
public import proofs.«01_k».proof.Proof.Gen.Vis.Skeleton
public import proofs.«01_k».proof.Proof.Gen.Vis.Loops
public import proofs.«01_k».proof.Proof.Gen.Vis.Launch
public import proofs.«01_k».proof.Proof.Gen.Vis.Points
public import proofs.«01_k».proof.Proof.Gen.Vis.Frame
public import proofs.«01_k».proof.Proof.Gen.VisIdeal
public import proofs.«01_k».proof.Proof.Gen.VisIdeal.Skeleton
public import proofs.«01_k».proof.Proof.Gen.VisIdeal.Loops
public import proofs.«01_k».proof.Proof.Gen.VisIdeal.Launch
public import proofs.«01_k».proof.Proof.Gen.VisIdeal.Points
public import proofs.«01_k».proof.Proof.Gen.VisIdeal.Frame
public import proofs.«01_k».proof.Proof.Gen.VisRefIdeal
public import proofs.«01_k».proof.Proof.Gen.VisRefIdeal.Run
public import proofs.«01_k».proof.Proof.Gen.VisRefIdeal.Read
public import proofs.«01_k».proof.Proof.Gen.AsmIdeal
public import proofs.«01_k».proof.Proof.Gen.AsmIdeal.Skeleton
public import proofs.«01_k».proof.Proof.Gen.AsmIdeal.Loops
public import proofs.«01_k».proof.Proof.Gen.AsmIdeal.Launch
public import proofs.«01_k».proof.Proof.Gen.Asm
public import proofs.«01_k».proof.Proof.Gen.Pre_text_tokens_in_table
public import proofs.«01_k».proof.Proof.AsmFrames
public import proofs.«01_k».proof.Proof.VisRun
public import proofs.«01_k».proof.Proof.Compose
public import proofs.«01_k».proof.Proof.RefResult
public import Idealize.ShloMosaic.Lib.Bf16Pair
public import Idealize.ShloMosaic.Adequacy
public import Idealize.ShloMosaic.Init

@[expose] public section

set_option maxRecDepth 16384

noncomputable section

namespace Cert.Proof

open Idealize.ShloMosaic Idealize.ShloMosaic.StableHlo Idealize.ShloMosaic.TcCoe Idealize.SL.Sem

/-- The reference ends with the connector of its arguments. -/
theorem ref_run (m : (ℓ : Loc Cert.VisRefIdeal.nD Cert.VisRefIdeal.τ Cert.VisRefIdeal.sig) → Buf (Elt Ideal) ℓ) (c : Dev Cert.VisRefIdeal.nD) :
    Cert.VisRefIdeal.Read.val_main_v233 (F := Ideal) (launchContents m c (Proc.devRef .tc Cert.VisRefIdeal.main_arg0))
      (launchContents m c (Proc.devRef .tc Cert.VisRefIdeal.main_arg1)) (launchContents m c (Proc.devRef .tc Cert.VisRefIdeal.main_arg2))
      (launchContents m c (Proc.devRef .tc Cert.VisRefIdeal.main_arg3)) (launchContents m c (Proc.devRef .tc Cert.VisRefIdeal.main_arg4))
      (launchContents m c (Proc.devRef .tc Cert.VisRefIdeal.main_arg5)) (launchContents m c (Proc.devRef .tc Cert.VisRefIdeal.main_arg6))
      (launchContents m c (Proc.devRef .tc Cert.VisRefIdeal.main_arg7)) (launchContents m c (Proc.devRef .tc Cert.VisRefIdeal.main_arg8))
      (launchContents m c (Proc.devRef .tc Cert.VisRefIdeal.main_arg9)) (launchContents m c (Proc.devRef .tc Cert.VisRefIdeal.main_arg10))
    = Cert.Awq.vis (m ((c.tc : Thread Cert.VisRefIdeal.nD Cert.VisRefIdeal.τ).loc Cert.VisRefIdeal.main_arg0))
      (fun n => m ((c.tc : Thread Cert.VisRefIdeal.nD Cert.VisRefIdeal.τ).loc Cert.VisRefIdeal.main_arg1) (ix1 n))
      (fun n => m ((c.tc : Thread Cert.VisRefIdeal.nD Cert.VisRefIdeal.τ).loc Cert.VisRefIdeal.main_arg2) (ix1 n))
      (m ((c.tc : Thread Cert.VisRefIdeal.nD Cert.VisRefIdeal.τ).loc Cert.VisRefIdeal.main_arg3))
      (m ((c.tc : Thread Cert.VisRefIdeal.nD Cert.VisRefIdeal.τ).loc Cert.VisRefIdeal.main_arg4))
      (m ((c.tc : Thread Cert.VisRefIdeal.nD Cert.VisRefIdeal.τ).loc Cert.VisRefIdeal.main_arg5))
      (fun n => m ((c.tc : Thread Cert.VisRefIdeal.nD Cert.VisRefIdeal.τ).loc Cert.VisRefIdeal.main_arg6) (ix1 n))
      (m ((c.tc : Thread Cert.VisRefIdeal.nD Cert.VisRefIdeal.τ).loc Cert.VisRefIdeal.main_arg7))
      (m ((c.tc : Thread Cert.VisRefIdeal.nD Cert.VisRefIdeal.τ).loc Cert.VisRefIdeal.main_arg8))
      (m ((c.tc : Thread Cert.VisRefIdeal.nD Cert.VisRefIdeal.τ).loc Cert.VisRefIdeal.main_arg9))
      (fun n => m ((c.tc : Thread Cert.VisRefIdeal.nD Cert.VisRefIdeal.τ).loc Cert.VisRefIdeal.main_arg10) (ix1 n)) :=
  Cert.Awq.Reference.result _ _ _ _ _ _ _ _ _ _ _

/-- Over the extended reals the kernel and the reference end with the same projected rows. -/
theorem algebraic : Cert.algebraic_VisIdeal_VisRefIdeal (hVisIdeal := Cert.VisIdeal.Gen.facts) (hVisRefIdeal := Cert.VisRefIdeal.Gen.facts) := by
  intro m ρ m' ρ' _ hag
  refine ⟨fun c => Cert.Awq.Kernel.visOf m c, ?_, ?_⟩
  · exact (θ_run Cert.VisIdeal.defs _ _).mono (fun r h c => ⟨(h.1 c).1.trans (Cert.Awq.Kernel.result m ρ c), (h.1 c).2⟩)
      (Cert.Awq.Kernel.run (F := Ideal) m ρ)
  · refine (θ_run Cert.VisRefIdeal.defs _ _).mono (fun r h c => ⟨?_, (h c).2⟩) (Cert.VisRefIdeal.Value.run (F := Ideal) m' ρ')
    refine (h c).1.trans ((Cert.VisRefIdeal.Read.val_main_v233_eq (launchContents m' c)).trans ((ref_run m' c).trans ?_))
    obtain ⟨a0, a1, a2, a3, a4, a5, a6, a7, a8, a9, a10⟩ := hag c
    rw [a0, a1, a2, a3, a4, a5, a6, a7, a8, a9, a10]
    rfl

theorem claim : Cert.Claim := ⟨Cert.Vis.Gen.facts, Cert.VisIdeal.Gen.facts, Cert.VisRefIdeal.Gen.facts,
  Cert.AsmIdeal.Gen.facts, Cert.Asm.Gen.facts, Cert.Pre_text_tokens_in_table.Gen.facts,
  fun m ρ _ => Cert.Vis.Gen.frame m ρ,
  fun m ρ _ => Cert.VisIdeal.Gen.frame m ρ,
  fun m ρ _ => (θ_run Cert.VisRefIdeal.defs _ _).mono (fun r h => ⟨fun c => (h c).2, sem_eq_zero_of_no_sems (by decide) r.2⟩)
    (Cert.VisRefIdeal.Value.run (F := Ideal) m ρ),
  Cert.AsmFrames.ideal,
  Cert.AsmFrames.bits,
  ⟨IdealRules.bf16_pair.statement Cert.VisIdeal.S64x3200 Cert.VisIdeal.S32x3200,
    IdealRules.named_const.statement Cert.VisIdeal.κ "inv_k1" .f32 0x38A3D70A#32 ((1 / 12800 : ℝ) : EReal) rfl⟩,
  algebraic,
  IdealRules.named_const.statement Cert.AsmIdeal.κ "inv_d" .f32 0x394CCCCD#32 ((1 / 5120 : ℝ) : EReal) rfl⟩

end Cert.Proof

end
